-- ==== Defs.lean ====
def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4)
      ∧ r.2.mem ((c.tc : Thread Cert.Logits.nD Cert.Logits.τ).loc Cert.Logits.main_arg5) = m ((c.tc : Thread Cert.Logits.nD Cert.Logits.τ).loc Cert.Logits.main_arg5)
      ∧ r.2.mem ((c.tc : Thread Cert.Logits.nD Cert.Logits.τ).loc Cert.Logits.main_arg6) = m ((c.tc : Thread Cert.Logits.nD Cert.Logits.τ).loc Cert.Logits.main_arg6)
      ∧ r.2.mem ((c.tc : Thread Cert.Logits.nD Cert.Logits.τ).loc Cert.Logits.main_arg7) = m ((c.tc : Thread Cert.Logits.nD Cert.Logits.τ).loc Cert.Logits.main_arg7))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
      ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
      ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6)
      ∧ r.2.mem ((c.tc : Thread Cert.ReferenceLossIdeal.nD Cert.ReferenceLossIdeal.τ).loc Cert.ReferenceLossIdeal.main_arg7) = m ((c.tc : Thread Cert.ReferenceLossIdeal.nD Cert.ReferenceLossIdeal.τ).loc Cert.ReferenceLossIdeal.main_arg7)
      ∧ r.2.mem ((c.tc : Thread Cert.ReferenceLossIdeal.nD Cert.ReferenceLossIdeal.τ).loc Cert.ReferenceLossIdeal.main_arg8) = m ((c.tc : Thread Cert.ReferenceLossIdeal.nD Cert.ReferenceLossIdeal.τ).loc Cert.ReferenceLossIdeal.main_arg8)
      ∧ r.2.mem ((c.tc : Thread Cert.ReferenceLossIdeal.nD Cert.ReferenceLossIdeal.τ).loc Cert.ReferenceLossIdeal.main_arg9) = m ((c.tc : Thread Cert.ReferenceLossIdeal.nD Cert.ReferenceLossIdeal.τ).loc Cert.ReferenceLossIdeal.main_arg9))
      ∧ r.2.sem = fun _ => 0)

def preserves_Logits_LogitsIdeal : Prop :=
  IdealRules.named_const.Statement Cert.LogitsIdeal.κ "minus_inf" .f32 0xF149F2CA#32 ⊥
  ∧ IdealRules.named_const.Statement Cert.LogitsIdeal.κ "half_log2e" .f32 0x3F38AA3B#32 ((((Real.log 2) * 2)⁻¹ : ℝ) : EReal)
  ∧ IdealRules.named_const.Statement Cert.LogitsIdeal.κ "log2e" .f32 0x3FB8AA3B#32 (((Real.log 2)⁻¹ : ℝ) : EReal)

def algebraic_LogitsIdeal_ReferenceIdeal [hLogitsIdeal : Cert.LogitsIdeal.Facts] [hReferenceIdeal : Cert.ReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_LogitsIdeal m →
    (∀ c : Dev Cert.LogitsIdeal.nD,
      m' ((c.tc : Thread Cert.ReferenceIdeal.nD Cert.ReferenceIdeal.τ).loc Cert.ReferenceIdeal.main_arg0) = m ((c.tc : Thread Cert.LogitsIdeal.nD Cert.LogitsIdeal.τ).loc Cert.LogitsIdeal.main_arg0)
      ∧ m' ((c.tc : Thread Cert.ReferenceIdeal.nD Cert.ReferenceIdeal.τ).loc Cert.ReferenceIdeal.main_arg1) = m ((c.tc : Thread Cert.LogitsIdeal.nD Cert.LogitsIdeal.τ).loc Cert.LogitsIdeal.main_arg1)
      ∧ m' ((c.tc : Thread Cert.ReferenceIdeal.nD Cert.ReferenceIdeal.τ).loc Cert.ReferenceIdeal.main_arg2) = m ((c.tc : Thread Cert.LogitsIdeal.nD Cert.LogitsIdeal.τ).loc Cert.LogitsIdeal.main_arg2)
      ∧ m' ((c.tc : Thread Cert.ReferenceIdeal.nD Cert.ReferenceIdeal.τ).loc Cert.ReferenceIdeal.main_arg3) = m ((c.tc : Thread Cert.LogitsIdeal.nD Cert.LogitsIdeal.τ).loc Cert.LogitsIdeal.main_arg3)
      ∧ m' ((c.tc : Thread Cert.ReferenceIdeal.nD Cert.ReferenceIdeal.τ).loc Cert.ReferenceIdeal.main_arg4) = m ((c.tc : Thread Cert.LogitsIdeal.nD Cert.LogitsIdeal.τ).loc Cert.LogitsIdeal.main_arg4)
      ∧ m' ((c.tc : Thread Cert.ReferenceIdeal.nD Cert.ReferenceIdeal.τ).loc Cert.ReferenceIdeal.main_arg5) = m ((c.tc : Thread Cert.LogitsIdeal.nD Cert.LogitsIdeal.τ).loc Cert.LogitsIdeal.main_arg5)
      ∧ m' ((c.tc : Thread Cert.ReferenceIdeal.nD Cert.ReferenceIdeal.τ).loc Cert.ReferenceIdeal.main_arg6) = m ((c.tc : Thread Cert.LogitsIdeal.nD Cert.LogitsIdeal.τ).loc Cert.LogitsIdeal.main_arg6)
      ∧ m' ((c.tc : Thread Cert.ReferenceIdeal.nD Cert.ReferenceIdeal.τ).loc Cert.ReferenceIdeal.main_arg7) = m ((c.tc : Thread Cert.LogitsIdeal.nD Cert.LogitsIdeal.τ).loc Cert.LogitsIdeal.main_arg7)) →
    ∃ (v0 : (c : Dev Cert.LogitsIdeal.nD) → Buf (Elt Ideal) ((c.tc : Thread Cert.LogitsIdeal.nD Cert.LogitsIdeal.τ).loc Cert.LogitsIdeal.main_v4_0)) (v1 : (c : Dev Cert.LogitsIdeal.nD) → Buf (Elt Ideal) ((c.tc : Thread Cert.LogitsIdeal.nD Cert.LogitsIdeal.τ).loc Cert.LogitsIdeal.main_v4_1)) (v2 : (c : Dev Cert.LogitsIdeal.nD) → Buf (Elt Ideal) ((c.tc : Thread Cert.LogitsIdeal.nD Cert.LogitsIdeal.τ).loc Cert.LogitsIdeal.main_v4_2)) (v3 : (c : Dev Cert.LogitsIdeal.nD) → Buf (Elt Ideal) ((c.tc : Thread Cert.LogitsIdeal.nD Cert.LogitsIdeal.τ).loc Cert.LogitsIdeal.main_v4_3)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v4_0) = v0 c
          ∧ r.2.mem ((c.tc : Thread Cert.LogitsIdeal.nD Cert.LogitsIdeal.τ).loc Cert.LogitsIdeal.main_v4_1) = v1 c
          ∧ r.2.mem ((c.tc : Thread Cert.LogitsIdeal.nD Cert.LogitsIdeal.τ).loc Cert.LogitsIdeal.main_v4_2) = v2 c
          ∧ r.2.mem ((c.tc : Thread Cert.LogitsIdeal.nD Cert.LogitsIdeal.τ).loc Cert.LogitsIdeal.main_v4_3) = v3 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
          ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
          ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
          ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Grad_GradIdeal : Prop :=
  IdealRules.named_const.Statement Cert.GradIdeal.κ "log2_three_quarters" .f32 0xBED47FCC#32 (((Real.log (3 / 4)) * (Real.log 2)⁻¹ : ℝ) : EReal)
  ∧ IdealRules.named_const.Statement Cert.GradIdeal.κ "log2e" .f32 0x3FB8AA3B#32 (((Real.log 2)⁻¹ : ℝ) : EReal)
  ∧ IdealRules.named_const.Statement Cert.GradIdeal.κ "ln2" .f32 0x3F317218#32 ((Real.log 2 : ℝ) : EReal)

def algebraic_GradIdeal_ReferenceLossIdeal [hGradIdeal : Cert.GradIdeal.Facts] [hReferenceLossIdeal : Cert.ReferenceLossIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_GradIdeal m →
    (∀ c : Dev Cert.GradIdeal.nD,
      m' ((c.tc : Thread Cert.ReferenceLossIdeal.nD Cert.ReferenceLossIdeal.τ).loc Cert.ReferenceLossIdeal.main_arg0) = m ((c.tc : Thread Cert.GradIdeal.nD Cert.GradIdeal.τ).loc Cert.GradIdeal.main_arg0)
      ∧ m' ((c.tc : Thread Cert.ReferenceLossIdeal.nD Cert.ReferenceLossIdeal.τ).loc Cert.ReferenceLossIdeal.main_arg1) = m ((c.tc : Thread Cert.GradIdeal.nD Cert.GradIdeal.τ).loc Cert.GradIdeal.main_arg1)
      ∧ m' ((c.tc : Thread Cert.ReferenceLossIdeal.nD Cert.ReferenceLossIdeal.τ).loc Cert.ReferenceLossIdeal.main_arg2) = m ((c.tc : Thread Cert.GradIdeal.nD Cert.GradIdeal.τ).loc Cert.GradIdeal.main_arg2)
      ∧ m' ((c.tc : Thread Cert.ReferenceLossIdeal.nD Cert.ReferenceLossIdeal.τ).loc Cert.ReferenceLossIdeal.main_arg3) = m ((c.tc : Thread Cert.GradIdeal.nD Cert.GradIdeal.τ).loc Cert.GradIdeal.main_arg3)
      ∧ m' ((c.tc : Thread Cert.ReferenceLossIdeal.nD Cert.ReferenceLossIdeal.τ).loc Cert.ReferenceLossIdeal.main_arg4) = m ((c.tc : Thread Cert.GradIdeal.nD Cert.GradIdeal.τ).loc Cert.GradIdeal.main_arg4)
      ∧ m' ((c.tc : Thread Cert.ReferenceLossIdeal.nD Cert.ReferenceLossIdeal.τ).loc Cert.ReferenceLossIdeal.main_arg5) = m ((c.tc : Thread Cert.GradIdeal.nD Cert.GradIdeal.τ).loc Cert.GradIdeal.main_arg5)
      ∧ m' ((c.tc : Thread Cert.ReferenceLossIdeal.nD Cert.ReferenceLossIdeal.τ).loc Cert.ReferenceLossIdeal.main_arg6) = m ((c.tc : Thread Cert.GradIdeal.nD Cert.GradIdeal.τ).loc Cert.GradIdeal.main_arg6)
      ∧ m' ((c.tc : Thread Cert.ReferenceLossIdeal.nD Cert.ReferenceLossIdeal.τ).loc Cert.ReferenceLossIdeal.main_arg7) = m ((c.tc : Thread Cert.GradIdeal.nD Cert.GradIdeal.τ).loc Cert.GradIdeal.main_arg7)
      ∧ m' ((c.tc : Thread Cert.ReferenceLossIdeal.nD Cert.ReferenceLossIdeal.τ).loc Cert.ReferenceLossIdeal.main_arg8) = m ((c.tc : Thread Cert.GradIdeal.nD Cert.GradIdeal.τ).loc Cert.GradIdeal.main_arg8)
      ∧ m' ((c.tc : Thread Cert.ReferenceLossIdeal.nD Cert.ReferenceLossIdeal.τ).loc Cert.ReferenceLossIdeal.main_arg9) = m ((c.tc : Thread Cert.GradIdeal.nD Cert.GradIdeal.τ).loc Cert.GradIdeal.main_arg9)) →
    ∃ (v0 : (c : Dev Cert.GradIdeal.nD) → Buf (Elt Ideal) ((c.tc : Thread Cert.GradIdeal.nD Cert.GradIdeal.τ).loc Cert.GradIdeal.main_v7_0)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v7_0) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v40) = v0 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6)
          ∧ r.2.mem ((c.tc : Thread Cert.ReferenceLossIdeal.nD Cert.ReferenceLossIdeal.τ).loc Cert.ReferenceLossIdeal.main_arg7) = m' ((c.tc : Thread Cert.ReferenceLossIdeal.nD Cert.ReferenceLossIdeal.τ).loc Cert.ReferenceLossIdeal.main_arg7)
          ∧ r.2.mem ((c.tc : Thread Cert.ReferenceLossIdeal.nD Cert.ReferenceLossIdeal.τ).loc Cert.ReferenceLossIdeal.main_arg8) = m' ((c.tc : Thread Cert.ReferenceLossIdeal.nD Cert.ReferenceLossIdeal.τ).loc Cert.ReferenceLossIdeal.main_arg8)
          ∧ r.2.mem ((c.tc : Thread Cert.ReferenceLossIdeal.nD Cert.ReferenceLossIdeal.τ).loc Cert.ReferenceLossIdeal.main_arg9) = m' ((c.tc : Thread Cert.ReferenceLossIdeal.nD Cert.ReferenceLossIdeal.τ).loc Cert.ReferenceLossIdeal.main_arg9))

def Claim : Prop :=
  ∃ (hLogits : Cert.Logits.Facts) (hLogitsIdeal : Cert.LogitsIdeal.Facts) (hReferenceIdeal : Cert.ReferenceIdeal.Facts) (hGrad : Cert.Grad.Facts) (hGradIdeal : Cert.GradIdeal.Facts) (hReferenceLossIdeal : Cert.ReferenceLossIdeal.Facts),
    quiescent_Logits (hLogits := hLogits)
    ∧ quiescent_LogitsIdeal (hLogitsIdeal := hLogitsIdeal)
    ∧ quiescent_ReferenceIdeal (hReferenceIdeal := hReferenceIdeal)
    ∧ quiescent_Grad (hGrad := hGrad)
    ∧ quiescent_GradIdeal (hGradIdeal := hGradIdeal)
    ∧ quiescent_ReferenceLossIdeal (hReferenceLossIdeal := hReferenceLossIdeal)
    ∧ preserves_Logits_LogitsIdeal
    ∧ algebraic_LogitsIdeal_ReferenceIdeal (hLogitsIdeal := hLogitsIdeal) (hReferenceIdeal := hReferenceIdeal)
    ∧ preserves_Grad_GradIdeal
    ∧ algebraic_GradIdeal_ReferenceLossIdeal (hGradIdeal := hGradIdeal) (hReferenceLossIdeal := hReferenceLossIdeal)
-- ==== Logits.lean ====
abbrev S3072x2048 : Shape := ⟨2, ![3072, 2048]⟩
abbrev S3072x1536 : Shape := ⟨2, ![3072, 1536]⟩
abbrev S3072 : Shape := ⟨1, ![3072]⟩
abbrev S1024x151936 : Shape := ⟨2, ![1024, 151936]⟩
abbrev S16x151936 : Shape := ⟨2, ![16, 151936]⟩
abbrev S151936x1536 : Shape := ⟨2, ![151936, 1536]⟩
abbrev S151936 : Shape := ⟨1, ![151936]⟩
abbrev S3072x1 : Shape := ⟨2, ![3072, 1]⟩
abbrev S3072x128 : Shape := ⟨2, ![3072, 128]⟩
abbrev S_ : Shape := ⟨0, ![]⟩
abbrev S152064 : Shape := ⟨1, ![152064]⟩
abbrev S297x1x512 : Shape := ⟨3, ![297, 1, 512]⟩
abbrev S297x3072x512 : Shape := ⟨3, ![297, 3072, 512]⟩
abbrev S1024x512 : Shape := ⟨2, ![1024, 512]⟩
abbrev S16x512 : Shape := ⟨2, ![16, 512]⟩
abbrev S512x1536 : Shape := ⟨2, ![512, 1536]⟩
abbrev S1x1x512 : Shape := ⟨3, ![1, 1, 512]⟩
abbrev S1x3072x512 : Shape := ⟨3, ![1, 3072, 512]⟩
abbrev S2048x512 : Shape := ⟨2, ![2048, 512]⟩
abbrev S64x512 : Shape := ⟨2, ![64, 512]⟩
abbrev S128x512 : Shape := ⟨2, ![128, 512]⟩
abbrev S1x512 : Shape := ⟨2, ![1, 512]⟩
abbrev S512x2048 : Shape := ⟨2, ![512, 2048]⟩
abbrev S512x512 : Shape := ⟨2, ![512, 512]⟩
abbrev S512x128 : Shape := ⟨2, ![512, 128]⟩
abbrev S1x128 : Shape := ⟨2, ![1, 128]⟩
abbrev S1x512x128 : Shape := ⟨3, ![1, 512, 128]⟩

abbrev nBuf : Space → Nat
  | .hbm => 18
  | .vmem => 24
  | .smem => 0
  | _ => 0

abbrev bufTy : (tb : Table) → Fin (tcTables nBuf tb) → BufTy
  | .hbm, ⟨0, _⟩ => ⟨S3072x2048, .bf16⟩
  | .hbm, ⟨1, _⟩ => ⟨S3072x1536, .fp8e4m3⟩
  | .hbm, ⟨2, _⟩ => ⟨S3072, .f32⟩
  | .hbm, ⟨3, _⟩ => ⟨S1024x151936, .i8⟩
  | .hbm, ⟨4, _⟩ => ⟨S16x151936, .f32⟩
  | .hbm, ⟨5, _⟩ => ⟨S16x151936, .f32⟩
  | .hbm, ⟨6, _⟩ => ⟨S151936x1536, .fp8e4m3⟩
  | .hbm, ⟨7, _⟩ => ⟨S151936, .f32⟩
  | .hbm, ⟨8, _⟩ => ⟨S3072x1, .f32⟩
  | .hbm, ⟨9, _⟩ => ⟨S3072x128, .f32⟩
  | .hbm, ⟨10, _⟩ => ⟨S_, .i32⟩
  | .hbm, ⟨11, _⟩ => ⟨S_, .f32⟩
  | .hbm, ⟨12, _⟩ => ⟨S152064, .f32⟩
  | .hbm, ⟨13, _⟩ => ⟨S297x1x512, .f32⟩
  | .hbm, ⟨14, _⟩ => ⟨S297x3072x512, .f32⟩
  | .hbm, ⟨15, _⟩ => ⟨S297x3072x512, .f32⟩
  | .hbm, ⟨16, _⟩ => ⟨S3072x128, .f32⟩
  | .hbm, ⟨17, _⟩ => ⟨S3072x128, .f32⟩
  | .local _ .vmem, ⟨0, _⟩ => ⟨S3072x2048, .bf16⟩
  | .local _ .vmem, ⟨1, _⟩ => ⟨S3072x1536, .fp8e4m3⟩
  | .local _ .vmem, ⟨2, _⟩ => ⟨S3072x128, .f32⟩
  | .local _ .vmem, ⟨3, _⟩ => ⟨S1024x512, .i8⟩
  | .local _ .vmem, ⟨4, _⟩ => ⟨S1024x512, .i8⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S512x1536, .fp8e4m3⟩
  | .local _ .vmem, ⟨10, _⟩ => ⟨S512x1536, .fp8e4m3⟩
  | .local _ .vmem, ⟨11, _⟩ => ⟨S1x1x512, .f32⟩
  | .local _ .vmem, ⟨12, _⟩ => ⟨S1x1x512, .f32⟩
  | .local _ .vmem, ⟨13, _⟩ => ⟨S1x3072x512, .f32⟩
  | .local _ .vmem, ⟨14, _⟩ => ⟨S1x3072x512, .f32⟩
  | .local _ .vmem, ⟨15, _⟩ => ⟨S1x3072x512, .f32⟩
  | .local _ .vmem, ⟨16, _⟩ => ⟨S1x3072x512, .f32⟩
  | .local _ .vmem, ⟨17, _⟩ => ⟨S3072x128, .f32⟩
  | .local _ .vmem, ⟨18, _⟩ => ⟨S3072x128, .f32⟩
  | .local _ .vmem, ⟨19, _⟩ => ⟨S2048x512, .bf16⟩
  | .local _ .vmem, ⟨20, _⟩ => ⟨S3072x128, .f32⟩
  | .local _ .vmem, ⟨21, _⟩ => ⟨S3072x128, .f32⟩
  | .local _ .vmem, ⟨22, _⟩ => ⟨S3072x128, .f32⟩
  | .local _ .vmem, ⟨23, _⟩ => ⟨S3072x128, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![297], ![false]⟩

def k0_cond2 (i : grid0.Coords) : BitVec 1 :=
  let arg0 : BitVec 32 := BitVec.ofNat 32 (i 0).val
  let c296_i32 : BitVec 32 := 296#32
  let v1307 : BitVec 1 := Scalar.cmpi .eq arg0 c296_i32
  let v1308 : BitVec 32 := Scalar.extui v1307
  let c0_i32_641 : BitVec 32 := 0#32
  let v1309 : BitVec 1 := Scalar.cmpi .ne v1308 c0_i32_641
  v1309

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3072x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3072x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3072x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3072x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LogitsIdeal.lean ====
variable {F : FTy → Type} [FloatOps F] [Named F]
def κ : String → Option EReal := fun
  | "half_log2e" => some ((((Real.log 2) * 2)⁻¹ : ℝ) : EReal)
  | "log2e" => some (((Real.log 2)⁻¹ : ℝ) : EReal)
  | "minus_inf" => some ⊥
  | _ => none
-- ==== ReferenceIdeal.lean ====
abbrev S3072x2048 : Shape := ⟨2, ![3072, 2048]⟩
abbrev S3072x1536 : Shape := ⟨2, ![3072, 1536]⟩
abbrev S3072 : Shape := ⟨1, ![3072]⟩
abbrev S1024x151936 : Shape := ⟨2, ![1024, 151936]⟩
abbrev S16x151936 : Shape := ⟨2, ![16, 151936]⟩
abbrev S151936x1536 : Shape := ⟨2, ![151936, 1536]⟩
abbrev S151936 : Shape := ⟨1, ![151936]⟩
abbrev S3072x151936 : Shape := ⟨2, ![3072, 151936]⟩
abbrev S_ : Shape := ⟨0, ![]⟩
abbrev S1024x1x151936 : Shape := ⟨3, ![1024, 1, 151936]⟩
abbrev S1024x2x151936 : Shape := ⟨3, ![1024, 2, 151936]⟩
abbrev S16x128x151936 : Shape := ⟨3, ![16, 128, 151936]⟩
abbrev S16x1x151936 : Shape := ⟨3, ![16, 1, 151936]⟩
abbrev S2048x151936 : Shape := ⟨2, ![2048, 151936]⟩
abbrev S3072x1 : Shape := ⟨2, ![3072, 1]⟩
abbrev S1x151936 : Shape := ⟨2, ![1, 151936]⟩
abbrev S3072x152064 : Shape := ⟨2, ![3072, 152064]⟩
abbrev S3072x297x512 : Shape := ⟨3, ![3072, 297, 512]⟩
abbrev S297x3072x512 : Shape := ⟨3, ![297, 3072, 512]⟩
abbrev S3072x128 : Shape := ⟨2, ![3072, 128]⟩

abbrev nBuf : Space → Nat
  | .hbm => 91
  | .vmem => 3
  | .smem => 0
  | _ => 0

abbrev bufTy : (tb : Table) → Fin (tcTables nBuf tb) → BufTy
  | .hbm, ⟨0, _⟩ => ⟨S3072x2048, .bf16⟩
  | .hbm, ⟨1, _⟩ => ⟨S3072x1536, .fp8e4m3⟩
  | .hbm, ⟨2, _⟩ => ⟨S3072, .f32⟩
  | .hbm, ⟨3, _⟩ => ⟨S1024x151936, .i8⟩
  | .hbm, ⟨4, _⟩ => ⟨S16x151936, .f32⟩
  | .hbm, ⟨5, _⟩ => ⟨S16x151936, .f32⟩
  | .hbm, ⟨6, _⟩ => ⟨S151936x1536, .fp8e4m3⟩
  | .hbm, ⟨7, _⟩ => ⟨S151936, .f32⟩
  | .hbm, ⟨8, _⟩ => ⟨S3072x151936, .f32⟩
  | .hbm, ⟨9, _⟩ => ⟨S1024x151936, .i32⟩
  | .hbm, ⟨10, _⟩ => ⟨S_, .i32⟩
  | .hbm, ⟨11, _⟩ => ⟨S1024x151936, .i32⟩
  | .hbm, ⟨12, _⟩ => ⟨S1024x151936, .i32⟩
  | .hbm, ⟨13, _⟩ => ⟨S_, .i32⟩
  | .hbm, ⟨14, _⟩ => ⟨S1024x151936, .i32⟩
  | .hbm, ⟨15, _⟩ => ⟨S1024x151936, .i32⟩
  | .hbm, ⟨16, _⟩ => ⟨S1024x1x151936, .i32⟩
  | .hbm, ⟨17, _⟩ => ⟨S1024x1x151936, .i32⟩
  | .hbm, ⟨18, _⟩ => ⟨S1024x2x151936, .i32⟩
  | .hbm, ⟨19, _⟩ => ⟨S16x128x151936, .i32⟩
  | .hbm, ⟨20, _⟩ => ⟨S16x151936, .bf16⟩
  | .hbm, ⟨21, _⟩ => ⟨S16x1x151936, .bf16⟩
  | .hbm, ⟨22, _⟩ => ⟨S16x151936, .bf16⟩
  | .hbm, ⟨23, _⟩ => ⟨S16x1x151936, .bf16⟩
  | .hbm, ⟨24, _⟩ => ⟨S16x128x151936, .bf16⟩
  | .hbm, ⟨25, _⟩ => ⟨S16x128x151936, .bf16⟩
  | .hbm, ⟨26, _⟩ => ⟨S16x128x151936, .bf16⟩
  | .hbm, ⟨27, _⟩ => ⟨S16x128x151936, .bf16⟩
  | .hbm, ⟨28, _⟩ => ⟨S16x128x151936, .bf16⟩
  | .hbm, ⟨29, _⟩ => ⟨S2048x151936, .bf16⟩
  | .hbm, ⟨30, _⟩ => ⟨S3072x151936, .f32⟩
  | .hbm, ⟨31, _⟩ => ⟨S_, .f32⟩
  | .hbm, ⟨32, _⟩ => ⟨S3072x151936, .f32⟩
  | .hbm, ⟨33, _⟩ => ⟨S3072x151936, .f32⟩
  | .hbm, ⟨34, _⟩ => ⟨S3072x1, .f32⟩
  | .hbm, ⟨35, _⟩ => ⟨S3072x151936, .f32⟩
  | .hbm, ⟨36, _⟩ => ⟨S3072x151936, .f32⟩
  | .hbm, ⟨37, _⟩ => ⟨S1x151936, .f32⟩
  | .hbm, ⟨38, _⟩ => ⟨S3072x151936, .f32⟩
  | .hbm, ⟨39, _⟩ => ⟨S3072x151936, .f32⟩
  | .hbm, ⟨40, _⟩ => ⟨S_, .f32⟩
  | .hbm, ⟨41, _⟩ => ⟨S3072x151936, .f32⟩
  | .hbm, ⟨42, _⟩ => ⟨S3072x151936, .f32⟩
  | .hbm, ⟨43, _⟩ => ⟨S_, .f32⟩
  | .hbm, ⟨44, _⟩ => ⟨S_, .f32⟩
  | .hbm, ⟨45, _⟩ => ⟨S3072x151936, .f32⟩
  | .hbm, ⟨46, _⟩ => ⟨S3072x151936, .f32⟩
  | .hbm, ⟨47, _⟩ => ⟨S_, .f32⟩
  | .hbm, ⟨48, _⟩ => ⟨S_, .f32⟩
  | .hbm, ⟨49, _⟩ => ⟨S3072x152064, .f32⟩
  | .hbm, ⟨50, _⟩ => ⟨S3072x297x512, .f32⟩
  | .hbm, ⟨51, _⟩ => ⟨S297x3072x512, .f32⟩
  | .hbm, ⟨52, _⟩ => ⟨S3072x151936, .f32⟩
  | .hbm, ⟨53, _⟩ => ⟨S3072x151936, .f32⟩
  | .hbm, ⟨54, _⟩ => ⟨S_, .f32⟩
  | .hbm, ⟨55, _⟩ => ⟨S_, .f32⟩
  | .hbm, ⟨56, _⟩ => ⟨S3072x152064, .f32⟩
  | .hbm, ⟨57, _⟩ => ⟨S3072x297x512, .f32⟩
  | .hbm, ⟨58, _⟩ => ⟨S297x3072x512, .f32⟩
  | .hbm, ⟨59, _⟩ => ⟨S_, .f32⟩
  | .hbm, ⟨60, _⟩ => ⟨S3072, .f32⟩
  | .hbm, ⟨61, _⟩ => ⟨S3072x1, .f32⟩
  | .hbm, ⟨62, _⟩ => ⟨S3072x151936, .f32⟩
  | .hbm, ⟨63, _⟩ => ⟨S3072x151936, .f32⟩
  | .hbm, ⟨64, _⟩ => ⟨S3072x151936, .f32⟩
  | .hbm, ⟨65, _⟩ => ⟨S_, .f32⟩
  | .hbm, ⟨66, _⟩ => ⟨S3072, .f32⟩
  | .hbm, ⟨67, _⟩ => ⟨S3072x1, .f32⟩
  | .hbm, ⟨68, _⟩ => ⟨S3072x1, .f32⟩
  | .hbm, ⟨69, _⟩ => ⟨S3072x1, .f32⟩
  | .hbm, ⟨70, _⟩ => ⟨S3072, .f32⟩
  | .hbm, ⟨71, _⟩ => ⟨S3072, .f32⟩
  | .hbm, ⟨72, _⟩ => ⟨S3072, .f32⟩
  | .hbm, ⟨73, _⟩ => ⟨S3072x1, .f32⟩
  | .hbm, ⟨74, _⟩ => ⟨S3072x128, .f32⟩
  | .hbm, ⟨75, _⟩ => ⟨S_, .f32⟩
  | .hbm, ⟨76, _⟩ => ⟨S3072, .f32⟩
  | .hbm, ⟨77, _⟩ => ⟨S3072x1, .f32⟩
  | .hbm, ⟨78, _⟩ => ⟨S3072x151936, .f32⟩
  | .hbm, ⟨79, _⟩ => ⟨S3072x151936, .f32⟩
  | .hbm, ⟨80, _⟩ => ⟨S3072x151936, .f32⟩
  | .hbm, ⟨81, _⟩ => ⟨S_, .f32⟩
  | .hbm, ⟨82, _⟩ => ⟨S3072, .f32⟩
  | .hbm, ⟨83, _⟩ => ⟨S3072x1, .f32⟩
  | .hbm, ⟨84, _⟩ => ⟨S3072x1, .f32⟩
  | .hbm, ⟨85, _⟩ => ⟨S3072x1, .f32⟩
  | .hbm, ⟨86, _⟩ => ⟨S3072, .f32⟩
  | .hbm, ⟨87, _⟩ => ⟨S3072, .f32⟩
  | .hbm, ⟨88, _⟩ => ⟨S3072, .f32⟩
  | .hbm, ⟨89, _⟩ => ⟨S3072x1, .f32⟩
  | .hbm, ⟨90, _⟩ => ⟨S3072x128, .f32⟩
  | .local _ .vmem, ⟨0, _⟩ => ⟨S3072x1536, .fp8e4m3⟩
  | .local _ .vmem, ⟨1, _⟩ => ⟨S151936x1536, .fp8e4m3⟩
  | .local _ .vmem, ⟨2, _⟩ => ⟨S3072x151936, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_call1_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3072x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S151936x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x151936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Grad.lean ====
abbrev S1 : Shape := ⟨1, ![1]⟩
abbrev S297x3072x512 : Shape := ⟨3, ![297, 3072, 512]⟩
abbrev S3072 : Shape := ⟨1, ![3072]⟩
abbrev S151936x1536 : Shape := ⟨2, ![151936, 1536]⟩
abbrev S151936 : Shape := ⟨1, ![151936]⟩
abbrev S3072x1536 : Shape := ⟨2, ![3072, 1536]⟩
abbrev S3072x128 : Shape := ⟨2, ![3072, 128]⟩
abbrev S1536 : Shape := ⟨1, ![1536]⟩
abbrev S3072x1 : Shape := ⟨2, ![3072, 1]⟩
abbrev S_ : Shape := ⟨0, ![]⟩
abbrev S152064 : Shape := ⟨1, ![152064]⟩
abbrev S297x1x512 : Shape := ⟨3, ![297, 1, 512]⟩
abbrev S1x1536 : Shape := ⟨2, ![1, 1536]⟩
abbrev S1x1024x512 : Shape := ⟨3, ![1, 1024, 512]⟩
abbrev S1024x128 : Shape := ⟨2, ![1024, 128]⟩
abbrev S512x1536 : Shape := ⟨2, ![512, 1536]⟩
abbrev S1x1x512 : Shape := ⟨3, ![1, 1, 512]⟩
abbrev S1024x1536 : Shape := ⟨2, ![1024, 1536]⟩
abbrev S1x1x128 : Shape := ⟨3, ![1, 1, 128]⟩
abbrev S1x128 : Shape := ⟨2, ![1, 128]⟩
abbrev S128x128 : Shape := ⟨2, ![128, 128]⟩
abbrev S128x1536 : Shape := ⟨2, ![128, 1536]⟩
abbrev S256x128 : Shape := ⟨2, ![256, 128]⟩
abbrev S1x256x128 : Shape := ⟨3, ![1, 256, 128]⟩
abbrev S256x512 : Shape := ⟨2, ![256, 512]⟩
abbrev S256x1536 : Shape := ⟨2, ![256, 1536]⟩
abbrev S256 : Shape := ⟨1, ![256]⟩
abbrev S256x1 : Shape := ⟨2, ![256, 1]⟩

abbrev nBuf : Space → Nat
  | .hbm => 22
  | .vmem => 28
  | .smem => 1
  | _ => 0

abbrev bufTy : (tb : Table) → Fin (tcTables nBuf tb) → BufTy
  | .hbm, ⟨0, _⟩ => ⟨S1, .i32⟩
  | .hbm, ⟨1, _⟩ => ⟨S297x3072x512, .f32⟩
  | .hbm, ⟨2, _⟩ => ⟨S297x3072x512, .f32⟩
  | .hbm, ⟨3, _⟩ => ⟨S3072, .f32⟩
  | .hbm, ⟨4, _⟩ => ⟨S3072, .f32⟩
  | .hbm, ⟨5, _⟩ => ⟨S151936x1536, .fp8e4m3⟩
  | .hbm, ⟨6, _⟩ => ⟨S151936, .f32⟩
  | .hbm, ⟨7, _⟩ => ⟨S3072x1536, .bf16⟩
  | .hbm, ⟨8, _⟩ => ⟨S3072x128, .f32⟩
  | .hbm, ⟨9, _⟩ => ⟨S1536, .f32⟩
  | .hbm, ⟨10, _⟩ => ⟨S3072x1, .f32⟩
  | .hbm, ⟨11, _⟩ => ⟨S3072x128, .f32⟩
  | .hbm, ⟨12, _⟩ => ⟨S3072x1, .f32⟩
  | .hbm, ⟨13, _⟩ => ⟨S3072x128, .f32⟩
  | .hbm, ⟨14, _⟩ => ⟨S_, .i32⟩
  | .hbm, ⟨15, _⟩ => ⟨S_, .f32⟩
  | .hbm, ⟨16, _⟩ => ⟨S152064, .f32⟩
  | .hbm, ⟨17, _⟩ => ⟨S297x1x512, .f32⟩
  | .hbm, ⟨18, _⟩ => ⟨S1x1536, .f32⟩
  | .hbm, ⟨19, _⟩ => ⟨S3072x128, .f32⟩
  | .hbm, ⟨20, _⟩ => ⟨S3072x1536, .bf16⟩
  | .hbm, ⟨21, _⟩ => ⟨S3072x1536, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S512x1536, .fp8e4m3⟩
  | .local _ .vmem, ⟨9, _⟩ => ⟨S512x1536, .fp8e4m3⟩
  | .local _ .vmem, ⟨10, _⟩ => ⟨S1x1x512, .f32⟩
  | .local _ .vmem, ⟨11, _⟩ => ⟨S1x1x512, .f32⟩
  | .local _ .vmem, ⟨12, _⟩ => ⟨S1024x1536, .bf16⟩
  | .local _ .vmem, ⟨13, _⟩ => ⟨S1024x1536, .bf16⟩
  | .local _ .vmem, ⟨14, _⟩ => ⟨S1024x128, .f32⟩
  | .local _ .vmem, ⟨15, _⟩ => ⟨S1024x128, .f32⟩
  | .local _ .vmem, ⟨16, _⟩ => ⟨S1x1536, .f32⟩
  | .local _ .vmem, ⟨17, _⟩ => ⟨S1024x128, .f32⟩
  | .local _ .vmem, ⟨18, _⟩ => ⟨S1024x128, .f32⟩
  | .local _ .vmem, ⟨19, _⟩ => ⟨S1024x1536, .bf16⟩
  | .local _ .vmem, ⟨20, _⟩ => ⟨S1024x1536, .bf16⟩
  | .local _ .vmem, ⟨21, _⟩ => ⟨S1024x1536, .f32⟩
  | .local _ .vmem, ⟨22, _⟩ => ⟨S1024x1536, .f32⟩
  | .local _ .vmem, ⟨23, _⟩ => ⟨S512x1536, .bf16⟩
  | .local _ .vmem, ⟨24, _⟩ => ⟨S1024x1536, .f32⟩
  | .local _ .vmem, ⟨25, _⟩ => ⟨S1024x1536, .f32⟩
  | .local _ .vmem, ⟨26, _⟩ => ⟨S1024x128, .f32⟩
  | .local _ .vmem, ⟨27, _⟩ => ⟨S1024x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![3, 297], ![false, false]⟩

def k0_cond2 (i : grid0.Coords) : BitVec 1 :=
  let arg1 : BitVec 32 := BitVec.ofNat 32 (i 1).val
  let c296_i32 : BitVec 32 := 296#32
  let v991 : BitVec 1 := Scalar.cmpi .eq arg1 c296_i32
  let v992 : BitVec 32 := Scalar.extui v991
  let c0_i32_434 : BitVec 32 := 0#32
  let v993 : BitVec 1 := Scalar.cmpi .ne v992 c0_i32_434
  v993

@[reducible] def k0_t1_loop : Scf.Loop 32 :=
  let c0_i32_437 : BitVec 32 := 0#32
  let c4_i32_438 : BitVec 32 := 4#32
  let v997 : BitVec 32 := Scalar.addi c0_i32_437 c4_i32_438
  let c1_i32_439 : BitVec 32 := 1#32
  ⟨c0_i32_437, v997, c1_i32_439⟩
def k0_off1 (k0_t1 : Fin k0_t1_loop.trips) : Fin 2 → Nat :=
  let c0_i32_442 : BitVec 32 := 0#32
  let c0_i32_437 : BitVec 32 := 0#32
  let c1_i32_439 : BitVec 32 := 1#32
  let arg20 : BitVec 32 := Scf.iv c0_i32_437 c1_i32_439 k0_t1
  let c1_i32_441 : BitVec 32 := 1#32
  let v998 : BitVec 32 := Scalar.muli arg20 c1_i32_441
  let v999 : BitVec 32 := Scalar.addi c0_i32_442 v998
  let c256_i32 : BitVec 32 := 256#32
  let v1000 : BitVec 32 := Scalar.muli v999 c256_i32
  let v1001 : Index := Scalar.indexCast v1000
  let c0_443 : Index := 0#32
  ![v1001.toNat, 0]
def k0_off2 (k0_t1 : Fin k0_t1_loop.trips) : Fin 2 → Nat :=
  let c0_i32_442 : BitVec 32 := 0#32
  let c0_i32_437 : BitVec 32 := 0#32
  let c1_i32_439 : BitVec 32 := 1#32
  let arg20 : BitVec 32 := Scf.iv c0_i32_437 c1_i32_439 k0_t1
  let c1_i32_441 : BitVec 32 := 1#32
  let v998 : BitVec 32 := Scalar.muli arg20 c1_i32_441
  let v999 : BitVec 32 := Scalar.addi c0_i32_442 v998
  let c256_i32 : BitVec 32 := 256#32
  let v1000 : BitVec 32 := Scalar.muli v999 c256_i32
  let v1022 : Index := Scalar.indexCast v1000
  let c0_452 : Index := 0#32
  ![v1022.toNat, 0]
def k0_off3 (k0_t1 : Fin k0_t1_loop.trips) : Fin 2 → Nat :=
  let c0_i32_442 : BitVec 32 := 0#32
  let c0_i32_437 : BitVec 32 := 0#32
  let c1_i32_439 : BitVec 32 := 1#32
  let arg20 : BitVec 32 := Scf.iv c0_i32_437 c1_i32_439 k0_t1
  let c1_i32_441 : BitVec 32 := 1#32
  let v998 : BitVec 32 := Scalar.muli arg20 c1_i32_441
  let v999 : BitVec 32 := Scalar.addi c0_i32_442 v998
  let c256_i32 : BitVec 32 := 256#32
  let v1000 : BitVec 32 := Scalar.muli v999 c256_i32
  let v1033 : Index := Scalar.indexCast v1000
  let c0_455 : Index := 0#32
  ![v1033.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GradIdeal.lean ====
variable {F : FTy → Type} [FloatOps F] [Named F]
def κ : String → Option EReal := fun
  | "ln2" => some ((Real.log 2 : ℝ) : EReal)
  | "log2_three_quarters" => some (((Real.log (3 / 4)) * (Real.log 2)⁻¹ : ℝ) : EReal)
  | "log2e" => some (((Real.log 2)⁻¹ : ℝ) : EReal)
  | _ => none
-- ==== ReferenceLossIdeal.lean ====
abbrev S1 : Shape := ⟨1, ![1]⟩
abbrev S297x3072x512 : Shape := ⟨3, ![297, 3072, 512]⟩
abbrev S3072 : Shape := ⟨1, ![3072]⟩
abbrev S151936x1536 : Shape := ⟨2, ![151936, 1536]⟩
abbrev S151936 : Shape := ⟨1, ![151936]⟩
abbrev S3072x1536 : Shape := ⟨2, ![3072, 1536]⟩
abbrev S3072x128 : Shape := ⟨2, ![3072, 128]⟩
abbrev S1536 : Shape := ⟨1, ![1536]⟩
abbrev S_ : Shape := ⟨0, ![]⟩
abbrev S3072x297x512 : Shape := ⟨3, ![3072, 297, 512]⟩
abbrev S3072x152064 : Shape := ⟨2, ![3072, 152064]⟩
abbrev S3072x1 : Shape := ⟨2, ![3072, 1]⟩

abbrev nBuf : Space → Nat
  | .hbm => 58
  | .vmem => 0
  | .smem => 0
  | _ => 0

abbrev bufTy : (tb : Table) → Fin (tcTables nBuf tb) → BufTy
  | .hbm, ⟨0, _⟩ => ⟨S1, .i32⟩
  | .hbm, ⟨1, _⟩ => ⟨S297x3072x512, .f32⟩
  | .hbm, ⟨2, _⟩ => ⟨S297x3072x512, .f32⟩
  | .hbm, ⟨3, _⟩ => ⟨S3072, .f32⟩
  | .hbm, ⟨4, _⟩ => ⟨S3072, .f32⟩
  | .hbm, ⟨5, _⟩ => ⟨S151936x1536, .fp8e4m3⟩
  | .hbm, ⟨6, _⟩ => ⟨S151936, .f32⟩
  | .hbm, ⟨7, _⟩ => ⟨S3072x1536, .bf16⟩
  | .hbm, ⟨8, _⟩ => ⟨S3072x128, .f32⟩
  | .hbm, ⟨9, _⟩ => ⟨S1536, .f32⟩
  | .hbm, ⟨10, _⟩ => ⟨S_, .f32⟩
  | .hbm, ⟨11, _⟩ => ⟨S_, .f32⟩
  | .hbm, ⟨12, _⟩ => ⟨S3072x297x512, .f32⟩
  | .hbm, ⟨13, _⟩ => ⟨S3072x152064, .f32⟩
  | .hbm, ⟨14, _⟩ => ⟨S3072x1, .f32⟩
  | .hbm, ⟨15, _⟩ => ⟨S3072x152064, .f32⟩
  | .hbm, ⟨16, _⟩ => ⟨S3072x152064, .f32⟩
  | .hbm, ⟨17, _⟩ => ⟨S3072x152064, .f32⟩
  | .hbm, ⟨18, _⟩ => ⟨S3072x152064, .f32⟩
  | .hbm, ⟨19, _⟩ => ⟨S3072x152064, .f32⟩
  | .hbm, ⟨20, _⟩ => ⟨S_, .f32⟩
  | .hbm, ⟨21, _⟩ => ⟨S3072x152064, .f32⟩
  | .hbm, ⟨22, _⟩ => ⟨S3072x152064, .f32⟩
  | .hbm, ⟨23, _⟩ => ⟨S3072x297x512, .f32⟩
  | .hbm, ⟨24, _⟩ => ⟨S3072x152064, .f32⟩
  | .hbm, ⟨25, _⟩ => ⟨S3072x1, .f32⟩
  | .hbm, ⟨26, _⟩ => ⟨S3072x152064, .f32⟩
  | .hbm, ⟨27, _⟩ => ⟨S3072x152064, .f32⟩
  | .hbm, ⟨28, _⟩ => ⟨S3072x152064, .f32⟩
  | .hbm, ⟨29, _⟩ => ⟨S3072x152064, .f32⟩
  | .hbm, ⟨30, _⟩ => ⟨S3072x152064, .f32⟩
  | .hbm, ⟨31, _⟩ => ⟨S_, .f32⟩
  | .hbm, ⟨32, _⟩ => ⟨S3072x152064, .f32⟩
  | .hbm, ⟨33, _⟩ => ⟨S3072x152064, .f32⟩
  | .hbm, ⟨34, _⟩ => ⟨S3072x152064, .f32⟩
  | .hbm, ⟨35, _⟩ => ⟨S_, .f32⟩
  | .hbm, ⟨36, _⟩ => ⟨S3072x152064, .f32⟩
  | .hbm, ⟨37, _⟩ => ⟨S3072x152064, .f32⟩
  | .hbm, ⟨38, _⟩ => ⟨S3072x152064, .f32⟩
  | .hbm, ⟨39, _⟩ => ⟨S3072x152064, .f32⟩
  | .hbm, ⟨40, _⟩ => ⟨S3072x152064, .f32⟩
  | .hbm, ⟨41, _⟩ => ⟨S3072x152064, .f32⟩
  | .hbm, ⟨42, _⟩ => ⟨S3072x152064, .f32⟩
  | .hbm, ⟨43, _⟩ => ⟨S3072x152064, .f32⟩
  | .hbm, ⟨44, _⟩ => ⟨S3072x152064, .f32⟩
  | .hbm, ⟨45, _⟩ => ⟨S_, .f32⟩
  | .hbm, ⟨46, _⟩ => ⟨S3072, .f32⟩
  | .hbm, ⟨47, _⟩ => ⟨S_, .f32⟩
  | .hbm, ⟨48, _⟩ => ⟨S3072, .f32⟩
  | .hbm, ⟨49, _⟩ => ⟨S3072, .f32⟩
  | .hbm, ⟨50, _⟩ => ⟨S1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S3072, .f32⟩
  | .hbm, ⟨55, _⟩ => ⟨S3072, .f32⟩
  | .hbm, ⟨56, _⟩ => ⟨S3072x1, .f32⟩
  | .hbm, ⟨57, _⟩ => ⟨S3072x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Proof.LogitsCond.lean ====
/-
  The conditions of the two branches of the logits call's body (program Logits), and where in the grid they hold.
-/
module

public import proofs.«01_k».proof.Proof.Gen.Logits
public import proofs.«01_k».proof.Proof.Gen.Logits.Launch
public import proofs.«01_k».proof.Proof.Gen.Logits.Skeleton
public import proofs.«01_k».proof.Proof.Gen.Logits.Points
public import proofs.«01_k».proof.Proof.Gen.Logits.Frame
public import Idealize.ShloMosaic.Lib.Pipeline.FrameBody
public import Idealize.ShloMosaic.Lib.Tactic
public import Idealize.ShloMosaic.Lib.WordCmp

@[expose] public section

set_option maxRecDepth 16384

noncomputable section

namespace Cert.Logits.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the first point of the grid. -/
abbrev cond0_0 (i : grid0.Coords) : Prop := (Scalar.cmpi .ne (Scalar.extui (Scalar.cmpi .eq (BitVec.ofNat 32 (i 0).val) 0#32)) 0#32) = 1#1
/-- The body's second condition: the last point of the grid. -/
abbrev cond0_1 (i : grid0.Coords) : Prop := k0_cond2 i = 1#1

/-- It holds at the first point only — by arithmetic of the point. -/
theorem hcond0_0 : ∀ t : Fin cfg0.N, cond0_0 (grid0.coords t) ↔ t.val % 297 = 0 :=
  (fun t => by
    have ht : t.val < 297 := Nat.lt_of_lt_of_eq t.isLt N_0
    have e0 : (grid0.coords t 0).val = t.val / 1 % 297 := Pipeline.Grid.coords_val t 0 (by decide) rfl
    simp only [cond0_0, e0]
    word_cmp
   : ∀ t : Fin grid0.N, cond0_0 (grid0.coords t) ↔ t.val % 297 = 0)

/-- It holds at the last point only — by arithmetic of the point. -/
theorem hcond0_1 : ∀ t : Fin cfg0.N, cond0_1 (grid0.coords t) ↔ t.val % 297 = 296 :=
  (fun t => by
    have ht : t.val < 297 := Nat.lt_of_lt_of_eq t.isLt N_0
    have e0 : (grid0.coords t 0).val = t.val / 1 % 297 := Pipeline.Grid.coords_val t 0 (by decide) rfl
    simp only [cond0_1, k0_cond2, e0]
    word_cmp
   : ∀ t : Fin grid0.N, cond0_1 (grid0.coords t) ↔ t.val % 297 = 296)

/-- The body written out in its parts: whatever holds of every program holds of it. (This also fixes, once for the modules that run
    the body, the auxiliary statements that the rewriting makes.) -/
theorem body_parts (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (Q : Prog (TpuEff nD τ sig (Elt F) Λ₀ .tc) PUnit → Prop) (hQ : ∀ p, Q p) : Q (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  simp only [cc0_logits_eq_skeleton]; unfold cc0_logits_skel
  simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  exact hQ _

end Cert.Logits.Gen

end
-- ==== Proof.LogitsRunFirst.lean ====
/-
  The logits call: its body run at the first point of the grid, where the running maxima and sums are started.
-/
module

public import proofs.«01_k».proof.Proof.LogitsCond

@[expose] public section

set_option maxRecDepth 16384

noncomputable section

namespace Cert.Logits.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of the grid, where the running maxima and sums are started. From the inputs' contents (and, where they are carried, the running maxima and sums), it
    runs to the end; what it stored into each buffer is the list of pieces found on the way. -/
noncomputable def runFirst (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    Σ' (L8 : List (View.Piece (Elt F) S1x3072x512 .f32)), Σ' (L9 : List (View.Piece (Elt F) S1x3072x512 .f32)), Σ' (L10 : List (View.Piece (Elt F) S3072x128 .f32)), Σ' (L11 : List (View.Piece (Elt F) S3072x128 .f32)), Σ' (LS1 : List (View.Piece (Elt F) S3072x128 .f32)), Σ' (LS2 : List (View.Piece (Elt F) S3072x128 .f32)), Σ' (LS3 : List (View.Piece (Elt F) S3072x128 .f32)), Σ' (LS4 : List (View.Piece (Elt F) S3072x128 .f32)), { LT0 : List (View.Piece (Elt F) S2048x512 .bf16) //
      ∀ (xi10 : Vec F S3072x128 .f32) (xi11 : Vec F S3072x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, ?_, ?_, ?_, ?_, fun xi10 xi11 E K => ?run⟩
  case run =>
    simp only [cc0_logits_eq_skeleton]; unfold cc0_logits_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.Logits.Gen

end
-- ==== Proof.LogitsRunMid.lean ====
/-
  The logits call: its body run at a point of the grid that is neither the first nor the last.
-/
module

public import proofs.«01_k».proof.Proof.LogitsCond

@[expose] public section

set_option maxRecDepth 16384

noncomputable section

namespace Cert.Logits.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the grid that is neither the first nor the last. From the inputs' contents (and, where they are carried, the running maxima and sums), it
    runs to the end; what it stored into each buffer is the list of pieces found on the way. -/
noncomputable def runMid (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    Σ' (L8 : List (View.Piece (Elt F) S1x3072x512 .f32)), Σ' (L9 : List (View.Piece (Elt F) S1x3072x512 .f32)), Σ' (L10 : List (View.Piece (Elt F) S3072x128 .f32)), Σ' (L11 : List (View.Piece (Elt F) S3072x128 .f32)), Σ' (LS1 : List (View.Piece (Elt F) S3072x128 .f32)), Σ' (LS2 : List (View.Piece (Elt F) S3072x128 .f32)), Σ' (LS3 : List (View.Piece (Elt F) S3072x128 .f32)), Σ' (LS4 : List (View.Piece (Elt F) S3072x128 .f32)), { LT0 : List (View.Piece (Elt F) S2048x512 .bf16) //
      ∀ (xi10 : Vec F S3072x128 .f32) (xi11 : Vec F S3072x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, ?_, ?_, ?_, ?_, fun xi10 xi11 E K => ?run⟩
  case run =>
    simp only [cc0_logits_eq_skeleton]; unfold cc0_logits_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.Logits.Gen

end
-- ==== Proof.LogitsRunLast.lean ====
/-
  The logits call: its body run at the last point of the grid, where the two results per row are formed.
-/
module

public import proofs.«01_k».proof.Proof.LogitsCond

@[expose] public section

set_option maxRecDepth 16384

noncomputable section

namespace Cert.Logits.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of the grid, where the two results per row are formed. From the inputs' contents (and, where they are carried, the running maxima and sums), it
    runs to the end; what it stored into each buffer is the list of pieces found on the way. -/
noncomputable def runLast (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    Σ' (L8 : List (View.Piece (Elt F) S1x3072x512 .f32)), Σ' (L9 : List (View.Piece (Elt F) S1x3072x512 .f32)), Σ' (L10 : List (View.Piece (Elt F) S3072x128 .f32)), Σ' (L11 : List (View.Piece (Elt F) S3072x128 .f32)), Σ' (LS1 : List (View.Piece (Elt F) S3072x128 .f32)), Σ' (LS2 : List (View.Piece (Elt F) S3072x128 .f32)), Σ' (LS3 : List (View.Piece (Elt F) S3072x128 .f32)), Σ' (LS4 : List (View.Piece (Elt F) S3072x128 .f32)), { LT0 : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_logits_eq_skeleton]; unfold cc0_logits_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.Logits.Gen

end
-- ==== Proof.LogitsAny.lean ====
/-
  The body of the logits call (program Logits) at any point of the grid, whatever its buffers hold: it runs to the end and gives every
  buffer back. Each of the three kinds of point is the corresponding run with its results forgotten.
-/
module

public import proofs.«01_k».proof.Proof.LogitsRunFirst
public import proofs.«01_k».proof.Proof.LogitsRunMid
public import proofs.«01_k».proof.Proof.LogitsRunLast

@[expose] public section

set_option maxRecDepth 16384

noncomputable section

namespace Cert.Logits.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer that was written in pieces is a buffer at some contents. -/
theorem forget_writes (c : Dev nD) {S : Shape} {e : EltTy} (a : Memref sig .tc .vmem S e) (L : List (View.Piece (Elt F) S e)) :
    iprop(∃ f, a.view.loc (c : Thread nD τ) ↦[a.view.set]{fullShare} a.view.writes (Elt F) f L)
      ⊢ (iprop(∃ d, owns (c : Thread nD τ) a fullShare d) : sProp 𝕄) := by
  unfold owns
  iintro ⟨%f, H⟩
  iexists (a.view.read (Elt F) (a.view.writes (Elt F) f L)); iexists (a.view.writes (Elt F) f L)
  isplitr; · ipureintro; exact rfl
  iexact H

/-- The body at the first point, from any contents. -/
theorem body_any_first (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, ⟨%d11, H11⟩, H12, H13, H14, H15, H16⟩, Hk⟩
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 d0 d1 d2 d3 d4 d5 d6 d7).2.2.2.2.2.2.2.2.2 d10 d11 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iapply forget_writes; iexact H8
  isplitl [H9]
  · iapply forget_writes; iexact H9
  isplitl [H10]
  · iexists _; iexact H10
  isplitl [H11]
  · iexists _; iexact H11
  isplitl [H12]
  · iapply forget_writes; iexact H12
  isplitl [H13]
  · iapply forget_writes; iexact H13
  isplitl [H14]
  · iapply forget_writes; iexact H14
  isplitl [H15]
  · iapply forget_writes; iexact H15
  iapply forget_writes; iexact H16

/-- The body at a point in between, from any contents. -/
theorem body_any_mid (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, ⟨%d11, H11⟩, H12, ⟨%d13, H13⟩, ⟨%d14, H14⟩, ⟨%d15, H15⟩, ⟨%d16, H16⟩⟩, Hk⟩
  iapply ((runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 d0 d1 d2 d3 d4 d5 d6 d7 d13 d14 d15 d16).2.2.2.2.2.2.2.2.2 d10 d11 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iapply forget_writes; iexact H8
  isplitl [H9]
  · iapply forget_writes; iexact H9
  isplitl [H10]
  · iexists _; iexact H10
  isplitl [H11]
  · iexists _; iexact H11
  isplitl [H12]
  · iapply forget_writes; iexact H12
  isplitl [H13]
  · iapply forget_writes; iexact H13
  isplitl [H14]
  · iapply forget_writes; iexact H14
  isplitl [H15]
  · iapply forget_writes; iexact H15
  iapply forget_writes; iexact H16

/-- The body at the last point, from any contents. -/
theorem body_any_last (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, ⟨%d13, H13⟩, ⟨%d14, H14⟩, ⟨%d15, H15⟩, ⟨%d16, H16⟩⟩, Hk⟩
  iapply ((runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 d0 d1 d2 d3 d4 d5 d6 d7 d13 d14 d15 d16).2.2.2.2.2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iapply forget_writes; iexact H8
  isplitl [H9]
  · iapply forget_writes; iexact H9
  isplitl [H10]
  · iapply forget_writes; iexact H10
  isplitl [H11]
  · iapply forget_writes; iexact H11
  isplitl [H12]
  · iapply forget_writes; iexact H12
  isplitl [H13]
  · iapply forget_writes; iexact H13
  isplitl [H14]
  · iapply forget_writes; iexact H14
  isplitl [H15]
  · iapply forget_writes; iexact H15
  iapply forget_writes; iexact H16

end Cert.Logits.Gen

end
-- ==== Proof.LogitsFrame.lean ====
/-
  The frame of the logits call (program Logits): whatever the buffers hold, the body runs at every point of the grid and gives every
  buffer back, so that the call ends with its arguments unchanged and every semaphore counter at zero. Nothing is said here of
  what the call computes.
-/
module

public import proofs.«01_k».proof.Proof.Gen.Logits
public import proofs.«01_k».proof.Proof.Gen.Logits.Launch
public import proofs.«01_k».proof.Proof.Gen.Logits.Skeleton
public import proofs.«01_k».proof.Proof.Gen.Logits.Points
public import proofs.«01_k».proof.Proof.Gen.Logits.Frame
public import proofs.«01_k».proof.Proof.LogitsAny
public import Idealize.ShloMosaic.Lib.Pipeline.FrameBody
public import Idealize.ShloMosaic.Lib.Tactic

@[expose] public section

set_option maxRecDepth 16384

noncomputable section

namespace Cert.Logits.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the grid, on whole buffers at any contents: it runs to the end and gives the buffers back. -/
theorem body_any (c : Dev nD) (t : Fin cfg0.N) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hN : t.val < 297 := lt_of_lt_of_eq t.isLt (show cfg0.N = 297 from N_0)
  by_cases h0 : t.val % 297 = 0
  · exact body_any_first c _ _ _ _ _ _ _ _ _ _ _ _ _ _ _ _ _ _ _ _ _ _ _ _ _ _ _ _ _ _ _ _ _ _ _ ((hcond0_0 t).mpr h0) (fun h => by have := (hcond0_1 t).mp h; omega) E K
  · by_cases h1 : t.val % 297 = 296
    · exact body_any_last c _ _ _ _ _ _ _ _ _ _ _ _ _ _ _ _ _ _ _ _ _ _ _ _ _ _ _ _ _ _ _ _ _ _ _ (fun h => h0 ((hcond0_0 t).mp h)) ((hcond0_1 t).mpr h1) E K
    · exact body_any_mid c _ _ _ _ _ _ _ _ _ _ _ _ _ _ _ _ _ _ _ _ _ _ _ _ _ _ _ _ _ _ _ _ _ _ _ (fun h => h0 ((hcond0_0 t).mp h)) (fun h => h1 ((hcond0_1 t).mp h)) E K

variable (m : (ℓ : Loc nD τ sig) → Buf (Elt F) ℓ) (ρ : Dev nD → PrngReg)

/-- Proof data that name nothing of what the body leaves: the arrays as the call finds them, the scratch buffers at any contents. -/
def anyDats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem bodyRow (t : Fin cfg0.N) :
    defs₀ (F := F) .tc cfg0.body (cfg0.bodyArgs t (cfg0.slots t)) = bodyAt0 t := by
  unfold defs₀; rw [Defs.onTc_tc]

/-- The scratch buffers at any contents, each as the whole memref that the body is given. -/
theorem anyScratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

set_option maxHeartbeats 1000000 in
/-- At every point, every window forgotten: the body runs and leaves every buffer at some contents. -/
theorem any_obligation (c : Dev nD) :
    BodyObligation (anyDats (F := F) m 0 c) (defs₀ (F := F)) Variants.none () Set.univ (fun _ => true) := fun t => by
  rw [bigSep_W0, bodyRow]
  show iprop(Pipeline.ΦA spec0 c ∗ (anyDats m 0 c).owesAt () t.castSucc ∗ _) ⊢ wp frame _ _ _ (fun _ => iprop(Pipeline.ΦA spec0 c ∗ (anyDats m 0 c).owesAt () t.castSucc ∗ _))
  rw [anyScratch_eq]
  unfold bodyAt0
  dsimp only
  iintro ⟨⟨⟨H12, H13, H14, H15, H16⟩, Hg⟩, Ho, H0, H1, H2, H3, H4, H5, H6, H7, H8, H9, H10, H11⟩
  iapply body_any
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro ⟨H0, H1, H2, H3, H4, H5, H6, H7, H8, H9, H10, H11, H12, H13, H14, H15, H16⟩
  isplitl [H12 H13 H14 H15 H16 Hg]
  · isplitl [H12 H13 H14 H15 H16]
    · isplitl [H12]; · iexact H12
      isplitl [H13]; · iexact H13
      isplitl [H14]; · iexact H14
      isplitl [H15]; · iexact H15
      iexact H16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
/-- The launch: every input array ends as it was, every other buffer of the program as the call found it, every counter at zero. -/
theorem any_run : θ_run defs (onTc (τ := τ) (main (F := F))) (s₀ m ρ)
    (fun r => Pipeline.RDat.FramePost cfg0 (fun c => (anyDats m 0 c).toRForget (fun _ => true)) (V m) r ∧ r.2.sem = fun _ => 0) :=
  Pipeline.θ_run_frame_forget (Q' := _) cfgs (anyDats m) (0 : Fin 1) launch0 defs₀ Variants.none (fun _ => true) m ρ main
    (hbody := fun c => (any_obligation m c).loose) (hshare := fun c => (anyDats m 0 c).share_full fun _ => rfl)
    (howed := fun _ _ => rfl) (V := V m) (hmain := hmain m Variants.none) (hA := fun _ _ => rfl) (hΦ := fun _ _ => rfl)

/-- The frame: the arguments end as they were, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      (Pipeline.RDat.FramePost.arr_in h.1 c 4 rfl).trans (V_main_arg4 m c),
      (Pipeline.RDat.FramePost.arr_in h.1 c 5 rfl).trans (V_main_arg5 m c),
      (Pipeline.RDat.FramePost.arr_in h.1 c 6 rfl).trans (V_main_arg6 m c),
      ((h.1 c).2 main_arg7 (Pipeline.mem_restRefs_of main_arg7 (by decide) (by decide))).trans (V_main_arg7 m c)⟩, h.2⟩) (any_run m ρ)

end Cert.Logits.Gen

end
-- ==== Proof.LogitsIdealCond.lean ====
/-
  The conditions of the two branches of the logits call's body (program LogitsIdeal), and where in the grid they hold.
-/
module

public import proofs.«01_k».proof.Proof.Gen.LogitsIdeal
public import proofs.«01_k».proof.Proof.Gen.LogitsIdeal.Launch
public import proofs.«01_k».proof.Proof.Gen.LogitsIdeal.Skeleton
public import proofs.«01_k».proof.Proof.Gen.LogitsIdeal.Points
public import proofs.«01_k».proof.Proof.Gen.LogitsIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first condition: the first point of the grid. -/
abbrev cond0_0 (i : grid0.Coords) : Prop := (Scalar.cmpi .ne (Scalar.extui (Scalar.cmpi .eq (BitVec.ofNat 32 (i 0).val) 0#32)) 0#32) = 1#1
/-- The body's second condition: the last point of the grid. -/
abbrev cond0_1 (i : grid0.Coords) : Prop := k0_cond2 i = 1#1

/-- It holds at the first point only — by arithmetic of the point. -/
theorem hcond0_0 : ∀ t : Fin cfg0.N, cond0_0 (grid0.coords t) ↔ t.val % 297 = 0 :=
  (fun t => by
    have ht : t.val < 297 := Nat.lt_of_lt_of_eq t.isLt N_0
    have e0 : (grid0.coords t 0).val = t.val / 1 % 297 := Pipeline.Grid.coords_val t 0 (by decide) rfl
    simp only [cond0_0, e0]
    word_cmp
   : ∀ t : Fin grid0.N, cond0_0 (grid0.coords t) ↔ t.val % 297 = 0)

/-- It holds at the last point only — by arithmetic of the point. -/
theorem hcond0_1 : ∀ t : Fin cfg0.N, cond0_1 (grid0.coords t) ↔ t.val % 297 = 296 :=
  (fun t => by
    have ht : t.val < 297 := Nat.lt_of_lt_of_eq t.isLt N_0
    have e0 : (grid0.coords t 0).val = t.val / 1 % 297 := Pipeline.Grid.coords_val t 0 (by decide) rfl
    simp only [cond0_1, k0_cond2, e0]
    word_cmp
   : ∀ t : Fin grid0.N, cond0_1 (grid0.coords t) ↔ t.val % 297 = 296)

/-- The body written out in its parts: whatever holds of every program holds of it. (This also fixes, once for the modules that run
    the body, the auxiliary statements that the rewriting makes.) -/
theorem body_parts (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (Q : Prog (TpuEff nD τ sig (Elt F) Λ₀ .tc) PUnit → Prop) (hQ : ∀ p, Q p) : Q (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  simp only [cc0_logits_eq_skeleton]; unfold cc0_logits_skel
  simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  exact hQ _

end Cert.LogitsIdeal.Gen

end
-- ==== Proof.LogitsIdealRunFirst.lean ====
/-
  The logits call over the extended reals: its body run at the first point of the grid, where the running maxima and sums are started.
-/
module

public import proofs.«01_k».proof.Proof.LogitsIdealCond

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first point of the grid, where the running maxima and sums are started. From the inputs' contents (and, where they are carried, the running maxima and sums), it
    runs to the end; what it stored into each buffer is the list of pieces found on the way. -/
noncomputable def runFirst (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    Σ' (L8 : List (View.Piece (Elt F) S1x3072x512 .f32)), Σ' (L9 : List (View.Piece (Elt F) S1x3072x512 .f32)), Σ' (L10 : List (View.Piece (Elt F) S3072x128 .f32)), Σ' (L11 : List (View.Piece (Elt F) S3072x128 .f32)), Σ' (LS1 : List (View.Piece (Elt F) S3072x128 .f32)), Σ' (LS2 : List (View.Piece (Elt F) S3072x128 .f32)), Σ' (LS3 : List (View.Piece (Elt F) S3072x128 .f32)), Σ' (LS4 : List (View.Piece (Elt F) S3072x128 .f32)), { LT0 : List (View.Piece (Elt F) S2048x512 .bf16) //
      ∀ (xi10 : Vec F S3072x128 .f32) (xi11 : Vec F S3072x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, ?_, ?_, ?_, ?_, fun xi10 xi11 E K => ?run⟩
  case run =>
    simp only [cc0_logits_eq_skeleton]; unfold cc0_logits_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.LogitsIdeal.Gen

end
-- ==== Proof.LogitsIdealRunMid.lean ====
/-
  The logits call over the extended reals: its body run at a point of the grid that is neither the first nor the last.
-/
module

public import proofs.«01_k».proof.Proof.LogitsIdealCond

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of the grid that is neither the first nor the last. From the inputs' contents (and, where they are carried, the running maxima and sums), it
    runs to the end; what it stored into each buffer is the list of pieces found on the way. -/
noncomputable def runMid (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    Σ' (L8 : List (View.Piece (Elt F) S1x3072x512 .f32)), Σ' (L9 : List (View.Piece (Elt F) S1x3072x512 .f32)), Σ' (L10 : List (View.Piece (Elt F) S3072x128 .f32)), Σ' (L11 : List (View.Piece (Elt F) S3072x128 .f32)), Σ' (LS1 : List (View.Piece (Elt F) S3072x128 .f32)), Σ' (LS2 : List (View.Piece (Elt F) S3072x128 .f32)), Σ' (LS3 : List (View.Piece (Elt F) S3072x128 .f32)), Σ' (LS4 : List (View.Piece (Elt F) S3072x128 .f32)), { LT0 : List (View.Piece (Elt F) S2048x512 .bf16) //
      ∀ (xi10 : Vec F S3072x128 .f32) (xi11 : Vec F S3072x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, ?_, ?_, ?_, ?_, fun xi10 xi11 E K => ?run⟩
  case run =>
    simp only [cc0_logits_eq_skeleton]; unfold cc0_logits_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.LogitsIdeal.Gen

end
-- ==== Proof.LogitsIdealRunLast.lean ====
/-
  The logits call over the extended reals: its body run at the last point of the grid, where the two results per row are formed.
-/
module

public import proofs.«01_k».proof.Proof.LogitsIdealCond

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last point of the grid, where the two results per row are formed. From the inputs' contents (and, where they are carried, the running maxima and sums), it
    runs to the end; what it stored into each buffer is the list of pieces found on the way. -/
noncomputable def runLast (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    Σ' (L8 : List (View.Piece (Elt F) S1x3072x512 .f32)), Σ' (L9 : List (View.Piece (Elt F) S1x3072x512 .f32)), Σ' (L10 : List (View.Piece (Elt F) S3072x128 .f32)), Σ' (L11 : List (View.Piece (Elt F) S3072x128 .f32)), Σ' (LS1 : List (View.Piece (Elt F) S3072x128 .f32)), Σ' (LS2 : List (View.Piece (Elt F) S3072x128 .f32)), Σ' (LS3 : List (View.Piece (Elt F) S3072x128 .f32)), Σ' (LS4 : List (View.Piece (Elt F) S3072x128 .f32)), { LT0 : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_logits_eq_skeleton]; unfold cc0_logits_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.LogitsIdeal.Gen

end
-- ==== Proof.LogitsIdealAny.lean ====
/-
  The body of the logits call (program LogitsIdeal) at any point of the grid, whatever its buffers hold: it runs to the end and gives every
  buffer back. Each of the three kinds of point is the corresponding run with its results forgotten.
-/
module

public import proofs.«01_k».proof.Proof.LogitsIdealRunFirst
public import proofs.«01_k».proof.Proof.LogitsIdealRunMid
public import proofs.«01_k».proof.Proof.LogitsIdealRunLast

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer that was written in pieces is a buffer at some contents. -/
theorem forget_writes (c : Dev nD) {S : Shape} {e : EltTy} (a : Memref sig .tc .vmem S e) (L : List (View.Piece (Elt F) S e)) :
    iprop(∃ f, a.view.loc (c : Thread nD τ) ↦[a.view.set]{fullShare} a.view.writes (Elt F) f L)
      ⊢ (iprop(∃ d, owns (c : Thread nD τ) a fullShare d) : sProp 𝕄) := by
  unfold owns
  iintro ⟨%f, H⟩
  iexists (a.view.read (Elt F) (a.view.writes (Elt F) f L)); iexists (a.view.writes (Elt F) f L)
  isplitr; · ipureintro; exact rfl
  iexact H

/-- The body at the first point, from any contents. -/
theorem body_any_first (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, ⟨%d11, H11⟩, H12, H13, H14, H15, H16⟩, Hk⟩
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 d0 d1 d2 d3 d4 d5 d6 d7).2.2.2.2.2.2.2.2.2 d10 d11 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iapply forget_writes; iexact H8
  isplitl [H9]
  · iapply forget_writes; iexact H9
  isplitl [H10]
  · iexists _; iexact H10
  isplitl [H11]
  · iexists _; iexact H11
  isplitl [H12]
  · iapply forget_writes; iexact H12
  isplitl [H13]
  · iapply forget_writes; iexact H13
  isplitl [H14]
  · iapply forget_writes; iexact H14
  isplitl [H15]
  · iapply forget_writes; iexact H15
  iapply forget_writes; iexact H16

/-- The body at a point in between, from any contents. -/
theorem body_any_mid (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, ⟨%d11, H11⟩, H12, ⟨%d13, H13⟩, ⟨%d14, H14⟩, ⟨%d15, H15⟩, ⟨%d16, H16⟩⟩, Hk⟩
  iapply ((runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 d0 d1 d2 d3 d4 d5 d6 d7 d13 d14 d15 d16).2.2.2.2.2.2.2.2.2 d10 d11 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iapply forget_writes; iexact H8
  isplitl [H9]
  · iapply forget_writes; iexact H9
  isplitl [H10]
  · iexists _; iexact H10
  isplitl [H11]
  · iexists _; iexact H11
  isplitl [H12]
  · iapply forget_writes; iexact H12
  isplitl [H13]
  · iapply forget_writes; iexact H13
  isplitl [H14]
  · iapply forget_writes; iexact H14
  isplitl [H15]
  · iapply forget_writes; iexact H15
  iapply forget_writes; iexact H16

/-- The body at the last point, from any contents. -/
theorem body_any_last (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, ⟨%d13, H13⟩, ⟨%d14, H14⟩, ⟨%d15, H15⟩, ⟨%d16, H16⟩⟩, Hk⟩
  iapply ((runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 d0 d1 d2 d3 d4 d5 d6 d7 d13 d14 d15 d16).2.2.2.2.2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iapply forget_writes; iexact H8
  isplitl [H9]
  · iapply forget_writes; iexact H9
  isplitl [H10]
  · iapply forget_writes; iexact H10
  isplitl [H11]
  · iapply forget_writes; iexact H11
  isplitl [H12]
  · iapply forget_writes; iexact H12
  isplitl [H13]
  · iapply forget_writes; iexact H13
  isplitl [H14]
  · iapply forget_writes; iexact H14
  isplitl [H15]
  · iapply forget_writes; iexact H15
  iapply forget_writes; iexact H16

end Cert.LogitsIdeal.Gen

end
-- ==== Proof.LogitsIdealFrame.lean ====
/-
  The frame of the logits call (program LogitsIdeal): whatever the buffers hold, the body runs at every point of the grid and gives every
  buffer back, so that the call ends with its arguments unchanged and every semaphore counter at zero. Nothing is said here of
  what the call computes.
-/
module

public import proofs.«01_k».proof.Proof.Gen.LogitsIdeal
public import proofs.«01_k».proof.Proof.Gen.LogitsIdeal.Launch
public import proofs.«01_k».proof.Proof.Gen.LogitsIdeal.Skeleton
public import proofs.«01_k».proof.Proof.Gen.LogitsIdeal.Points
public import proofs.«01_k».proof.Proof.Gen.LogitsIdeal.Frame
public import proofs.«01_k».proof.Proof.LogitsIdealAny
public import Idealize.ShloMosaic.Lib.Pipeline.FrameBody
public import Idealize.ShloMosaic.Lib.Tactic

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at a point of the grid, on whole buffers at any contents: it runs to the end and gives the buffers back. -/
theorem body_any (c : Dev nD) (t : Fin cfg0.N) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (E : Set ℕ) (K : PUnit → sProp 𝕄) :
    iprop(iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_logits (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hN : t.val < 297 := lt_of_lt_of_eq t.isLt (show cfg0.N = 297 from N_0)
  by_cases h0 : t.val % 297 = 0
  · exact body_any_first c _ _ _ _ _ _ _ _ _ _ _ _ _ _ _ _ _ _ _ _ _ _ _ _ _ _ _ _ _ _ _ _ _ _ _ ((hcond0_0 t).mpr h0) (fun h => by have := (hcond0_1 t).mp h; omega) E K
  · by_cases h1 : t.val % 297 = 296
    · exact body_any_last c _ _ _ _ _ _ _ _ _ _ _ _ _ _ _ _ _ _ _ _ _ _ _ _ _ _ _ _ _ _ _ _ _ _ _ (fun h => h0 ((hcond0_0 t).mp h)) ((hcond0_1 t).mpr h1) E K
    · exact body_any_mid c _ _ _ _ _ _ _ _ _ _ _ _ _ _ _ _ _ _ _ _ _ _ _ _ _ _ _ _ _ _ _ _ _ _ _ (fun h => h0 ((hcond0_0 t).mp h)) (fun h => h1 ((hcond0_1 t).mp h)) E K

variable (m : (ℓ : Loc nD τ sig) → Buf (Elt F) ℓ) (ρ : Dev nD → PrngReg)

/-- Proof data that name nothing of what the body leaves: the arrays as the call finds them, the scratch buffers at any contents. -/
def anyDats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem bodyRow (t : Fin cfg0.N) :
    defs₀ (F := F) .tc cfg0.body (cfg0.bodyArgs t (cfg0.slots t)) = bodyAt0 t := by
  unfold defs₀; rw [Defs.onTc_tc]

/-- The scratch buffers at any contents, each as the whole memref that the body is given. -/
theorem anyScratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

set_option maxHeartbeats 1000000 in
/-- At every point, every window forgotten: the body runs and leaves every buffer at some contents. -/
theorem any_obligation (c : Dev nD) :
    BodyObligation (anyDats (F := F) m 0 c) (defs₀ (F := F)) Variants.none () Set.univ (fun _ => true) := fun t => by
  rw [bigSep_W0, bodyRow]
  show iprop(Pipeline.ΦA spec0 c ∗ (anyDats m 0 c).owesAt () t.castSucc ∗ _) ⊢ wp frame _ _ _ (fun _ => iprop(Pipeline.ΦA spec0 c ∗ (anyDats m 0 c).owesAt () t.castSucc ∗ _))
  rw [anyScratch_eq]
  unfold bodyAt0
  dsimp only
  iintro ⟨⟨⟨H12, H13, H14, H15, H16⟩, Hg⟩, Ho, H0, H1, H2, H3, H4, H5, H6, H7, H8, H9, H10, H11⟩
  iapply body_any
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro ⟨H0, H1, H2, H3, H4, H5, H6, H7, H8, H9, H10, H11, H12, H13, H14, H15, H16⟩
  isplitl [H12 H13 H14 H15 H16 Hg]
  · isplitl [H12 H13 H14 H15 H16]
    · isplitl [H12]; · iexact H12
      isplitl [H13]; · iexact H13
      isplitl [H14]; · iexact H14
      isplitl [H15]; · iexact H15
      iexact H16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
/-- The launch: every input array ends as it was, every other buffer of the program as the call found it, every counter at zero. -/
theorem any_run : θ_run defs (onTc (τ := τ) (main (F := F))) (s₀ m ρ)
    (fun r => Pipeline.RDat.FramePost cfg0 (fun c => (anyDats m 0 c).toRForget (fun _ => true)) (V m) r ∧ r.2.sem = fun _ => 0) :=
  Pipeline.θ_run_frame_forget (Q' := _) cfgs (anyDats m) (0 : Fin 1) launch0 defs₀ Variants.none (fun _ => true) m ρ main
    (hbody := fun c => (any_obligation m c).loose) (hshare := fun c => (anyDats m 0 c).share_full fun _ => rfl)
    (howed := fun _ _ => rfl) (V := V m) (hmain := hmain m Variants.none) (hA := fun _ _ => rfl) (hΦ := fun _ _ => rfl)

/-- The frame: the arguments end as they were, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      (Pipeline.RDat.FramePost.arr_in h.1 c 4 rfl).trans (V_main_arg4 m c),
      (Pipeline.RDat.FramePost.arr_in h.1 c 5 rfl).trans (V_main_arg5 m c),
      (Pipeline.RDat.FramePost.arr_in h.1 c 6 rfl).trans (V_main_arg6 m c),
      ((h.1 c).2 main_arg7 (Pipeline.mem_restRefs_of main_arg7 (by decide) (by decide))).trans (V_main_arg7 m c)⟩, h.2⟩) (any_run m ρ)

end Cert.LogitsIdeal.Gen

end
-- ==== Proof.GradCond.lean ====
/-
  The conditions of the two branches of the gradient call's body (program Grad), and where in the grid they hold.
-/
module

public import proofs.«01_k».proof.Proof.Gen.Grad
public import proofs.«01_k».proof.Proof.Gen.Grad.Launch
public import proofs.«01_k».proof.Proof.Gen.Grad.Skeleton
public import proofs.«01_k».proof.Proof.Gen.Grad.Points
public import proofs.«01_k».proof.Proof.Gen.Grad.Frame
public import Idealize.ShloMosaic.Lib.Pipeline.FrameBody
public import Idealize.ShloMosaic.Lib.Tactic
public import Idealize.ShloMosaic.Lib.WordCmp
public import proofs.«01_k».proof.Proof.Gen.Grad.Loops

@[expose] public section

set_option maxRecDepth 16384

noncomputable section

namespace Cert.Grad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the vocabulary starts. -/
abbrev cond0_0 (i : grid0.Coords) : Prop := (Scalar.cmpi .ne (Scalar.extui (Scalar.cmpi .eq (BitVec.ofNat 32 (i 1).val) 0#32)) 0#32) = 1#1
/-- The body's second condition: the vocabulary ends. -/
abbrev cond0_1 (i : grid0.Coords) : Prop := k0_cond2 i = 1#1

/-- It holds at the first of each row block's points — by arithmetic of the point. -/
theorem hcond0_0 : ∀ t : Fin cfg0.N, cond0_0 (grid0.coords t) ↔ t.val % 297 = 0 :=
  (fun t => by
    have ht : t.val < 891 := Nat.lt_of_lt_of_eq t.isLt N_0
    have e0 : (grid0.coords t 0).val = t.val / 297 % 3 := Pipeline.Grid.coords_val t 0 (by decide) rfl
    have e1 : (grid0.coords t 1).val = t.val / 1 % 297 := Pipeline.Grid.coords_val t 1 (by decide) rfl
    simp only [cond0_0, e0, e1]
    word_cmp
   : ∀ t : Fin grid0.N, cond0_0 (grid0.coords t) ↔ t.val % 297 = 0)

/-- It holds at the last of each row block's points — by arithmetic of the point. -/
theorem hcond0_1 : ∀ t : Fin cfg0.N, cond0_1 (grid0.coords t) ↔ t.val % 297 = 296 :=
  (fun t => by
    have ht : t.val < 891 := Nat.lt_of_lt_of_eq t.isLt N_0
    have e0 : (grid0.coords t 0).val = t.val / 297 % 3 := Pipeline.Grid.coords_val t 0 (by decide) rfl
    have e1 : (grid0.coords t 1).val = t.val / 1 % 297 := Pipeline.Grid.coords_val t 1 (by decide) rfl
    simp only [cond0_1, k0_cond2, e0, e1]
    word_cmp
   : ∀ t : Fin grid0.N, cond0_1 (grid0.coords t) ↔ t.val % 297 = 296)

/-- The body written out in its parts: whatever holds of every program holds of it. (This also fixes, once for the modules that run
    the body, the auxiliary statements that the rewriting makes.) -/
theorem body_parts (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (Q : Prog (TpuEff nD τ sig (Elt F) Λ₀ .tc) PUnit → Prop) (hQ : ∀ p, Q p) : Q (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  simp only [cc0_grad_eq_skeleton]; unfold cc0_grad_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  exact hQ _

end Cert.Grad.Gen

end
-- ==== Proof.GradRunFirst.lean ====
/-
  The gradient call: its body run at a point where the vocabulary starts, at which the accumulators are cleared.
-/
module

public import proofs.«01_k».proof.Proof.GradCond

@[expose] public section

set_option maxRecDepth 16384

noncomputable section

namespace Cert.Grad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point where the vocabulary starts, at which the accumulators are cleared. From the inputs' contents (and, where they are carried, the accumulators), it
    runs to the end; what it stored into each buffer is the list of pieces found on the way. -/
noncomputable def runFirst (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) :
    Σ' (LS1 : List (View.Piece (Elt F) S1024x1536 .f32)), Σ' (LS2 : List (View.Piece (Elt F) S1024x1536 .f32)), Σ' (LS3 : List (View.Piece (Elt F) S1024x128 .f32)), Σ' (LS4 : List (View.Piece (Elt F) S1024x128 .f32)), { LT0 : List (View.Piece (Elt F) S512x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4)) -∗ K ⟨⟩))
          ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_grad_eq_skeleton]; unfold cc0_grad_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.Grad.Gen

end
-- ==== Proof.GradRunMid.lean ====
/-
  The gradient call: its body run at a point that is neither the start nor the end of the vocabulary.
-/
module

public import proofs.«01_k».proof.Proof.GradCond

@[expose] public section

set_option maxRecDepth 16384

noncomputable section

namespace Cert.Grad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point that is neither the start nor the end of the vocabulary. From the inputs' contents (and, where they are carried, the accumulators), it
    runs to the end; what it stored into each buffer is the list of pieces found on the way. -/
noncomputable def runMid (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) (xs1 : Vec F S1024x1536 .f32) (xs2 : Vec F S1024x1536 .f32) (xs3 : Vec F S1024x128 .f32) (xs4 : Vec F S1024x128 .f32) :
    Σ' (LS1 : List (View.Piece (Elt F) S1024x1536 .f32)), Σ' (LS2 : List (View.Piece (Elt F) S1024x1536 .f32)), Σ' (LS3 : List (View.Piece (Elt F) S1024x128 .f32)), Σ' (LS4 : List (View.Piece (Elt F) S1024x128 .f32)), { LT0 : List (View.Piece (Elt F) S512x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ owns (c : Thread nD τ) arg18 fullShare xs3 ∗ owns (c : Thread nD τ) arg19 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4)) -∗ K ⟨⟩))
          ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_grad_eq_skeleton]; unfold cc0_grad_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs1; obtain rfl := harg17.eq_unread hfs2; obtain rfl := harg18.eq_unread hfs3; obtain rfl := harg19.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.Grad.Gen

end
-- ==== Proof.GradRunLast.lean ====
/-
  The gradient call: its body run at a point where the vocabulary ends, at which the results of the row block are formed.
-/
module

public import proofs.«01_k».proof.Proof.GradCond

@[expose] public section

set_option maxRecDepth 16384

noncomputable section

namespace Cert.Grad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point where the vocabulary ends, at which the results of the row block are formed. From the inputs' contents (and, where they are carried, the accumulators), it
    runs to the end; what it stored into each buffer is the list of pieces found on the way. -/
noncomputable def runLast (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) (xs1 : Vec F S1024x1536 .f32) (xs2 : Vec F S1024x1536 .f32) (xs3 : Vec F S1024x128 .f32) (xs4 : Vec F S1024x128 .f32) :
    Σ' (LS1 : List (View.Piece (Elt F) S1024x1536 .f32)), Σ' (LS2 : List (View.Piece (Elt F) S1024x1536 .f32)), Σ' (LS3 : List (View.Piece (Elt F) S1024x128 .f32)), Σ' (LS4 : List (View.Piece (Elt F) S1024x128 .f32)), { LT0 : List (View.Piece (Elt F) S512x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ owns (c : Thread nD τ) arg18 fullShare xs3 ∗ owns (c : Thread nD τ) arg19 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4)) -∗ K ⟨⟩))
          ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_grad_eq_skeleton]; unfold cc0_grad_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs1; obtain rfl := harg17.eq_unread hfs2; obtain rfl := harg18.eq_unread hfs3; obtain rfl := harg19.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.Grad.Gen

end
-- ==== Proof.GradAny.lean ====
/-
  The body of the gradient call (program Grad) at any point of the grid, whatever its buffers hold: it runs to the end and gives every
  buffer back. Each of the three kinds of point is the corresponding run with its results forgotten.
-/
module

public import proofs.«01_k».proof.Proof.GradRunFirst
public import proofs.«01_k».proof.Proof.GradRunMid
public import proofs.«01_k».proof.Proof.GradRunLast

@[expose] public section

set_option maxRecDepth 16384

noncomputable section

namespace Cert.Grad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer that was written in pieces is a buffer at some contents. -/
theorem forget_writes (c : Dev nD) {S : Shape} {e : EltTy} (a : Memref sig .tc .vmem S e) (L : List (View.Piece (Elt F) S e)) :
    iprop(∃ f, a.view.loc (c : Thread nD τ) ↦[a.view.set]{fullShare} a.view.writes (Elt F) f L)
      ⊢ (iprop(∃ d, owns (c : Thread nD τ) a fullShare d) : sProp 𝕄) := by
  unfold owns
  iintro ⟨%f, H⟩
  iexists (a.view.read (Elt F) (a.view.writes (Elt F) f L)); iexists (a.view.writes (Elt F) f L)
  isplitr; · ipureintro; exact rfl
  iexact H

/-- The body at a point where the vocabulary starts, at which the accumulators are cleared, from any contents. -/
theorem body_any_first (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15, H16, H17⟩, Hk⟩
  iapply ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 d0 d1 d2 d3 d4 d5 d6 d7 d8 d9).2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexact H10
  isplitl [H11]
  · iexact H11
  isplitl [H12]
  · iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

/-- The body at a point that is neither the start nor the end of the vocabulary, from any contents. -/
theorem body_any_mid (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, ⟨%d14, H14⟩, ⟨%d15, H15⟩, ⟨%d16, H16⟩, ⟨%d17, H17⟩⟩, Hk⟩
  iapply ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 d0 d1 d2 d3 d4 d5 d6 d7 d8 d9 d14 d15 d16 d17).2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexact H10
  isplitl [H11]
  · iexact H11
  isplitl [H12]
  · iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

/-- The body at a point where the vocabulary ends, at which the results of the row block are formed, from any contents. -/
theorem body_any_last (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, ⟨%d14, H14⟩, ⟨%d15, H15⟩, ⟨%d16, H16⟩, ⟨%d17, H17⟩⟩, Hk⟩
  iapply ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 d0 d1 d2 d3 d4 d5 d6 d7 d8 d9 d14 d15 d16 d17).2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexact H10
  isplitl [H11]
  · iexact H11
  isplitl [H12]
  · iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

end Cert.Grad.Gen

end
-- ==== Proof.GradFrame.lean ====
/-
  The frame of the gradient call (program Grad): whatever the buffers hold, the body runs at every point of the grid and gives every
  buffer back, so that the call ends with its arguments unchanged and every semaphore counter at zero. Nothing is said here of
  what the call computes.
-/
module

public import proofs.«01_k».proof.Proof.Gen.Grad
public import proofs.«01_k».proof.Proof.Gen.Grad.Launch
public import proofs.«01_k».proof.Proof.Gen.Grad.Skeleton
public import proofs.«01_k».proof.Proof.Gen.Grad.Points
public import proofs.«01_k».proof.Proof.Gen.Grad.Frame
public import proofs.«01_k».proof.Proof.GradAny
public import Idealize.ShloMosaic.Lib.Pipeline.FrameBody
public import Idealize.ShloMosaic.Lib.Tactic

@[expose] public section

set_option maxRecDepth 16384

noncomputable section

namespace Cert.Grad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the grid, on whole buffers at any contents: it runs to the end and gives the buffers back. -/
theorem body_any (c : Dev nD) (t : Fin cfg0.N) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases h0 : t.val % 297 = 0
  · exact body_any_first c _ _ _ _ _ _ _ _ _ _ _ _ _ _ _ _ _ _ _ _ _ _ _ _ _ _ _ _ _ _ _ _ _ _ _ _ _ ((hcond0_0 t).mpr h0) (fun h => by have := (hcond0_1 t).mp h; omega) E K
  · by_cases h1 : t.val % 297 = 296
    · exact body_any_last c _ _ _ _ _ _ _ _ _ _ _ _ _ _ _ _ _ _ _ _ _ _ _ _ _ _ _ _ _ _ _ _ _ _ _ _ _ (fun h => h0 ((hcond0_0 t).mp h)) ((hcond0_1 t).mpr h1) E K
    · exact body_any_mid c _ _ _ _ _ _ _ _ _ _ _ _ _ _ _ _ _ _ _ _ _ _ _ _ _ _ _ _ _ _ _ _ _ _ _ _ _ (fun h => h0 ((hcond0_0 t).mp h)) (fun h => h1 ((hcond0_1 t).mp h)) E K

variable (m : (ℓ : Loc nD τ sig) → Buf (Elt F) ℓ) (ρ : Dev nD → PrngReg)

/-- Proof data that name nothing of what the body leaves: the arrays as the call finds them, the scratch buffers at any contents. -/
def anyDats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem bodyRow (t : Fin cfg0.N) :
    defs₀ (F := F) .tc cfg0.body (cfg0.bodyArgs t (cfg0.slots t)) = bodyAt0 t := by
  unfold defs₀; rw [Defs.onTc_tc]

/-- The scratch buffers at any contents, each as the whole memref that the body is given. -/
theorem anyScratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

set_option maxHeartbeats 1000000 in
/-- At every point, every window forgotten: the body runs and leaves every buffer at some contents. -/
theorem any_obligation (c : Dev nD) :
    BodyObligation (anyDats (F := F) m 0 c) (defs₀ (F := F)) Variants.none () Set.univ (fun _ => true) := fun t => by
  rw [bigSep_W0, bodyRow]
  show iprop(Pipeline.ΦA spec0 c ∗ (anyDats m 0 c).owesAt () t.castSucc ∗ _) ⊢ wp frame _ _ _ (fun _ => iprop(Pipeline.ΦA spec0 c ∗ (anyDats m 0 c).owesAt () t.castSucc ∗ _))
  rw [anyScratch_eq]
  unfold bodyAt0
  dsimp only
  iintro ⟨⟨⟨H13, H14, H15, H16, H17⟩, Hg⟩, Ho, H0, H1, H2, H3, H4, H5, H6, H7, H8, H9, H10, H11, H12⟩
  iapply body_any
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro ⟨H0, H1, H2, H3, H4, H5, H6, H7, H8, H9, H10, H11, H12, H13, H14, H15, H16, H17⟩
  isplitl [H13 H14 H15 H16 H17 Hg]
  · isplitl [H13 H14 H15 H16 H17]
    · isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option backward.isDefEq.respectTransparency.types false in
/-- The launch: every input array ends as it was, every other buffer of the program as the call found it, every counter at zero. -/
theorem any_run : θ_run defs (onTc (τ := τ) (main (F := F))) (s₀ m ρ)
    (fun r => Pipeline.RDat.FramePost cfg0 (fun c => (anyDats m 0 c).toRForget (fun _ => true)) (V m) r ∧ r.2.sem = fun _ => 0) :=
  Pipeline.θ_run_frame_forget (Q' := _) cfgs (anyDats m) (0 : Fin 1) launch0 defs₀ Variants.none (fun _ => true) m ρ main
    (hbody := fun c => (any_obligation m c).loose) (hshare := fun c => (anyDats m 0 c).share_full fun _ => rfl)
    (howed := fun _ _ => rfl) (V := V m) (hmain := hmain m Variants.none) (hA := fun _ _ => rfl) (hΦ := fun _ _ => rfl)

/-- The frame: the arguments end as they were, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 5 rfl).trans (V_main_arg5 m c),
      ((h.1 c).2 main_arg6 (Pipeline.mem_restRefs_of main_arg6 (by decide) (by decide))).trans (V_main_arg6 m c),
      (Pipeline.RDat.FramePost.arr_in h.1 c 7 rfl).trans (V_main_arg7 m c),
      (Pipeline.RDat.FramePost.arr_in h.1 c 8 rfl).trans (V_main_arg8 m c),
      ((h.1 c).2 main_arg9 (Pipeline.mem_restRefs_of main_arg9 (by decide) (by decide))).trans (V_main_arg9 m c)⟩, h.2⟩) (any_run m ρ)

end Cert.Grad.Gen

end
-- ==== Proof.GradIdealCond.lean ====
/-
  The conditions of the two branches of the gradient call's body (program GradIdeal), and where in the grid they hold.
-/
module

public import proofs.«01_k».proof.Proof.Gen.GradIdeal
public import proofs.«01_k».proof.Proof.Gen.GradIdeal.Launch
public import proofs.«01_k».proof.Proof.Gen.GradIdeal.Skeleton
public import proofs.«01_k».proof.Proof.Gen.GradIdeal.Points
public import proofs.«01_k».proof.Proof.Gen.GradIdeal.Frame
public import Idealize.ShloMosaic.Lib.Pipeline.FrameBody
public import Idealize.ShloMosaic.Lib.Tactic
public import Idealize.ShloMosaic.Lib.WordCmp
public import proofs.«01_k».proof.Proof.Gen.GradIdeal.Loops

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first condition: the vocabulary starts. -/
abbrev cond0_0 (i : grid0.Coords) : Prop := (Scalar.cmpi .ne (Scalar.extui (Scalar.cmpi .eq (BitVec.ofNat 32 (i 1).val) 0#32)) 0#32) = 1#1
/-- The body's second condition: the vocabulary ends. -/
abbrev cond0_1 (i : grid0.Coords) : Prop := k0_cond2 i = 1#1

/-- It holds at the first of each row block's points — by arithmetic of the point. -/
theorem hcond0_0 : ∀ t : Fin cfg0.N, cond0_0 (grid0.coords t) ↔ t.val % 297 = 0 :=
  (fun t => by
    have ht : t.val < 891 := Nat.lt_of_lt_of_eq t.isLt N_0
    have e0 : (grid0.coords t 0).val = t.val / 297 % 3 := Pipeline.Grid.coords_val t 0 (by decide) rfl
    have e1 : (grid0.coords t 1).val = t.val / 1 % 297 := Pipeline.Grid.coords_val t 1 (by decide) rfl
    simp only [cond0_0, e0, e1]
    word_cmp
   : ∀ t : Fin grid0.N, cond0_0 (grid0.coords t) ↔ t.val % 297 = 0)

/-- It holds at the last of each row block's points — by arithmetic of the point. -/
theorem hcond0_1 : ∀ t : Fin cfg0.N, cond0_1 (grid0.coords t) ↔ t.val % 297 = 296 :=
  (fun t => by
    have ht : t.val < 891 := Nat.lt_of_lt_of_eq t.isLt N_0
    have e0 : (grid0.coords t 0).val = t.val / 297 % 3 := Pipeline.Grid.coords_val t 0 (by decide) rfl
    have e1 : (grid0.coords t 1).val = t.val / 1 % 297 := Pipeline.Grid.coords_val t 1 (by decide) rfl
    simp only [cond0_1, k0_cond2, e0, e1]
    word_cmp
   : ∀ t : Fin grid0.N, cond0_1 (grid0.coords t) ↔ t.val % 297 = 296)

/-- The body written out in its parts: whatever holds of every program holds of it. (This also fixes, once for the modules that run
    the body, the auxiliary statements that the rewriting makes.) -/
theorem body_parts (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (Q : Prog (TpuEff nD τ sig (Elt F) Λ₀ .tc) PUnit → Prop) (hQ : ∀ p, Q p) : Q (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  simp only [cc0_grad_eq_skeleton]; unfold cc0_grad_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  exact hQ _

end Cert.GradIdeal.Gen

end
-- ==== Proof.GradIdealRunFirst.lean ====
/-
  The gradient call over the extended reals: its body run at a point where the vocabulary starts, at which the accumulators are cleared.
-/
module

public import proofs.«01_k».proof.Proof.GradIdealCond

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at a point where the vocabulary starts, at which the accumulators are cleared. From the inputs' contents (and, where they are carried, the accumulators), it
    runs to the end; what it stored into each buffer is the list of pieces found on the way. -/
noncomputable def runFirst (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) :
    Σ' (L10 : List (View.Piece (Elt F) S1024x128 .f32)), Σ' (L11 : List (View.Piece (Elt F) S1024x1536 .bf16)), Σ' (L12 : List (View.Piece (Elt F) S1024x1536 .f32)), Σ' (LS1 : List (View.Piece (Elt F) S1024x1536 .f32)), Σ' (LS2 : List (View.Piece (Elt F) S1024x1536 .f32)), Σ' (LS3 : List (View.Piece (Elt F) S1024x128 .f32)), Σ' (LS4 : List (View.Piece (Elt F) S1024x128 .f32)), { LT0 : List (View.Piece (Elt F) S512x1536 .bf16) //
      ∀ (xi10 : Vec F S1024x128 .f32) (xi11 : Vec F S1024x1536 .bf16) (xi12 : Vec F S1024x1536 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4)) -∗ K ⟨⟩))
          ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], [], ?_, ?_, ?_, ?_, ?_, fun xi10 xi11 xi12 E K => ?run⟩
  case run =>
    simp only [cc0_grad_eq_skeleton]; unfold cc0_grad_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]; · iexists _; iexact HS2
    isplitl [HS3]; · iexists _; iexact HS3
    iexists _; iexact HS4

end Cert.GradIdeal.Gen

end
-- ==== Proof.GradIdealRunMid.lean ====
/-
  The gradient call over the extended reals: its body run at a point that is neither the start nor the end of the vocabulary.
-/
module

public import proofs.«01_k».proof.Proof.GradIdealCond

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at a point that is neither the start nor the end of the vocabulary. From the inputs' contents (and, where they are carried, the accumulators), it
    runs to the end; what it stored into each buffer is the list of pieces found on the way. -/
noncomputable def runMid (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) (xs1 : Vec F S1024x1536 .f32) (xs2 : Vec F S1024x1536 .f32) (xs3 : Vec F S1024x128 .f32) (xs4 : Vec F S1024x128 .f32) :
    Σ' (L10 : List (View.Piece (Elt F) S1024x128 .f32)), Σ' (L11 : List (View.Piece (Elt F) S1024x1536 .bf16)), Σ' (L12 : List (View.Piece (Elt F) S1024x1536 .f32)), Σ' (LS1 : List (View.Piece (Elt F) S1024x1536 .f32)), Σ' (LS2 : List (View.Piece (Elt F) S1024x1536 .f32)), Σ' (LS3 : List (View.Piece (Elt F) S1024x128 .f32)), Σ' (LS4 : List (View.Piece (Elt F) S1024x128 .f32)), { LT0 : List (View.Piece (Elt F) S512x1536 .bf16) //
      ∀ (xi10 : Vec F S1024x128 .f32) (xi11 : Vec F S1024x1536 .bf16) (xi12 : Vec F S1024x1536 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ d, owns (c : Thread nD τ) arg15 fullShare d) ∗ owns (c : Thread nD τ) arg16 fullShare xs1 ∗ owns (c : Thread nD τ) arg17 fullShare xs2 ∗ owns (c : Thread nD τ) arg18 fullShare xs3 ∗ owns (c : Thread nD τ) arg19 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4)) -∗ K ⟨⟩))
          ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], [], ?_, ?_, ?_, ?_, ?_, fun xi10 xi11 xi12 E K => ?run⟩
  case run =>
    simp only [cc0_grad_eq_skeleton]; unfold cc0_grad_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hfs1; obtain rfl := harg17.eq_unread hfs2; obtain rfl := harg18.eq_unread hfs3; obtain rfl := harg19.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]; · iexists _; iexact HS2
    isplitl [HS3]; · iexists _; iexact HS3
    iexists _; iexact HS4

end Cert.GradIdeal.Gen

end
-- ==== Proof.GradIdealRunLast.lean ====
/-
  The gradient call over the extended reals: its body run at a point where the vocabulary ends, at which the results of the row block are formed.
-/
module

public import proofs.«01_k».proof.Proof.GradIdealCond

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at a point where the vocabulary ends, at which the results of the row block are formed. From the inputs' contents (and, where they are carried, the accumulators), it
    runs to the end; what it stored into each buffer is the list of pieces found on the way. -/
noncomputable def runLast (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) (xs1 : Vec F S1024x1536 .f32) (xs2 : Vec F S1024x1536 .f32) (xs3 : Vec F S1024x128 .f32) (xs4 : Vec F S1024x128 .f32) :
    Σ' (L10 : List (View.Piece (Elt F) S1024x128 .f32)), Σ' (L11 : List (View.Piece (Elt F) S1024x1536 .bf16)), Σ' (L12 : List (View.Piece (Elt F) S1024x1536 .f32)), Σ' (LS1 : List (View.Piece (Elt F) S1024x1536 .f32)), Σ' (LS2 : List (View.Piece (Elt F) S1024x1536 .f32)), Σ' (LS3 : List (View.Piece (Elt F) S1024x128 .f32)), Σ' (LS4 : List (View.Piece (Elt F) S1024x128 .f32)), { LT0 : List (View.Piece (Elt F) S512x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs1 ∗ owns (c : Thread nD τ) arg17 fullShare xs2 ∗ owns (c : Thread nD τ) arg18 fullShare xs3 ∗ owns (c : Thread nD τ) arg19 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4)) -∗ K ⟨⟩))
          ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_grad_eq_skeleton]; unfold cc0_grad_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs1; obtain rfl := harg17.eq_unread hfs2; obtain rfl := harg18.eq_unread hfs3; obtain rfl := harg19.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    iexists _; iexact HS4

end Cert.GradIdeal.Gen

end
-- ==== Proof.GradIdealAny.lean ====
/-
  The body of the gradient call (program GradIdeal) at any point of the grid, whatever its buffers hold: it runs to the end and gives every
  buffer back. Each of the three kinds of point is the corresponding run with its results forgotten.
-/
module

public import proofs.«01_k».proof.Proof.GradIdealRunFirst
public import proofs.«01_k».proof.Proof.GradIdealRunMid
public import proofs.«01_k».proof.Proof.GradIdealRunLast

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer that was written in pieces is a buffer at some contents. -/
theorem forget_writes (c : Dev nD) {S : Shape} {e : EltTy} (a : Memref sig .tc .vmem S e) (L : List (View.Piece (Elt F) S e)) :
    iprop(∃ f, a.view.loc (c : Thread nD τ) ↦[a.view.set]{fullShare} a.view.writes (Elt F) f L)
      ⊢ (iprop(∃ d, owns (c : Thread nD τ) a fullShare d) : sProp 𝕄) := by
  unfold owns
  iintro ⟨%f, H⟩
  iexists (a.view.read (Elt F) (a.view.writes (Elt F) f L)); iexists (a.view.writes (Elt F) f L)
  isplitr; · ipureintro; exact rfl
  iexact H

/-- The body at a point where the vocabulary starts, at which the accumulators are cleared, from any contents. -/
theorem body_any_first (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17⟩, Hk⟩
  iapply ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 d0 d1 d2 d3 d4 d5 d6 d7 d8 d9).2.2.2.2.2.2.2.2 d10 d11 d12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

/-- The body at a point that is neither the start nor the end of the vocabulary, from any contents. -/
theorem body_any_mid (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, ⟨%d14, H14⟩, ⟨%d15, H15⟩, ⟨%d16, H16⟩, ⟨%d17, H17⟩⟩, Hk⟩
  iapply ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 d0 d1 d2 d3 d4 d5 d6 d7 d8 d9 d14 d15 d16 d17).2.2.2.2.2.2.2.2 d10 d11 d12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

/-- The body at a point where the vocabulary ends, at which the results of the row block are formed, from any contents. -/
theorem body_any_last (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, ⟨%d14, H14⟩, ⟨%d15, H15⟩, ⟨%d16, H16⟩, ⟨%d17, H17⟩⟩, Hk⟩
  iapply ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 d0 d1 d2 d3 d4 d5 d6 d7 d8 d9 d14 d15 d16 d17).2.2.2.2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iapply forget_writes; iexact H10
  isplitl [H11]
  · iapply forget_writes; iexact H11
  isplitl [H12]
  · iapply forget_writes; iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

end Cert.GradIdeal.Gen

end
-- ==== Proof.GradIdealFrame.lean ====
/-
  The frame of the gradient call (program GradIdeal): whatever the buffers hold, the body runs at every point of the grid and gives every
  buffer back, so that the call ends with its arguments unchanged and every semaphore counter at zero. Nothing is said here of
  what the call computes.
-/
module

public import proofs.«01_k».proof.Proof.Gen.GradIdeal
public import proofs.«01_k».proof.Proof.Gen.GradIdeal.Launch
public import proofs.«01_k».proof.Proof.Gen.GradIdeal.Skeleton
public import proofs.«01_k».proof.Proof.Gen.GradIdeal.Points
public import proofs.«01_k».proof.Proof.Gen.GradIdeal.Frame
public import proofs.«01_k».proof.Proof.GradIdealAny
public import Idealize.ShloMosaic.Lib.Pipeline.FrameBody
public import Idealize.ShloMosaic.Lib.Tactic

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at a point of the grid, on whole buffers at any contents: it runs to the end and gives the buffers back. -/
theorem body_any (c : Dev nD) (t : Fin cfg0.N) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (E : Set ℕ) (K : PUnit → sProp 𝕄) :
    iprop(iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_grad (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases h0 : t.val % 297 = 0
  · exact body_any_first c _ _ _ _ _ _ _ _ _ _ _ _ _ _ _ _ _ _ _ _ _ _ _ _ _ _ _ _ _ _ _ _ _ _ _ _ _ ((hcond0_0 t).mpr h0) (fun h => by have := (hcond0_1 t).mp h; omega) E K
  · by_cases h1 : t.val % 297 = 296
    · exact body_any_last c _ _ _ _ _ _ _ _ _ _ _ _ _ _ _ _ _ _ _ _ _ _ _ _ _ _ _ _ _ _ _ _ _ _ _ _ _ (fun h => h0 ((hcond0_0 t).mp h)) ((hcond0_1 t).mpr h1) E K
    · exact body_any_mid c _ _ _ _ _ _ _ _ _ _ _ _ _ _ _ _ _ _ _ _ _ _ _ _ _ _ _ _ _ _ _ _ _ _ _ _ _ (fun h => h0 ((hcond0_0 t).mp h)) (fun h => h1 ((hcond0_1 t).mp h)) E K

variable (m : (ℓ : Loc nD τ sig) → Buf (Elt F) ℓ) (ρ : Dev nD → PrngReg)

/-- Proof data that name nothing of what the body leaves: the arrays as the call finds them, the scratch buffers at any contents. -/
def anyDats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem bodyRow (t : Fin cfg0.N) :
    defs₀ (F := F) .tc cfg0.body (cfg0.bodyArgs t (cfg0.slots t)) = bodyAt0 t := by
  unfold defs₀; rw [Defs.onTc_tc]

/-- The scratch buffers at any contents, each as the whole memref that the body is given. -/
theorem anyScratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

set_option maxHeartbeats 1000000 in
/-- At every point, every window forgotten: the body runs and leaves every buffer at some contents. -/
theorem any_obligation (c : Dev nD) :
    BodyObligation (anyDats (F := F) m 0 c) (defs₀ (F := F)) Variants.none () Set.univ (fun _ => true) := fun t => by
  rw [bigSep_W0, bodyRow]
  show iprop(Pipeline.ΦA spec0 c ∗ (anyDats m 0 c).owesAt () t.castSucc ∗ _) ⊢ wp frame _ _ _ (fun _ => iprop(Pipeline.ΦA spec0 c ∗ (anyDats m 0 c).owesAt () t.castSucc ∗ _))
  rw [anyScratch_eq]
  unfold bodyAt0
  dsimp only
  iintro ⟨⟨⟨H13, H14, H15, H16, H17⟩, Hg⟩, Ho, H0, H1, H2, H3, H4, H5, H6, H7, H8, H9, H10, H11, H12⟩
  iapply body_any
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro ⟨H0, H1, H2, H3, H4, H5, H6, H7, H8, H9, H10, H11, H12, H13, H14, H15, H16, H17⟩
  isplitl [H13 H14 H15 H16 H17 Hg]
  · isplitl [H13 H14 H15 H16 H17]
    · isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option backward.isDefEq.respectTransparency.types false in
/-- The launch: every input array ends as it was, every other buffer of the program as the call found it, every counter at zero. -/
theorem any_run : θ_run defs (onTc (τ := τ) (main (F := F))) (s₀ m ρ)
    (fun r => Pipeline.RDat.FramePost cfg0 (fun c => (anyDats m 0 c).toRForget (fun _ => true)) (V m) r ∧ r.2.sem = fun _ => 0) :=
  Pipeline.θ_run_frame_forget (Q' := _) cfgs (anyDats m) (0 : Fin 1) launch0 defs₀ Variants.none (fun _ => true) m ρ main
    (hbody := fun c => (any_obligation m c).loose) (hshare := fun c => (anyDats m 0 c).share_full fun _ => rfl)
    (howed := fun _ _ => rfl) (V := V m) (hmain := hmain m Variants.none) (hA := fun _ _ => rfl) (hΦ := fun _ _ => rfl)

/-- The frame: the arguments end as they were, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 5 rfl).trans (V_main_arg5 m c),
      ((h.1 c).2 main_arg6 (Pipeline.mem_restRefs_of main_arg6 (by decide) (by decide))).trans (V_main_arg6 m c),
      (Pipeline.RDat.FramePost.arr_in h.1 c 7 rfl).trans (V_main_arg7 m c),
      (Pipeline.RDat.FramePost.arr_in h.1 c 8 rfl).trans (V_main_arg8 m c),
      ((h.1 c).2 main_arg9 (Pipeline.mem_restRefs_of main_arg9 (by decide) (by decide))).trans (V_main_arg9 m c)⟩, h.2⟩) (any_run m ρ)

end Cert.GradIdeal.Gen

end
-- ==== Proof.LogitsForm.lean ====
/-
  The logits call: what one point of the grid stores, as one function for every block of rows and every group of
  columns. The body is written out block by block; here each block is an instance of the same function.
-/
module

public import proofs.«01_k».proof.Proof.LogitsIdealCond

@[expose] public section

noncomputable section

namespace Cert.LogitsIdeal.Gen

open Idealize.ShloMosaic Idealize.ShloMosaic.TcCoe Idealize.ShloMosaic.Tactic

variable {F : FTy → Type} [FloatOps F] [Named F]

/-- Column group `k` of tile `a` lies inside the vocabulary. -/
def liveBit (a k : BitVec 32) : BitVec 1 := Scalar.cmpi .slt (Scalar.muli (Scalar.addi (Scalar.muli a 4#32) k) 128#32) 151936#32

theorem slicesZ {k : ℕ} (hk : k < 4) : S512x512.Slices ![0, 128 * k] S512x128 :=
  ⟨rfl, fun a => by match a with | ⟨0, _⟩ => show 0 + 512 ≤ 512; omega | ⟨1, _⟩ => show 128 * k + 128 ≤ 512; omega⟩
theorem slicesW {k : ℕ} (hk : k < 4) : S1x512.Slices ![0, 128 * k] S1x128 :=
  ⟨rfl, fun a => by match a with | ⟨0, _⟩ => show 0 + 1 ≤ 1; omega | ⟨1, _⟩ => show 128 * k + 128 ≤ 512; omega⟩

/-- One group of scaled teacher logits of a block of rows. -/
def ztV (a : BitVec 32) (k : ℕ) (hk : k < 4) (acc : FVec F S512x512 .f32) : FVec F S512x128 .f32 :=
  Scalar.select (liveBit a (BitVec.ofNat 32 k))
    (mulf (extractStridedSlice S512x128 ![0, 128 * k] acc (slicesZ hk)) (broadcast S512x128 (Named.named κ "half_log2e" 0x3F38AA3B#32)))
    (broadcast S512x128 (Named.named κ "minus_inf" 0xF149F2CA#32))

/-- One group of scaled student logits of a block of rows. -/
def zsV (w : FVec F S1x512 .f32) (ysc : FVec F S512x128 .f32) (a : BitVec 32) (k : ℕ) (hk : k < 4) (acc : FVec F S512x512 .f32) : FVec F S512x128 .f32 :=
  Scalar.select (liveBit a (BitVec.ofNat 32 k))
    (mulf (mulf (extractStridedSlice S512x128 ![0, 128 * k] acc (slicesZ hk)) ysc)
      (broadcastTo S512x128 (extractStridedSlice S1x128 ![0, 128 * k] w (slicesW hk)) broadcasts_S1x128_S512x128))
    (broadcast S512x128 (Named.named κ "minus_inf" 0xF149F2CA#32))

/-- The running maximum after four groups. -/
def maxV (z : (k : ℕ) → k < 4 → FVec F S512x128 .f32) (m : FVec F S512x128 .f32) : FVec F S512x128 .f32 :=
  maximumf (maximumf (maximumf (maximumf m (z 0 (by decide))) (z 1 (by decide))) (z 2 (by decide))) (z 3 (by decide))

/-- The running sum after four groups. -/
def sumV (z : (k : ℕ) → k < 4 → FVec F S512x128 .f32) (m s : FVec F S512x128 .f32) : FVec F S512x128 .f32 :=
  addf (addf (addf (addf (mulf s (exp2 (subf m (maxV z m)))) (exp2 (subf (z 0 (by decide)) (maxV z m))))
    (exp2 (subf (z 1 (by decide)) (maxV z m)))) (exp2 (subf (z 2 (by decide)) (maxV z m)))) (exp2 (subf (z 3 (by decide)) (maxV z m)))

theorem inbR {n : ℕ} {c : ℕ} (hc : c < 6) : ∀ a, (![512 * c, 0] : Fin 2 → ℕ) a + (⟨2, ![512, n]⟩ : Shape).size a ≤ (⟨2, ![3072, n]⟩ : Shape).size a :=
  fun a => by match a with | ⟨0, _⟩ => show 512 * c + 512 ≤ 3072; omega | ⟨1, _⟩ => show 0 + n ≤ n; omega
theorem inbZ {c k : ℕ} (hc : c < 6) (hk : k < 4) : ∀ a, (![0, 512 * c, 128 * k] : Fin 3 → ℕ) a + S1x512x128.size a ≤ S1x3072x512.size a :=
  fun a => by match a with | ⟨0, _⟩ => show 0 + 1 ≤ 1; omega | ⟨1, _⟩ => show 512 * c + 512 ≤ 3072; omega | ⟨2, _⟩ => show 128 * k + 128 ≤ 512; omega
theorem inbG {g : ℕ} (hg : g < 16) : ∀ a, (![128 * g, 0] : Fin 2 → ℕ) a + S128x512.size a ≤ S2048x512.size a :=
  fun a => by match a with | ⟨0, _⟩ => show 128 * g + 128 ≤ 2048; omega | ⟨1, _⟩ => show 0 + 512 ≤ 512; omega
theorem inbP {g : ℕ} (hg : g < 16) : ∀ a, (![64 * g, 0] : Fin 2 → ℕ) a + S64x512.size a ≤ S1024x512.size a :=
  fun a => by match a with | ⟨0, _⟩ => show 64 * g + 64 ≤ 1024; omega | ⟨1, _⟩ => show 0 + 512 ≤ 512; omega
theorem inbS {g : ℕ} (hg : g < 16) : ∀ a, (![g, 0] : Fin 2 → ℕ) a + S1x512.size a ≤ S16x512.size a :=
  fun a => by match a with | ⟨0, _⟩ => show g + 1 ≤ 16; omega | ⟨1, _⟩ => show 0 + 512 ≤ 512; omega

/-- A piece of a logits block: group `k` of the block of rows `c`. -/
def zPiece (z : (c : ℕ) → c < 6 → (k : ℕ) → k < 4 → FVec F S512x128 .f32) (c : ℕ) (hc : c < 6) (k : ℕ) (hk : k < 4) :
    View.Piece (Elt F) S1x3072x512 .f32 :=
  ⟨Rect.unit ![0, 512 * c, 128 * k] S1x512x128.size (inbZ hc hk), shapeCast S1x512x128 (z c hc k hk) shapeCasts_S512x128_S1x512x128⟩

/-- The pieces of a logits block, the last one stored first. -/
def zList (z : (c : ℕ) → c < 6 → (k : ℕ) → k < 4 → FVec F S512x128 .f32) : List (View.Piece (Elt F) S1x3072x512 .f32) :=
  [zPiece z 5 (by decide) 3 (by decide), zPiece z 5 (by decide) 2 (by decide), zPiece z 5 (by decide) 1 (by decide), zPiece z 5 (by decide) 0 (by decide), zPiece z 4 (by decide) 3 (by decide), zPiece z 4 (by decide) 2 (by decide), zPiece z 4 (by decide) 1 (by decide), zPiece z 4 (by decide) 0 (by decide), zPiece z 3 (by decide) 3 (by decide), zPiece z 3 (by decide) 2 (by decide), zPiece z 3 (by decide) 1 (by decide), zPiece z 3 (by decide) 0 (by decide), zPiece z 2 (by decide) 3 (by decide), zPiece z 2 (by decide) 2 (by decide), zPiece z 2 (by decide) 1 (by decide), zPiece z 2 (by decide) 0 (by decide), zPiece z 1 (by decide) 3 (by decide), zPiece z 1 (by decide) 2 (by decide), zPiece z 1 (by decide) 1 (by decide), zPiece z 1 (by decide) 0 (by decide), zPiece z 0 (by decide) 3 (by decide), zPiece z 0 (by decide) 2 (by decide), zPiece z 0 (by decide) 1 (by decide), zPiece z 0 (by decide) 0 (by decide)]

/-- A piece of a running array: the block of rows `c`. -/
def rPiece (v : (c : ℕ) → c < 6 → FVec F S512x128 .f32) (c : ℕ) (hc : c < 6) : View.Piece (Elt F) S3072x128 .f32 :=
  ⟨Rect.unit ![512 * c, 0] S512x128.size (inbR hc), shapeCast S512x128 (v c hc) shapeCasts_S512x128_S512x128⟩

/-- The pieces of a running array, the last one stored first. -/
def rList (v : (c : ℕ) → c < 6 → FVec F S512x128 .f32) : List (View.Piece (Elt F) S3072x128 .f32) :=
  [rPiece v 5 (by decide), rPiece v 4 (by decide), rPiece v 3 (by decide), rPiece v 2 (by decide), rPiece v 1 (by decide), rPiece v 0 (by decide)]

/-- A piece of the dequantized teacher weight: 128 rows that share scales and zero points. -/
def wPiece (b : (g : ℕ) → g < 16 → Vec F S64x512 .i8) (zr sc : (g : ℕ) → g < 16 → Vec F S1x512 .f32) (g : ℕ) (hg : g < 16) :
    View.Piece (Elt F) S2048x512 .bf16 :=
  ⟨Rect.unit ![128 * g, 0] S128x512.size (inbG hg), k0_pay9 (b g hg) (zr g hg) (sc g hg)⟩

/-- The pieces of the dequantized teacher weight. -/
def wList (b : (g : ℕ) → g < 16 → Vec F S64x512 .i8) (zr sc : (g : ℕ) → g < 16 → Vec F S1x512 .f32) : List (View.Piece (Elt F) S2048x512 .bf16) :=
  [wPiece b zr sc 15 (by decide), wPiece b zr sc 14 (by decide), wPiece b zr sc 13 (by decide), wPiece b zr sc 12 (by decide), wPiece b zr sc 11 (by decide), wPiece b zr sc 10 (by decide), wPiece b zr sc 9 (by decide), wPiece b zr sc 8 (by decide), wPiece b zr sc 7 (by decide), wPiece b zr sc 6 (by decide), wPiece b zr sc 5 (by decide), wPiece b zr sc 4 (by decide), wPiece b zr sc 3 (by decide), wPiece b zr sc 2 (by decide), wPiece b zr sc 1 (by decide), wPiece b zr sc 0 (by decide)]

end Cert.LogitsIdeal.Gen

end
-- ==== Proof.LogitsLoads.lean ====
/-
  The logits call: the loads its body makes, block by block, from the contents of the buffers.
-/
module

public import proofs.«01_k».proof.Proof.LogitsForm

@[expose] public section

noncomputable section

namespace Cert.LogitsIdeal.Gen

open Idealize.ShloMosaic Idealize.ShloMosaic.TcCoe Idealize.ShloMosaic.Tactic

variable {F : FTy → Type} [FloatOps F] [Named F]

/-- The dequantized teacher weight, read back after its sixteen pieces are stored. -/
def wtL (arg13 : Memref sig .tc .vmem S2048x512 .bf16) (arg4 : Memref sig .tc .vmem S1024x512 .i8) (harg4 : arg4.IsWhole)
    (arg5 : Memref sig .tc .vmem S16x512 .f32) (harg5 : arg5.IsWhole) (arg6 : Memref sig .tc .vmem S16x512 .f32) (harg6 : arg6.IsWhole)
    (x3 : Vec F S1024x512 .i8) (x4 x5 : Vec F S16x512 .f32) : Vec F S2048x512 .bf16 :=
  arg13.view.readCov
    (wList (fun g hg => View.readAt (Elt F) arg4.view (Rect.unit (s := S1024x512) ![64 * g, 0] S64x512.size (inbP hg)).toLoadRect (harg4.unread x3))
      (fun g hg => View.readAt (Elt F) arg6.view (Rect.unit (s := S16x512) ![g, 0] S1x512.size (inbS hg)).toLoadRect (harg6.unread x5))
      (fun g hg => View.readAt (Elt F) arg5.view (Rect.unit (s := S16x512) ![g, 0] S1x512.size (inbS hg)).toLoadRect (harg5.unread x4)))
    (Rect.unit ![0, 0] S2048x512.size inb_S2048x512_S2048x512_0_0).toLoadRect

/-- The teacher product of the block of rows `c`. -/
def accTL (arg1 : Memref sig .tc .vmem S3072x2048 .bf16) (harg1 : arg1.IsWhole) (x0 : Vec F S3072x2048 .bf16) (wt : Vec F S2048x512 .bf16)
    (c : ℕ) (hc : c < 6) : FVec F S512x512 .f32 :=
  k0_pay37 (View.readAt (Elt F) arg1.view (Rect.unit (s := S3072x2048) ![512 * c, 0] S512x2048.size (inbR hc)).toLoadRect (harg1.unread x0)) wt

/-- The student product of the block of rows `c`. -/
def accSL (arg2 : Memref sig .tc .vmem S3072x1536 .fp8e4m3) (harg2 : arg2.IsWhole) (arg7 : Memref sig .tc .vmem S512x1536 .fp8e4m3)
    (harg7 : arg7.IsWhole) (x1 : Vec F S3072x1536 .fp8e4m3) (x6 : Vec F S512x1536 .fp8e4m3) (c : ℕ) (hc : c < 6) : FVec F S512x512 .f32 :=
  k0_pay38 (View.readAt (Elt F) arg2.view (Rect.unit (s := S3072x1536) ![512 * c, 0] S512x1536.size (inbR hc)).toLoadRect (harg2.unread x1))
    (View.readAt (Elt F) arg7.view (Rect.unit ![0, 0] S512x1536.size inb_S512x1536_S512x1536_0_0).toLoadRect (harg7.unread x6))

/-- The activation scales of the block of rows `c`. -/
def yscL (arg3 : Memref sig .tc .vmem S3072x128 .f32) (harg3 : arg3.IsWhole) (x2 : Vec F S3072x128 .f32) (c : ℕ) (hc : c < 6) :
    FVec F S512x128 .f32 :=
  k0_pay39 (View.readAt (Elt F) arg3.view (Rect.unit (s := S3072x128) ![512 * c, 0] S512x128.size (inbR hc)).toLoadRect (harg3.unread x2))

/-- The student weight scales of the tile. -/
def wssL (arg8 : Memref sig .tc .vmem S1x1x512 .f32) (harg8 : arg8.IsWhole) (x7 : Vec F S1x1x512 .f32) : FVec F S1x512 .f32 :=
  k0_pay36 (View.readAt (Elt F) arg8.view (Rect.unit ![0, 0, 0] S1x1x512.size inb_S1x1x512_S1x1x512_0_0_0).toLoadRect (harg8.unread x7))

/-- The block of rows `c` of a running array. -/
def rowsL (a : Memref sig .tc .vmem S3072x128 .f32) (ha : a.IsWhole) (x : Vec F S3072x128 .f32) (c : ℕ) (hc : c < 6) : FVec F S512x128 .f32 :=
  View.readAt (Elt F) a.view (Rect.unit (s := S3072x128) ![512 * c, 0] S512x128.size (inbR hc)).toLoadRect (ha.unread x)

/-- The block of rows `c` of a running array, read back from stored pieces. -/
def rowsCov (a : Memref sig .tc .vmem S3072x128 .f32) (L : List (View.Piece (Elt F) S3072x128 .f32)) (c : ℕ) (hc : c < 6) : FVec F S512x128 .f32 :=
  a.view.readCov L (Rect.unit (s := S3072x128) ![512 * c, 0] S512x128.size (inbR hc)).toLoadRect

/-- A running array, read back whole from stored pieces. -/
def wholeCov (a : Memref sig .tc .vmem S3072x128 .f32) (L : List (View.Piece (Elt F) S3072x128 .f32)) : Vec F S3072x128 .f32 :=
  a.view.readCov L (Rect.unit ![0, 0] S3072x128.size inb_S3072x128_S3072x128_0_0).toLoadRect

/-- The pieces of the running maximum at the first point: a fill with the lowest value, then `n` blocks of rows. -/
def mFirst (z : (c : ℕ) → c < 6 → (k : ℕ) → k < 4 → FVec F S512x128 .f32) (a : Memref sig .tc .vmem S3072x128 .f32) :
    (n : ℕ) → n ≤ 6 → List (View.Piece (Elt F) S3072x128 .f32)
  | 0, _ => [⟨Rect.unit ![0, 0] S3072x128.size inb_S3072x128_S3072x128_0_0, k0_pay5⟩]
  | n + 1, h => ⟨Rect.unit (s := S3072x128) ![512 * n, 0] S512x128.size (inbR h),
      shapeCast S512x128 (maxV (z n h) (rowsCov a (mFirst z a n (Nat.le_of_succ_le h)) n h)) shapeCasts_S512x128_S512x128⟩
      :: mFirst z a n (Nat.le_of_succ_le h)

/-- The pieces of the running sum at the first point: a fill with zero, then `n` blocks of rows. -/
def sFirst (z : (c : ℕ) → c < 6 → (k : ℕ) → k < 4 → FVec F S512x128 .f32) (a b : Memref sig .tc .vmem S3072x128 .f32) :
    (n : ℕ) → n ≤ 6 → List (View.Piece (Elt F) S3072x128 .f32)
  | 0, _ => [⟨Rect.unit ![0, 0] S3072x128.size inb_S3072x128_S3072x128_0_0, k0_pay7⟩]
  | n + 1, h => ⟨Rect.unit (s := S3072x128) ![512 * n, 0] S512x128.size (inbR h),
      shapeCast S512x128 (sumV (z n h) (rowsCov a (mFirst z a n (Nat.le_of_succ_le h)) n h) (rowsCov b (sFirst z a b n (Nat.le_of_succ_le h)) n h))
        shapeCasts_S512x128_S512x128⟩
      :: sFirst z a b n (Nat.le_of_succ_le h)

end Cert.LogitsIdeal.Gen

end
-- ==== Proof.LogitsBits.lean ====
/-
  The logits call over the extended reals: the dequantized teacher weight at an entry. Two 4-bit codes share a byte; a
  code is written into the low bits of a pattern of the number 128, and 128 is taken off again.
-/
module

public import proofs.«01_k».proof.Proof.LogitsLoads
public import Idealize.ShloMosaic.PureOps.Ideal.Laws
public import Idealize.ShloMosaic.Lib.ValueIdx
public import Idealize.ShloMosaic.Lib.MatmulPlain
public import Idealize.ShloMosaic.Lib.WholeRead
public import Idealize.ShloMosaic.Lib.Pipeline.ReadBack
public import Idealize.ShloMosaic.Lib.BitcastPair
public import Idealize.ShloMosaic.Lib.Pipeline.Value

@[expose] public section

noncomputable section

namespace Cert.LogitsIdeal.Gen

open Idealize.ShloMosaic Idealize.ShloMosaic.TcCoe Idealize.ShloMosaic.Tactic Idealize.ShloMosaic.ValueIdx

/-- Code `p` of a byte: its low half for `p = 0`, its high half for `p = 1`. -/
def nib (b : BitVec 8) (p : ℕ) : EReal := (((b.toNat / 16 ^ p % 16 : ℕ) : ℝ) : EReal)

/-- The word the kernel builds from a byte: both codes, each in a 16-bit pattern of a number from 128 on. -/
def wordOf (b : BitVec 8) : BitVec 32 :=
  IntOp.ori (IntOp.ori (IntOp.andi (b.setWidth 32) 15#32) (IntOp.shli .vector (IntOp.andi (b.setWidth 32) 240#32) 12#32)) 1124090624#32

theorem wordOf_half (b : BitVec 8) (p : ℕ) (hp : p < 2) :
    (wordOf b).extractLsb' (16 * p) 16 = 0x4300#16 + BitVec.ofNat 16 (b.toNat / 16 ^ p % 16) := by
  have h : ∀ b : BitVec 8, ∀ p : Fin 2, (wordOf b).extractLsb' (16 * p.val) 16 = 0x4300#16 + BitVec.ofNat 16 (b.toNat / 16 ^ p.val % 16) := by
    decide +kernel
  exact h b ⟨p, hp⟩

theorem ofBits_code (n : ℕ) (hn : n < 16) : Ideal.ofBits .bf16 (0x4300#16 + BitVec.ofNat 16 n) = ((128 + n : ℝ) : EReal) := by
  interval_cases n <;> simp [Ideal.ofBits, Ideal.ieee, -EReal.coe_mul, -EReal.coe_add] <;> norm_num [-EReal.coe_add]

theorem code_eq (b : BitVec 8) (p : ℕ) (hp : p < 2) :
    Ideal.ofBits .bf16 ((wordOf b).extractLsb' (16 * p) 16) - Ideal.ofBits .bf16 0x4300#16 = nib b p := by
  have h0 := ofBits_code 0 (by decide)
  have e : (0x4300#16 + BitVec.ofNat 16 0) = 0x4300#16 := by decide
  rw [e] at h0
  rw [wordOf_half b p hp, ofBits_code _ (Nat.mod_lt _ (by decide)), h0, ← EReal.coe_sub]
  unfold nib
  congr 1
  push_cast; ring

/-- The dequantized weight at an entry. -/
theorem pay9_apply (b : Vec Ideal S64x512 .i8) (z s : Vec Ideal S1x512 .f32) (r : Fin 128) (q : Fin 512) :
    k0_pay9 (F := Ideal) b z s (ix2 r q)
      = (nib (b (ix2 (⟨r.val / 2, by omega⟩ : Fin 64) q)) (r.val % 2) - z (ix2 (0 : Fin 1) q)) * s (ix2 (0 : Fin 1) q) := by
  unfold k0_pay9
  rw [shapeCast_self]
  show (Ideal.ofBits .bf16 (bitcast S128x512 16 _ bitcasts_S64x512_w32_S128x512_w16 (ix2 r q)) - Ideal.ofBits .bf16 0x4300#16
      - broadcastTo S128x512 _ broadcasts_S1x512_S128x512 (ix2 r q)) * broadcastTo S128x512 _ broadcasts_S1x512_S128x512 (ix2 r q) = _
  rw [bitcast_32_16, broadcastTo_apply _ _ (ix2 r q) (ix2 (0 : Fin 1) q) (by intro a; match a with | ⟨0, _⟩ => rfl | ⟨1, _⟩ => rfl),
    broadcastTo_apply _ _ (ix2 r q) (ix2 (0 : Fin 1) q) (by intro a; match a with | ⟨0, _⟩ => rfl | ⟨1, _⟩ => rfl)]
  have ei : bitcasts_S64x512_w32_S128x512_w16.srcIdx (ix2 r q) (S128x512.row (ix2 r q) / 2)
      (fun a ha => by have := bitcasts_S64x512_w32_S128x512_w16.pos_lt (ix2 r q) 0 (by decide) a ha; omega)
      = ix2 (⟨r.val / 2, by omega⟩ : Fin 64) q := by
    funext a; apply Fin.ext
    match a with
    | ⟨0, _⟩ => exact Shape.Bitcasts.srcIdx_row _ _ _ _ _ rfl
    | ⟨1, _⟩ => exact Shape.Bitcasts.srcIdx_other _ _ _ _ _ (show ¬ (1 + 2 = 2) by decide)
  rw [ei]
  exact congrArg (fun t => (t - z (ix2 (0 : Fin 1) q)) * s (ix2 (0 : Fin 1) q)) (code_eq (b (ix2 (⟨r.val / 2, by omega⟩ : Fin 64) q)) (r.val % 2) (Nat.mod_lt _ (by decide)))

end Cert.LogitsIdeal.Gen

end
-- ==== Proof.LogitsValue.lean ====
/-
  The logits call over the extended reals: what one point of the grid stores, entry by entry, from the blocks it reads.
-/
module

public import proofs.«01_k».proof.Proof.LogitsBits

@[expose] public section

noncomputable section

namespace Cert.LogitsIdeal.Gen

open Idealize.ShloMosaic Idealize.ShloMosaic.TcCoe Idealize.ShloMosaic.Tactic Idealize.ShloMosaic.ValueIdx
open scoped BigOperators

/-- One half of the number that turns a natural logarithm into a binary one. -/
def half : EReal := ((((Real.log 2) * 2)⁻¹ : ℝ) : EReal)

theorem half_eq : (Named.named (F := Ideal) κ "half_log2e" (φ := .f32) 0x3F38AA3B#32) = half := rfl
theorem ninf_eq : (Named.named (F := Ideal) κ "minus_inf" (φ := .f32) 0xF149F2CA#32) = (⊥ : EReal) := rfl

/-! ## The pieces cover their arrays -/

variable {F : FTy → Type} [FloatOps F] [Named F]

theorem zList_cover (z : (c : ℕ) → c < 6 → (k : ℕ) → k < 4 → FVec F S512x128 .f32) (y : S1x3072x512.Idx) : ∃ p ∈ zList z, y ∈ p.1.set :=
  View.cover_of_tiledL (zList z) S1x512x128.size (by sl_kernel_rfl) y
theorem rList_cover (v : (c : ℕ) → c < 6 → FVec F S512x128 .f32) (y : S3072x128.Idx) : ∃ p ∈ rList v, y ∈ p.1.set :=
  View.cover_of_tiledL (rList v) S512x128.size (by sl_kernel_rfl) y
theorem wList_cover (b : (g : ℕ) → g < 16 → Vec F S64x512 .i8) (zr sc : (g : ℕ) → g < 16 → Vec F S1x512 .f32) (y : S2048x512.Idx) :
    ∃ p ∈ wList b zr sc, y ∈ p.1.set :=
  View.cover_of_tiledL (wList b zr sc) S128x512.size (by sl_kernel_rfl) y

/-! ## An array put together from its pieces -/

theorem zList_canon (z : (c : ℕ) → c < 6 → (k : ℕ) → k < 4 → FVec Ideal S512x128 .f32) (G : S1x3072x512.Idx → EReal)
    (h : ∀ c (hc : c < 6) k (hk : k < 4) (r : Fin 512) (l : Fin 128),
      z c hc k hk (ix2 r l) = G (ix3 (0 : Fin 1) (⟨512 * c + r.val, by omega⟩ : Fin 3072) (⟨128 * k + l.val, by omega⟩ : Fin 512))) :
    View.canon (Val := Elt Ideal) (e := .f32) (zList z) = G := by
  have hp : ∀ c (hc : c < 6) k (hk : k < 4), ∀ x : (zPiece z c hc k hk).1.shape.Idx, (zPiece z c hc k hk).2 x = G ((zPiece z c hc k hk).1.emb x) := by
    intro c hc k hk x
    obtain ⟨x0, r, l, rfl⟩ : ∃ (x0 : Fin 1) (r : Fin 512) (l : Fin 128), x = ix3 x0 r l := ⟨_, _, _, eq_ix3 x⟩
    obtain rfl : x0 = 0 := Subsingleton.elim _ _
    refine (shapeCast_apply _ shapeCasts_S512x128_S1x512x128 (ix3 (0 : Fin 1) r l) (ix2 r l) ?_).trans ((h c hc k hk r l).trans (congrArg G ?_))
    · rw [Shape.rowMajor_val_three, Shape.rowMajor_val_two]
      show r.val * 128 + l.val = (0 * 512 + r.val) * 128 + l.val
      omega
    · funext a; apply Fin.ext
      match a with
      | ⟨0, _⟩ => rfl
      | ⟨1, _⟩ => show 512 * c + r.val = 512 * c + 1 * r.val; omega
      | ⟨2, _⟩ => show 128 * k + l.val = 128 * k + 1 * l.val; omega
  have hall : View.PiecesOf (Val := Elt Ideal) (e := .f32) G (zList z) :=
    ⟨hp _ _ _ _, hp _ _ _ _, hp _ _ _ _, hp _ _ _ _, hp _ _ _ _, hp _ _ _ _, hp _ _ _ _, hp _ _ _ _, hp _ _ _ _, hp _ _ _ _, hp _ _ _ _, hp _ _ _ _,
      hp _ _ _ _, hp _ _ _ _, hp _ _ _ _, hp _ _ _ _, hp _ _ _ _, hp _ _ _ _, hp _ _ _ _, hp _ _ _ _, hp _ _ _ _, hp _ _ _ _, hp _ _ _ _, hp _ _ _ _, trivial⟩
  funext y
  have := View.canon_append_of_piecesOf G [] (zList z) hall y (zList_cover z y)
  rwa [List.append_nil] at this

theorem rPiece_emb (v : (c : ℕ) → c < 6 → FVec Ideal S512x128 .f32) (G : S3072x128.Idx → EReal) (c : ℕ) (hc : c < 6)
    (h : ∀ (r : Fin 512) (l : Fin 128), v c hc (ix2 r l) = G (ix2 (⟨512 * c + r.val, by omega⟩ : Fin 3072) l))
    (x : (rPiece v c hc).1.shape.Idx) : (rPiece v c hc).2 x = G ((rPiece v c hc).1.emb x) := by
  obtain ⟨r, l, rfl⟩ : ∃ (r : Fin 512) (l : Fin 128), x = ix2 r l := ⟨_, _, eq_ix2 x⟩
  refine (congrFun (shapeCast_self _ _) (ix2 r l)).trans ((h r l).trans (congrArg G ?_))
  funext a; apply Fin.ext
  match a with
  | ⟨0, _⟩ => show 512 * c + r.val = 512 * c + 1 * r.val; omega
  | ⟨1, _⟩ => show l.val = 0 + 1 * l.val; omega

theorem rList_canon (v : (c : ℕ) → c < 6 → FVec Ideal S512x128 .f32) (G : S3072x128.Idx → EReal)
    (h : ∀ c (hc : c < 6) (r : Fin 512) (l : Fin 128), v c hc (ix2 r l) = G (ix2 (⟨512 * c + r.val, by omega⟩ : Fin 3072) l)) :
    View.canon (Val := Elt Ideal) (e := .f32) (rList v) = G := by
  have hp := fun c hc => rPiece_emb v G c hc (h c hc)
  have hall : View.PiecesOf (Val := Elt Ideal) (e := .f32) G (rList v) := ⟨hp _ _, hp _ _, hp _ _, hp _ _, hp _ _, hp _ _, trivial⟩
  funext y
  have := View.canon_append_of_piecesOf G [] (rList v) hall y (rList_cover v y)
  rwa [List.append_nil] at this

/-! ## The dequantized teacher weight -/

/-- The dequantized teacher weight of a tile. -/
def wtB (x3 : Vec Ideal S1024x512 .i8) (x4 x5 : Vec Ideal S16x512 .f32) : S2048x512.Idx → EReal := fun i =>
  (nib (x3 (ix2 (⟨(i 0).val / 2, by have := idx2_lt0 i; omega⟩ : Fin 1024) (i 1))) ((i 0).val % 2)
    - x5 (ix2 (⟨(i 0).val / 128, by have := idx2_lt0 i; omega⟩ : Fin 16) (i 1)))
    * x4 (ix2 (⟨(i 0).val / 128, by have := idx2_lt0 i; omega⟩ : Fin 16) (i 1))

theorem wList_canon (b : (g : ℕ) → g < 16 → Vec Ideal S64x512 .i8) (zr sc : (g : ℕ) → g < 16 → Vec Ideal S1x512 .f32) (G : S2048x512.Idx → EReal)
    (h : ∀ g (hg : g < 16) (r : Fin 128) (q : Fin 512),
      k0_pay9 (F := Ideal) (b g hg) (zr g hg) (sc g hg) (ix2 r q) = G (ix2 (⟨128 * g + r.val, by omega⟩ : Fin 2048) q)) :
    View.canon (Val := Elt Ideal) (e := .bf16) (wList b zr sc) = G := by
  have hp : ∀ g (hg : g < 16), ∀ x : (wPiece b zr sc g hg).1.shape.Idx, (wPiece b zr sc g hg).2 x = G ((wPiece b zr sc g hg).1.emb x) := by
    intro g hg x
    obtain ⟨r, q, rfl⟩ : ∃ (r : Fin 128) (q : Fin 512), x = ix2 r q := ⟨_, _, eq_ix2 x⟩
    refine (h g hg r q).trans (congrArg G ?_)
    funext a; apply Fin.ext
    match a with
    | ⟨0, _⟩ => show 128 * g + r.val = 128 * g + 1 * r.val; omega
    | ⟨1, _⟩ => show q.val = 0 + 1 * q.val; omega
  have hall : View.PiecesOf (Val := Elt Ideal) (e := .bf16) G (wList b zr sc) :=
    ⟨hp _ _, hp _ _, hp _ _, hp _ _, hp _ _, hp _ _, hp _ _, hp _ _, hp _ _, hp _ _, hp _ _, hp _ _, hp _ _, hp _ _, hp _ _, hp _ _, trivial⟩
  funext y
  have := View.canon_append_of_piecesOf G [] (wList b zr sc) hall y (wList_cover b zr sc y)
  rwa [List.append_nil] at this

/-- A load of a rectangle of whole rows reads the rows from its offset on. -/
theorem readRows {N n m o : ℕ} {e : EltTy} (a : Memref sig .tc .vmem ⟨2, ![N, m]⟩ e) (ha : a.IsWhole) (X : Vec Ideal ⟨2, ![N, m]⟩ e)
    (inb : ∀ x, (![o, 0] : Fin 2 → ℕ) x + (⟨2, ![n, m]⟩ : Shape).size x ≤ (⟨2, ![N, m]⟩ : Shape).size x) (r : Fin n) (q : Fin m) (hr : o + r.val < N) :
    View.readAt (Elt Ideal) a.view (Rect.unit (s := ⟨2, ![N, m]⟩) ![o, 0] (⟨2, ![n, m]⟩ : Shape).size inb).toLoadRect (ha.unread X) (ix2 r q)
      = X (ix2 ⟨o + r.val, hr⟩ q) := by
  rw [ha.readAt_unread]
  refine congrArg X (funext fun x => Fin.ext ?_)
  match x with
  | ⟨0, _⟩ => show o + 1 * r.val = o + r.val; omega
  | ⟨1, _⟩ => show 0 + 1 * q.val = q.val; omega

theorem wtL_eq (arg13 : Memref sig .tc .vmem S2048x512 .bf16) (arg4 : Memref sig .tc .vmem S1024x512 .i8) (harg4 : arg4.IsWhole)
    (arg5 : Memref sig .tc .vmem S16x512 .f32) (harg5 : arg5.IsWhole) (arg6 : Memref sig .tc .vmem S16x512 .f32) (harg6 : arg6.IsWhole)
    (x3 : Vec Ideal S1024x512 .i8) (x4 x5 : Vec Ideal S16x512 .f32) :
    wtL arg13 arg4 harg4 arg5 harg5 arg6 harg6 x3 x4 x5 = wtB x3 x4 x5 := by
  unfold wtL
  rw [View.readCov_eq_canon', wList_canon _ _ _ (wtB x3 x4 x5) ?_]
  · funext y
    refine congrArg (wtB x3 x4 x5) (funext fun a => Fin.ext ?_)
    match a with
    | ⟨0, _⟩ => show 0 + 1 * (y 0).val = (y 0).val; omega
    | ⟨1, _⟩ => show 0 + 1 * (y 1).val = (y 1).val; omega
  · intro g hg r q
    rw [pay9_apply, readRows arg4 harg4 x3 (inbP hg) (⟨r.val / 2, by omega⟩ : Fin 64) q (by show 64 * g + r.val / 2 < 1024; omega),
      readRows arg6 harg6 x5 (inbS hg) (0 : Fin 1) q (by show g + 0 < 16; omega), readRows arg5 harg5 x4 (inbS hg) (0 : Fin 1) q (by show g + 0 < 16; omega)]
    unfold wtB
    have e1 : (⟨64 * g + r.val / 2, by omega⟩ : Fin 1024) = ⟨(128 * g + r.val) / 2, by omega⟩ := Fin.ext (by show 64 * g + r.val / 2 = (128 * g + r.val) / 2; omega)
    have e2 : (⟨g + 0, by omega⟩ : Fin 16) = ⟨(128 * g + r.val) / 128, by omega⟩ := Fin.ext (by show g + 0 = (128 * g + r.val) / 128; omega)
    have e3 : r.val % 2 = (128 * g + r.val) % 2 := by omega
    show (nib (x3 (ix2 (⟨64 * g + r.val / 2, by omega⟩ : Fin 1024) q)) (r.val % 2) - x5 (ix2 (⟨g + 0, by omega⟩ : Fin 16) q)) * x4 (ix2 (⟨g + 0, by omega⟩ : Fin 16) q)
      = (nib (x3 (ix2 (⟨(128 * g + r.val) / 2, by omega⟩ : Fin 1024) q)) ((128 * g + r.val) % 2) - x5 (ix2 (⟨(128 * g + r.val) / 128, by omega⟩ : Fin 16) q))
        * x4 (ix2 (⟨(128 * g + r.val) / 128, by omega⟩ : Fin 16) q)
    rw [e1, e2, e3]

/-! ## The two products of a block of rows -/

theorem accTL_apply (arg1 : Memref sig .tc .vmem S3072x2048 .bf16) (harg1 : arg1.IsWhole) (x0 : Vec Ideal S3072x2048 .bf16) (wt : Vec Ideal S2048x512 .bf16)
    (c : ℕ) (hc : c < 6) (r : Fin 512) (q : Fin 512) :
    accTL arg1 harg1 x0 wt c hc (ix2 r q) = ∑ k : Fin 2048, x0 (ix2 (⟨512 * c + r.val, by omega⟩ : Fin 3072) k) * wt (ix2 k q) := by
  unfold accTL k0_pay37
  refine (Ideal.matmul_plain_apply (M := 512) (K := 2048) (N := 512) none _ wt _ r q).trans ?_
  refine (congrArg₂ (· + ·) Ideal.ofBits_zero_f32 rfl).trans ?_
  rw [zero_add]
  exact Finset.sum_congr rfl fun k _ => congrArg (· * wt (ix2 k q)) (readRows arg1 harg1 x0 (inbR hc) r k (by show 512 * c + r.val < 3072; omega))

theorem accSL_apply (arg2 : Memref sig .tc .vmem S3072x1536 .fp8e4m3) (harg2 : arg2.IsWhole) (arg7 : Memref sig .tc .vmem S512x1536 .fp8e4m3)
    (harg7 : arg7.IsWhole) (x1 : Vec Ideal S3072x1536 .fp8e4m3) (x6 : Vec Ideal S512x1536 .fp8e4m3) (c : ℕ) (hc : c < 6) (r : Fin 512) (q : Fin 512) :
    accSL arg2 harg2 arg7 harg7 x1 x6 c hc (ix2 r q)
      = ∑ k : Fin 1536, x1 (ix2 (⟨512 * c + r.val, by omega⟩ : Fin 3072) k) * x6 (ix2 q k) := by
  unfold accSL k0_pay38
  refine (Ideal.matmul_transposedRhs_apply (M := 512) (K := 1536) (N := 512) none _ _ _ r q).trans ?_
  refine (congrArg₂ (· + ·) Ideal.ofBits_zero_f32 rfl).trans ?_
  rw [zero_add]
  refine Finset.sum_congr rfl fun k _ => congrArg₂ (· * ·) (readRows arg2 harg2 x1 (inbR hc) r k (by show 512 * c + r.val < 3072; omega)) ?_
  refine (readRows arg7 harg7 x6 _ q k (by show 0 + q.val < 512; omega)).trans (congrArg x6 ?_)
  exact congrArg (fun t => ix2 t k) (Fin.ext (Nat.zero_add _))

/-! ## The scaled logits of a tile -/

theorem liveBit_iff (t : ℕ) (ht : t < 297) (k : ℕ) (hk : k < 4) :
    liveBit (BitVec.ofNat 32 t) (BitVec.ofNat 32 k) = if (t * 4 + k) * 128 < 151936 then 1#1 else 0#1 := by
  have h : ∀ t : Fin 297, ∀ k : Fin 4, liveBit (BitVec.ofNat 32 t.val) (BitVec.ofNat 32 k.val) = if (t.val * 4 + k.val) * 128 < 151936 then 1#1 else 0#1 := by
    decide +kernel
  exact h ⟨t, ht⟩ ⟨k, hk⟩

/-- The scaled teacher logits of tile `t`. -/
def ztB (t : ℕ) (x0 : Vec Ideal S3072x2048 .bf16) (wt : S2048x512.Idx → EReal) : S1x3072x512.Idx → EReal := fun i =>
  if (t * 4 + (i 2).val / 128) * 128 < 151936 then (∑ k : Fin 2048, x0 (ix2 (i 1) k) * wt (ix2 k (i 2))) * half else ⊥

/-- The scaled student logits of tile `t`. -/
def zsB (t : ℕ) (x1 : Vec Ideal S3072x1536 .fp8e4m3) (x2 : Vec Ideal S3072x128 .f32) (x6 : Vec Ideal S512x1536 .fp8e4m3) (x7 : Vec Ideal S1x1x512 .f32) :
    S1x3072x512.Idx → EReal := fun i =>
  if (t * 4 + (i 2).val / 128) * 128 < 151936 then
    ((∑ k : Fin 1536, x1 (ix2 (i 1) k) * x6 (ix2 (i 2) k)) * x2 (ix2 (i 1) (⟨(i 2).val % 128, Nat.mod_lt _ (by decide)⟩ : Fin 128)))
      * (x7 (ix3 (0 : Fin 1) (0 : Fin 1) (i 2)) * half) else ⊥

theorem ztV_apply (t : ℕ) (ht : t < 297) (x0 : Vec Ideal S3072x2048 .bf16) (wt : S2048x512.Idx → EReal) (arg1 : Memref sig .tc .vmem S3072x2048 .bf16)
    (harg1 : arg1.IsWhole) (c : ℕ) (hc : c < 6) (k : ℕ) (hk : k < 4) (r : Fin 512) (l : Fin 128) :
    ztV (F := Ideal) (BitVec.ofNat 32 t) k hk (accTL arg1 harg1 x0 wt c hc) (ix2 r l)
      = ztB t x0 wt (ix3 (0 : Fin 1) (⟨512 * c + r.val, by omega⟩ : Fin 3072) (⟨128 * k + l.val, by omega⟩ : Fin 512)) := by
  unfold ztV ztB
  rw [liveBit_iff t ht k hk]
  have e : (128 * k + l.val) / 128 = k := by omega
  show _ = if (t * 4 + (128 * k + l.val) / 128) * 128 < 151936 then _ else _
  rw [e]
  by_cases h : (t * 4 + k) * 128 < 151936
  · rw [if_pos h, if_pos h]
    show extractStridedSlice S512x128 ![0, 128 * k] (accTL arg1 harg1 x0 wt c hc) (slicesZ hk) (ix2 r l) * half = _
    rw [extractStridedSlice_apply _ _ _ (ix2 r l) (ix2 r (⟨128 * k + l.val, by omega⟩ : Fin 512)) (by
      intro a
      match a with
      | ⟨0, _⟩ => show r.val = 0 + r.val; omega
      | ⟨1, _⟩ => rfl), accTL_apply]
  · rw [if_neg h, if_neg h]; rfl

theorem zsV_apply (t : ℕ) (ht : t < 297) (x1 : Vec Ideal S3072x1536 .fp8e4m3) (x2 : Vec Ideal S3072x128 .f32) (x6 : Vec Ideal S512x1536 .fp8e4m3)
    (x7 : Vec Ideal S1x1x512 .f32) (arg2 : Memref sig .tc .vmem S3072x1536 .fp8e4m3) (harg2 : arg2.IsWhole) (arg3 : Memref sig .tc .vmem S3072x128 .f32)
    (harg3 : arg3.IsWhole) (arg7 : Memref sig .tc .vmem S512x1536 .fp8e4m3) (harg7 : arg7.IsWhole) (arg8 : Memref sig .tc .vmem S1x1x512 .f32)
    (harg8 : arg8.IsWhole) (c : ℕ) (hc : c < 6) (k : ℕ) (hk : k < 4) (r : Fin 512) (l : Fin 128) :
    zsV (F := Ideal) (wssL arg8 harg8 x7) (yscL arg3 harg3 x2 c hc) (BitVec.ofNat 32 t) k hk (accSL arg2 harg2 arg7 harg7 x1 x6 c hc) (ix2 r l)
      = zsB t x1 x2 x6 x7 (ix3 (0 : Fin 1) (⟨512 * c + r.val, by omega⟩ : Fin 3072) (⟨128 * k + l.val, by omega⟩ : Fin 512)) := by
  unfold zsV zsB
  rw [liveBit_iff t ht k hk]
  have e : (128 * k + l.val) / 128 = k := by omega
  show _ = if (t * 4 + (128 * k + l.val) / 128) * 128 < 151936 then _ else _
  rw [e]
  by_cases h : (t * 4 + k) * 128 < 151936
  · rw [if_pos h, if_pos h]
    show (extractStridedSlice S512x128 ![0, 128 * k] (accSL arg2 harg2 arg7 harg7 x1 x6 c hc) (slicesZ hk) (ix2 r l) * yscL arg3 harg3 x2 c hc (ix2 r l))
      * broadcastTo S512x128 (extractStridedSlice S1x128 ![0, 128 * k] (wssL arg8 harg8 x7) (slicesW hk)) broadcasts_S1x128_S512x128 (ix2 r l) = _
    rw [extractStridedSlice_apply _ _ _ (ix2 r l) (ix2 r (⟨128 * k + l.val, by omega⟩ : Fin 512)) (by
      intro a
      match a with
      | ⟨0, _⟩ => show r.val = 0 + r.val; omega
      | ⟨1, _⟩ => rfl), accSL_apply,
      broadcastTo_apply _ _ (ix2 r l) (ix2 (0 : Fin 1) l) (by intro a; match a with | ⟨0, _⟩ => rfl | ⟨1, _⟩ => rfl),
      extractStridedSlice_apply _ _ _ (ix2 (0 : Fin 1) l) (ix2 (0 : Fin 1) (⟨128 * k + l.val, by omega⟩ : Fin 512)) (by
      intro a
      match a with
      | ⟨0, _⟩ => rfl
      | ⟨1, _⟩ => rfl)]
    have e1 : yscL arg3 harg3 x2 c hc (ix2 r l) = x2 (ix2 (⟨512 * c + r.val, by omega⟩ : Fin 3072) (⟨(128 * k + l.val) % 128, Nat.mod_lt _ (by decide)⟩ : Fin 128)) := by
      unfold yscL k0_pay39
      rw [shapeCast_self]
      refine (readRows arg3 harg3 x2 (inbR hc) r l (by show 512 * c + r.val < 3072; omega)).trans (congrArg x2 ?_)
      exact congrArg (fun t => ix2 _ t) (Fin.ext (show l.val = (128 * k + l.val) % 128 by omega))
    have e2 : wssL arg8 harg8 x7 (ix2 (0 : Fin 1) (⟨128 * k + l.val, by omega⟩ : Fin 512))
        = x7 (ix3 (0 : Fin 1) (0 : Fin 1) (⟨128 * k + l.val, by omega⟩ : Fin 512)) * half := by
      unfold wssL k0_pay36
      show shapeCast S1x512 _ shapeCasts_S1x1x512_S1x512 (ix2 (0 : Fin 1) (⟨128 * k + l.val, by omega⟩ : Fin 512)) * half = _
      refine congrArg (· * half) ?_
      rw [shapeCast_apply _ shapeCasts_S1x1x512_S1x512 _ (ix3 (0 : Fin 1) (0 : Fin 1) (⟨128 * k + l.val, by omega⟩ : Fin 512)) (by
        rw [Shape.rowMajor_val_three, Shape.rowMajor_val_two]
        show (0 * 1 + 0) * 512 + (128 * k + l.val) = 0 * 512 + (128 * k + l.val)
        omega), harg8.readAt_unread]
      refine congrArg x7 (funext fun a => Fin.ext ?_)
      match a with
      | ⟨0, _⟩ => rfl
      | ⟨1, _⟩ => rfl
      | ⟨2, _⟩ => show 0 + 1 * (128 * k + l.val) = 128 * k + l.val; omega
    rw [e1, e2]
  · rw [if_neg h, if_neg h]; rfl

/-! ## One step of the running maximum and sum -/

/-- Column `128 k + l` of a row of a tile. -/
def colB (z : S1x3072x512.Idx → EReal) (i : S3072x128.Idx) (k : Fin 4) : EReal :=
  z (ix3 (0 : Fin 1) (i 0) (⟨128 * k.val + (i 1).val, by have := idx2_lt1 i; omega⟩ : Fin 512))

/-- The running maximum after a tile. -/
def maxB (z : S1x3072x512.Idx → EReal) (m : S3072x128.Idx → EReal) : S3072x128.Idx → EReal := fun i =>
  max (max (max (max (m i) (colB z i 0)) (colB z i 1)) (colB z i 2)) (colB z i 3)

/-- The running sum after a tile. -/
def sumB (z : S1x3072x512.Idx → EReal) (m s : S3072x128.Idx → EReal) : S3072x128.Idx → EReal := fun i =>
  s i * Ideal.exp2 (m i - maxB z m i) + Ideal.exp2 (colB z i 0 - maxB z m i) + Ideal.exp2 (colB z i 1 - maxB z m i)
    + Ideal.exp2 (colB z i 2 - maxB z m i) + Ideal.exp2 (colB z i 3 - maxB z m i)

theorem maxV_apply (z : (k : ℕ) → k < 4 → FVec Ideal S512x128 .f32) (G : S1x3072x512.Idx → EReal) (m : FVec Ideal S512x128 .f32)
    (M : S3072x128.Idx → EReal) (c : ℕ) (hc : c < 6) (r : Fin 512) (l : Fin 128)
    (hz : ∀ k (hk : k < 4), z k hk (ix2 r l) = G (ix3 (0 : Fin 1) (⟨512 * c + r.val, by omega⟩ : Fin 3072) (⟨128 * k + l.val, by omega⟩ : Fin 512)))
    (hm : m (ix2 r l) = M (ix2 (⟨512 * c + r.val, by omega⟩ : Fin 3072) l)) :
    maxV z m (ix2 r l) = maxB G M (ix2 (⟨512 * c + r.val, by omega⟩ : Fin 3072) l) := by
  unfold maxV
  show max (max (max (max (m (ix2 r l)) (z 0 _ (ix2 r l))) (z 1 _ (ix2 r l))) (z 2 _ (ix2 r l))) (z 3 _ (ix2 r l)) = _
  rw [hm, hz 0, hz 1, hz 2, hz 3]
  rfl

theorem sumV_apply (z : (k : ℕ) → k < 4 → FVec Ideal S512x128 .f32) (G : S1x3072x512.Idx → EReal) (m s : FVec Ideal S512x128 .f32)
    (M Sm : S3072x128.Idx → EReal) (c : ℕ) (hc : c < 6) (r : Fin 512) (l : Fin 128)
    (hz : ∀ k (hk : k < 4), z k hk (ix2 r l) = G (ix3 (0 : Fin 1) (⟨512 * c + r.val, by omega⟩ : Fin 3072) (⟨128 * k + l.val, by omega⟩ : Fin 512)))
    (hm : m (ix2 r l) = M (ix2 (⟨512 * c + r.val, by omega⟩ : Fin 3072) l)) (hs : s (ix2 r l) = Sm (ix2 (⟨512 * c + r.val, by omega⟩ : Fin 3072) l)) :
    sumV z m s (ix2 r l) = sumB G M Sm (ix2 (⟨512 * c + r.val, by omega⟩ : Fin 3072) l) := by
  have hM := maxV_apply z G m M c hc r l hz hm
  unfold sumV
  show s (ix2 r l) * Ideal.exp2 (m (ix2 r l) - maxV z m (ix2 r l)) + Ideal.exp2 (z 0 _ (ix2 r l) - maxV z m (ix2 r l))
    + Ideal.exp2 (z 1 _ (ix2 r l) - maxV z m (ix2 r l)) + Ideal.exp2 (z 2 _ (ix2 r l) - maxV z m (ix2 r l))
    + Ideal.exp2 (z 3 _ (ix2 r l) - maxV z m (ix2 r l)) = _
  rw [hM, hm, hs, hz 0, hz 1, hz 2, hz 3]
  rfl

end Cert.LogitsIdeal.Gen

end
-- ==== Proof.LogitsTile.lean ====
/-
  The logits call at one point of the grid, at the ideal instance: the contents its body leaves in each buffer, whole.
-/
module

public import proofs.«01_k».proof.Proof.LogitsValue
public import Idealize.ShloMosaic.Lib.Pipeline.FrameBody

@[expose] public section

set_option maxRecDepth 16384

noncomputable section

namespace Cert.LogitsIdeal.Gen

open Idealize.ShloMosaic Idealize.ShloMosaic.TcCoe Idealize.ShloMosaic.Tactic Idealize.ShloMosaic.ValueIdx
open scoped BigOperators

theorem rList_canon_append (v : (c : ℕ) → c < 6 → FVec Ideal S512x128 .f32) (G : S3072x128.Idx → EReal) (L : List (View.Piece (Elt Ideal) S3072x128 .f32))
    (h : ∀ c (hc : c < 6) (r : Fin 512) (l : Fin 128), v c hc (ix2 r l) = G (ix2 (⟨512 * c + r.val, by omega⟩ : Fin 3072) l)) :
    View.canon (Val := Elt Ideal) (e := .f32) (rList v ++ L) = G := by
  have hp := fun c hc => rPiece_emb v G c hc (h c hc)
  have hall : View.PiecesOf (Val := Elt Ideal) (e := .f32) G (rList v) := ⟨hp _ _, hp _ _, hp _ _, hp _ _, hp _ _, hp _ _, trivial⟩
  funext y
  exact View.canon_append_of_piecesOf G L (rList v) hall y (rList_cover v y)

theorem rowsL_apply (a : Memref sig .tc .vmem S3072x128 .f32) (ha : a.IsWhole) (x : Vec Ideal S3072x128 .f32) (c : ℕ) (hc : c < 6)
    (r : Fin 512) (l : Fin 128) : rowsL a ha x c hc (ix2 r l) = x (ix2 (⟨512 * c + r.val, by omega⟩ : Fin 3072) l) :=
  readRows a ha x (inbR hc) r l (by show 512 * c + r.val < 3072; omega)

/-! ## The first point: the running arrays start from their fills -/

theorem rows_disj (n c : ℕ) (hn : n < 6) (hc : c < 6) (h : n < c) :
    LoadRect.disj (Rect.unit (s := S3072x128) ![512 * n, 0] S512x128.size (inbR hn)) (Rect.unit (s := S3072x128) ![512 * c, 0] S512x128.size (inbR hc)).toLoadRect
      = true := by
  unfold LoadRect.disj
  refine decide_eq_true ⟨0, .inr (.inr (.inl ?_))⟩
  show 512 * n + 1 * (512 - 1) < 512 * c
  omega

theorem mFirst_rows (z : (c : ℕ) → c < 6 → (k : ℕ) → k < 4 → FVec Ideal S512x128 .f32) (a : Memref sig .tc .vmem S3072x128 .f32) (c : ℕ) (hc : c < 6) :
    ∀ n (hn : n ≤ 6), n ≤ c → rowsCov a (mFirst z a n hn) c hc = fun _ => (⊥ : EReal)
  | 0, _, _ => by
    refine (View.readCov_fill (Val := Elt Ideal) (e := .f32) a.view (s := S3072x128) inb_S3072x128_S3072x128_0_0 (k0_pay5 (F := Ideal)) [] _ (by decide)).trans ?_
    funext y; rfl
  | n + 1, hn, h => by
    have ih := mFirst_rows z a c hc n (Nat.le_of_succ_le hn) (by omega)
    exact (View.readCov_skip (Val := Elt Ideal) a.view _ _ _ _ (rows_disj n c hn hc h)).trans ih

theorem sFirst_rows (z : (c : ℕ) → c < 6 → (k : ℕ) → k < 4 → FVec Ideal S512x128 .f32) (a b : Memref sig .tc .vmem S3072x128 .f32) (c : ℕ) (hc : c < 6) :
    ∀ n (hn : n ≤ 6), n ≤ c → rowsCov b (sFirst z a b n hn) c hc = fun _ => (0 : EReal)
  | 0, _, _ => by
    refine (View.readCov_fill (Val := Elt Ideal) (e := .f32) b.view (s := S3072x128) inb_S3072x128_S3072x128_0_0 (k0_pay7 (F := Ideal)) [] _ (by decide)).trans ?_
    funext y
    exact Ideal.ofBits_zero_f32
  | n + 1, hn, h => by
    have ih := sFirst_rows z a b c hc n (Nat.le_of_succ_le hn) (by omega)
    exact (View.readCov_skip (Val := Elt Ideal) b.view _ _ _ _ (rows_disj n c hn hc h)).trans ih

theorem mFirst_canon (z : (c : ℕ) → c < 6 → (k : ℕ) → k < 4 → FVec Ideal S512x128 .f32) (G : S1x3072x512.Idx → EReal) (a : Memref sig .tc .vmem S3072x128 .f32)
    (hz : ∀ c (hc : c < 6) k (hk : k < 4) (r : Fin 512) (l : Fin 128), z c hc k hk (ix2 r l)
      = G (ix3 (0 : Fin 1) (⟨512 * c + r.val, by omega⟩ : Fin 3072) (⟨128 * k + l.val, by omega⟩ : Fin 512))) :
    View.canon (Val := Elt Ideal) (e := .f32) (mFirst z a 6 le_rfl) = maxB G (fun _ => ⊥) :=
  rList_canon_append (fun c hc => maxV (z c hc) (rowsCov a (mFirst z a c (Nat.le_of_lt hc)) c hc)) _ _ fun c hc r l =>
    maxV_apply _ G _ (fun _ => ⊥) c hc r l (fun k hk => hz c hc k hk r l) (congrFun (mFirst_rows z a c hc c _ le_rfl) _)

theorem sFirst_canon (z : (c : ℕ) → c < 6 → (k : ℕ) → k < 4 → FVec Ideal S512x128 .f32) (G : S1x3072x512.Idx → EReal) (a b : Memref sig .tc .vmem S3072x128 .f32)
    (hz : ∀ c (hc : c < 6) k (hk : k < 4) (r : Fin 512) (l : Fin 128), z c hc k hk (ix2 r l)
      = G (ix3 (0 : Fin 1) (⟨512 * c + r.val, by omega⟩ : Fin 3072) (⟨128 * k + l.val, by omega⟩ : Fin 512))) :
    View.canon (Val := Elt Ideal) (e := .f32) (sFirst z a b 6 le_rfl) = sumB G (fun _ => ⊥) (fun _ => 0) :=
  rList_canon_append (fun c hc => sumV (z c hc) (rowsCov a (mFirst z a c (Nat.le_of_lt hc)) c hc) (rowsCov b (sFirst z a b c (Nat.le_of_lt hc)) c hc)) _ _
    fun c hc r l => sumV_apply _ G _ _ (fun _ => ⊥) (fun _ => 0) c hc r l (fun k hk => hz c hc k hk r l) (congrFun (mFirst_rows z a c hc c _ le_rfl) _)
      (congrFun (sFirst_rows z a b c hc c _ le_rfl) _)

/-! ## Every later point: the running arrays step -/

theorem mStep_canon (z : (c : ℕ) → c < 6 → (k : ℕ) → k < 4 → FVec Ideal S512x128 .f32) (G : S1x3072x512.Idx → EReal) (a : Memref sig .tc .vmem S3072x128 .f32)
    (ha : a.IsWhole) (x : Vec Ideal S3072x128 .f32)
    (hz : ∀ c (hc : c < 6) k (hk : k < 4) (r : Fin 512) (l : Fin 128), z c hc k hk (ix2 r l)
      = G (ix3 (0 : Fin 1) (⟨512 * c + r.val, by omega⟩ : Fin 3072) (⟨128 * k + l.val, by omega⟩ : Fin 512))) :
    View.canon (Val := Elt Ideal) (e := .f32) (rList fun c hc => maxV (z c hc) (rowsL a ha x c hc)) = maxB G x :=
  rList_canon _ _ fun c hc r l => maxV_apply _ G _ x c hc r l (fun k hk => hz c hc k hk r l) (rowsL_apply a ha x c hc r l)

theorem sStep_canon (z : (c : ℕ) → c < 6 → (k : ℕ) → k < 4 → FVec Ideal S512x128 .f32) (G : S1x3072x512.Idx → EReal) (a b : Memref sig .tc .vmem S3072x128 .f32)
    (ha : a.IsWhole) (hb : b.IsWhole) (x y : Vec Ideal S3072x128 .f32)
    (hz : ∀ c (hc : c < 6) k (hk : k < 4) (r : Fin 512) (l : Fin 128), z c hc k hk (ix2 r l)
      = G (ix3 (0 : Fin 1) (⟨512 * c + r.val, by omega⟩ : Fin 3072) (⟨128 * k + l.val, by omega⟩ : Fin 512))) :
    View.canon (Val := Elt Ideal) (e := .f32) (rList fun c hc => sumV (z c hc) (rowsL a ha x c hc) (rowsL b hb y c hc)) = sumB G x y :=
  rList_canon _ _ fun c hc r l => sumV_apply _ G _ _ x y c hc r l (fun k hk => hz c hc k hk r l) (rowsL_apply a ha x c hc r l) (rowsL_apply b hb y c hc r l)

theorem wholeCov_eq (a : Memref sig .tc .vmem S3072x128 .f32) (L : List (View.Piece (Elt Ideal) S3072x128 .f32)) : wholeCov a L = View.canon L := by
  unfold wholeCov
  rw [View.readCov_eq_canon']
  funext y
  refine congrArg (View.canon L) (funext fun a => Fin.ext ?_)
  match a with
  | ⟨0, _⟩ => show 0 + 1 * (y 0).val = (y 0).val; omega
  | ⟨1, _⟩ => show 0 + 1 * (y 1).val = (y 1).val; omega

/-- A buffer filled by a list of pieces that covers it. -/
theorem rList_cover_append (v : (c : ℕ) → c < 6 → FVec Ideal S512x128 .f32) (L : List (View.Piece (Elt Ideal) S3072x128 .f32)) (y : S3072x128.Idx) :
    ∃ p ∈ rList v ++ L, y ∈ p.1.set := by
  obtain ⟨p, hp, hy⟩ := rList_cover v y
  exact ⟨p, List.mem_append_left _ hp, hy⟩

theorem mFirst_cover (z : (c : ℕ) → c < 6 → (k : ℕ) → k < 4 → FVec Ideal S512x128 .f32) (a : Memref sig .tc .vmem S3072x128 .f32) (y : S3072x128.Idx) :
    ∃ p ∈ mFirst z a 6 le_rfl, y ∈ p.1.set :=
  rList_cover_append (fun c hc => maxV (z c hc) (rowsCov a (mFirst z a c (Nat.le_of_lt hc)) c hc)) (mFirst z a 0 (Nat.zero_le _)) y

theorem sFirst_cover (z : (c : ℕ) → c < 6 → (k : ℕ) → k < 4 → FVec Ideal S512x128 .f32) (a b : Memref sig .tc .vmem S3072x128 .f32) (y : S3072x128.Idx) :
    ∃ p ∈ sFirst z a b 6 le_rfl, y ∈ p.1.set :=
  rList_cover_append (fun c hc => sumV (z c hc) (rowsCov a (mFirst z a c (Nat.le_of_lt hc)) c hc) (rowsCov b (sFirst z a b c (Nat.le_of_lt hc)) c hc))
    (sFirst z a b 0 (Nat.zero_le _)) y

end Cert.LogitsIdeal.Gen

end
-- ==== Proof.LogitsFormFirst.lean ====
/-
  The logits call: what its body stores at the first point, block by block, as instances of one function.
-/
module

public import proofs.«01_k».proof.Proof.LogitsLoads
public import proofs.«01_k».proof.Proof.LogitsIdealRunFirst

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem first_zt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).1 = zList (fun c hc k hk => ztV (BitVec.ofNat 32 (i 0).val) k hk (accTL arg1 harg1 x0 (wtL arg13 arg4 harg4 arg5 harg5 arg6 harg6 x3 x4 x5) c hc)) := by
  rfl

theorem first_zs (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.1 = zList (fun c hc k hk => zsV (wssL arg8 harg8 x7) (yscL arg3 harg3 x2 c hc) (BitVec.ofNat 32 (i 0).val) k hk (accSL arg2 harg2 arg7 harg7 x1 x6 c hc)) := by
  rfl

theorem first_mt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.1 = mFirst (fun c hc k hk => ztV (BitVec.ofNat 32 (i 0).val) k hk (accTL arg1 harg1 x0 (wtL arg13 arg4 harg4 arg5 harg5 arg6 harg6 x3 x4 x5) c hc)) arg14 6 le_rfl := by
  rfl

theorem first_st (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.2.1 = sFirst (fun c hc k hk => ztV (BitVec.ofNat 32 (i 0).val) k hk (accTL arg1 harg1 x0 (wtL arg13 arg4 harg4 arg5 harg5 arg6 harg6 x3 x4 x5) c hc)) arg14 arg15 6 le_rfl := by
  rfl

theorem first_ms (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.2.2.1 = mFirst (fun c hc k hk => zsV (wssL arg8 harg8 x7) (yscL arg3 harg3 x2 c hc) (BitVec.ofNat 32 (i 0).val) k hk (accSL arg2 harg2 arg7 harg7 x1 x6 c hc)) arg16 6 le_rfl := by
  rfl

theorem first_ss (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.2.2.2.1 = sFirst (fun c hc k hk => zsV (wssL arg8 harg8 x7) (yscL arg3 harg3 x2 c hc) (BitVec.ofNat 32 (i 0).val) k hk (accSL arg2 harg2 arg7 harg7 x1 x6 c hc)) arg16 arg17 6 le_rfl := by
  rfl

end Cert.LogitsIdeal.Gen

end
-- ==== Proof.LogitsFormMid.lean ====
/-
  The logits call: what its body stores at a point between the first and the last, block by block, as instances of one function.
-/
module

public import proofs.«01_k».proof.Proof.LogitsLoads
public import proofs.«01_k».proof.Proof.LogitsIdealRunMid

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem mid_zt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).1 = zList (fun c hc k hk => ztV (BitVec.ofNat 32 (i 0).val) k hk (accTL arg1 harg1 x0 (wtL arg13 arg4 harg4 arg5 harg5 arg6 harg6 x3 x4 x5) c hc)) := by
  rfl

theorem mid_zs (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.1 = zList (fun c hc k hk => zsV (wssL arg8 harg8 x7) (yscL arg3 harg3 x2 c hc) (BitVec.ofNat 32 (i 0).val) k hk (accSL arg2 harg2 arg7 harg7 x1 x6 c hc)) := by
  rfl

theorem mid_mt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.1 = rList (fun c hc => maxV ((fun c hc k hk => ztV (BitVec.ofNat 32 (i 0).val) k hk (accTL arg1 harg1 x0 (wtL arg13 arg4 harg4 arg5 harg5 arg6 harg6 x3 x4 x5) c hc)) c hc) (rowsL arg14 harg14 xs1 c hc)) := by
  rfl

theorem mid_st (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.1 = rList (fun c hc => sumV ((fun c hc k hk => ztV (BitVec.ofNat 32 (i 0).val) k hk (accTL arg1 harg1 x0 (wtL arg13 arg4 harg4 arg5 harg5 arg6 harg6 x3 x4 x5) c hc)) c hc) (rowsL arg14 harg14 xs1 c hc) (rowsL arg15 harg15 xs2 c hc)) := by
  rfl

theorem mid_ms (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.2.1 = rList (fun c hc => maxV ((fun c hc k hk => zsV (wssL arg8 harg8 x7) (yscL arg3 harg3 x2 c hc) (BitVec.ofNat 32 (i 0).val) k hk (accSL arg2 harg2 arg7 harg7 x1 x6 c hc)) c hc) (rowsL arg16 harg16 xs3 c hc)) := by
  rfl

theorem mid_ss (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.2.2.1 = rList (fun c hc => sumV ((fun c hc k hk => zsV (wssL arg8 harg8 x7) (yscL arg3 harg3 x2 c hc) (BitVec.ofNat 32 (i 0).val) k hk (accSL arg2 harg2 arg7 harg7 x1 x6 c hc)) c hc) (rowsL arg16 harg16 xs3 c hc) (rowsL arg17 harg17 xs4 c hc)) := by
  rfl

end Cert.LogitsIdeal.Gen

end
-- ==== Proof.LogitsFormLast.lean ====
/-
  The logits call: what its body stores at the last point, block by block, as instances of one function.
-/
module

public import proofs.«01_k».proof.Proof.LogitsLoads
public import proofs.«01_k».proof.Proof.LogitsIdealRunLast

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem last_zt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).1 = zList (fun c hc k hk => ztV (BitVec.ofNat 32 (i 0).val) k hk (accTL arg1 harg1 x0 (wtL arg13 arg4 harg4 arg5 harg5 arg6 harg6 x3 x4 x5) c hc)) := by
  rfl

theorem last_zs (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.1 = zList (fun c hc k hk => zsV (wssL arg8 harg8 x7) (yscL arg3 harg3 x2 c hc) (BitVec.ofNat 32 (i 0).val) k hk (accSL arg2 harg2 arg7 harg7 x1 x6 c hc)) := by
  rfl

theorem last_mt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.1 = rList (fun c hc => maxV ((fun c hc k hk => ztV (BitVec.ofNat 32 (i 0).val) k hk (accTL arg1 harg1 x0 (wtL arg13 arg4 harg4 arg5 harg5 arg6 harg6 x3 x4 x5) c hc)) c hc) (rowsL arg14 harg14 xs1 c hc)) := by
  rfl

theorem last_st (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.1 = rList (fun c hc => sumV ((fun c hc k hk => ztV (BitVec.ofNat 32 (i 0).val) k hk (accTL arg1 harg1 x0 (wtL arg13 arg4 harg4 arg5 harg5 arg6 harg6 x3 x4 x5) c hc)) c hc) (rowsL arg14 harg14 xs1 c hc) (rowsL arg15 harg15 xs2 c hc)) := by
  rfl

theorem last_ms (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.2.1 = rList (fun c hc => maxV ((fun c hc k hk => zsV (wssL arg8 harg8 x7) (yscL arg3 harg3 x2 c hc) (BitVec.ofNat 32 (i 0).val) k hk (accSL arg2 harg2 arg7 harg7 x1 x6 c hc)) c hc) (rowsL arg16 harg16 xs3 c hc)) := by
  rfl

theorem last_ss (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.2.2.1 = rList (fun c hc => sumV ((fun c hc k hk => zsV (wssL arg8 harg8 x7) (yscL arg3 harg3 x2 c hc) (BitVec.ofNat 32 (i 0).val) k hk (accSL arg2 harg2 arg7 harg7 x1 x6 c hc)) c hc) (rowsL arg16 harg16 xs3 c hc) (rowsL arg17 harg17 xs4 c hc)) := by
  rfl

theorem last_lt (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.1 = [⟨Rect.unit ![0, 0] S3072x128.size inb_S3072x128_S3072x128_0_0, k0_pay3 (wholeCov arg14 (rList (fun c hc => maxV ((fun c hc k hk => ztV (BitVec.ofNat 32 (i 0).val) k hk (accTL arg1 harg1 x0 (wtL arg13 arg4 harg4 arg5 harg5 arg6 harg6 x3 x4 x5) c hc)) c hc) (rowsL arg14 harg14 xs1 c hc)))) (wholeCov arg15 (rList (fun c hc => sumV ((fun c hc k hk => ztV (BitVec.ofNat 32 (i 0).val) k hk (accTL arg1 harg1 x0 (wtL arg13 arg4 harg4 arg5 harg5 arg6 harg6 x3 x4 x5) c hc)) c hc) (rowsL arg14 harg14 xs1 c hc) (rowsL arg15 harg15 xs2 c hc))))⟩] := by
  rfl

theorem last_ls (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec F S3072x2048 .bf16) (x1 : Vec F S3072x1536 .fp8e4m3) (x2 : Vec F S3072x128 .f32) (x3 : Vec F S1024x512 .i8) (x4 : Vec F S16x512 .f32) (x5 : Vec F S16x512 .f32) (x6 : Vec F S512x1536 .fp8e4m3) (x7 : Vec F S1x1x512 .f32) (xs1 : Vec F S3072x128 .f32) (xs2 : Vec F S3072x128 .f32) (xs3 : Vec F S3072x128 .f32) (xs4 : Vec F S3072x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.1 = [⟨Rect.unit ![0, 0] S3072x128.size inb_S3072x128_S3072x128_0_0, k0_pay4 (wholeCov arg16 (rList (fun c hc => maxV ((fun c hc k hk => zsV (wssL arg8 harg8 x7) (yscL arg3 harg3 x2 c hc) (BitVec.ofNat 32 (i 0).val) k hk (accSL arg2 harg2 arg7 harg7 x1 x6 c hc)) c hc) (rowsL arg16 harg16 xs3 c hc)))) (wholeCov arg17 (rList (fun c hc => sumV ((fun c hc k hk => zsV (wssL arg8 harg8 x7) (yscL arg3 harg3 x2 c hc) (BitVec.ofNat 32 (i 0).val) k hk (accSL arg2 harg2 arg7 harg7 x1 x6 c hc)) c hc) (rowsL arg16 harg16 xs3 c hc) (rowsL arg17 harg17 xs4 c hc))))⟩] := by
  rfl

end Cert.LogitsIdeal.Gen

end
-- ==== Proof.LogitsIdealBody.lean ====
/-
  The body of the logits call at the ideal instance, at each of the three kinds of point: from buffers at given contents it runs to
  the end and leaves each output and each running array at the contents named here.
-/
module

public import proofs.«01_k».proof.Proof.LogitsTile
public import proofs.«01_k».proof.Proof.LogitsFormFirst
public import proofs.«01_k».proof.Proof.LogitsFormMid
public import proofs.«01_k».proof.Proof.LogitsFormLast

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer that was written in pieces covering it holds what the pieces say. -/
theorem hold_writes (c : Dev nD) {S : Shape} {e : EltTy} (a : Memref sig .tc .vmem S e) (L L' : List (View.Piece (Elt Ideal) S e)) (G : S.Idx → Elt Ideal e)
    (hL : L = L') (hcov : ∀ y, ∃ p ∈ L', y ∈ p.1.set) (hG : View.canon L' = G) :
    iprop(∃ f, a.view.loc (c : Thread nD τ) ↦[a.view.set]{fullShare} a.view.writes (Elt Ideal) f L)
      ⊢ (iprop(owns (c : Thread nD τ) a fullShare G) : sProp 𝕄) := by
  subst hL hG
  unfold owns
  iintro ⟨%f, H⟩
  iexists (a.view.writes (Elt Ideal) f L)
  isplitr; · ipureintro; exact View.read_writes_eq_canon a.view f L hcov
  iexact H

/-- A buffer that was written in pieces is a buffer at some contents. -/
theorem forget_pieces (c : Dev nD) {S : Shape} {e : EltTy} (a : Memref sig .tc .vmem S e) (L : List (View.Piece (Elt Ideal) S e)) :
    iprop(∃ f, a.view.loc (c : Thread nD τ) ↦[a.view.set]{fullShare} a.view.writes (Elt Ideal) f L)
      ⊢ (iprop(∃ d, owns (c : Thread nD τ) a fullShare d) : sProp 𝕄) := by
  unfold owns
  iintro ⟨%f, H⟩
  iexists (a.view.read (Elt Ideal) (a.view.writes (Elt Ideal) f L)); iexists (a.view.writes (Elt Ideal) f L)
  isplitr; · ipureintro; exact rfl
  iexact H

theorem coord_lt (i : grid0.Coords) : (i 0).val < 297 := (i 0).isLt

set_option maxHeartbeats 1000000 in
/-- The body at the first point. -/
theorem body_first (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : cond0_0 i) (hc1 : ¬cond0_1 i)
    (x0 : Vec Ideal S3072x2048 .bf16) (x1 : Vec Ideal S3072x1536 .fp8e4m3) (x2 : Vec Ideal S3072x128 .f32) (x3 : Vec Ideal S1024x512 .i8) (x4 x5 : Vec Ideal S16x512 .f32) (x6 : Vec Ideal S512x1536 .fp8e4m3) (x7 : Vec Ideal S1x1x512 .f32) (xi10 xi11 : Vec Ideal S3072x128 .f32) (E : Set ℕ) (K : PUnit → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ztB (i 0).val x0 (wtB x3 x4 x5)) ∗ owns (c : Thread nD τ) arg10 fullShare (zsB (i 0).val x1 x2 x6 x7) ∗ owns (c : Thread nD τ) arg11 fullShare xi10 ∗ owns (c : Thread nD τ) arg12 fullShare xi11 ∗ (∃ d, owns (c : Thread nD τ) arg13 fullShare d) ∗ owns (c : Thread nD τ) arg14 fullShare (maxB (ztB (i 0).val x0 (wtB x3 x4 x5)) fun _ => ⊥) ∗ owns (c : Thread nD τ) arg15 fullShare (sumB (ztB (i 0).val x0 (wtB x3 x4 x5)) (fun _ => ⊥) fun _ => 0) ∗ owns (c : Thread nD τ) arg16 fullShare (maxB (zsB (i 0).val x1 x2 x6 x7) fun _ => ⊥) ∗ owns (c : Thread nD τ) arg17 fullShare (sumB (zsB (i 0).val x1 x2 x6 x7) (fun _ => ⊥) fun _ => 0)) -∗ K ⟨⟩))
      ⊢ wp frame (wpE (defs₀ (F := Ideal)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hwt := wtL_eq arg13 arg4 harg4 arg5 harg5 arg6 harg6 x3 x4 x5
  have ht := coord_lt i
  have hzt := fun q (hq : q < 6) k (hk : k < 4) r l => ztV_apply (i 0).val ht x0 (wtB x3 x4 x5) arg1 harg1 q hq k hk r l
  have hzs := fun q (hq : q < 6) k (hk : k < 4) r l => zsV_apply (i 0).val ht x1 x2 x6 x7 arg2 harg2 arg3 harg3 arg7 harg7 arg8 harg8 q hq k hk r l
  have h8 := hold_writes c arg9 _ _ (ztB (i 0).val x0 (wtB x3 x4 x5)) (first_zt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (zList_cover _) (by rw [hwt]; exact zList_canon _ _ hzt)
  have h9 := hold_writes c arg10 _ _ (zsB (i 0).val x1 x2 x6 x7) (first_zs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (zList_cover _) (zList_canon _ _ hzs)
  have h13 := hold_writes c arg14 _ _ (maxB (ztB (i 0).val x0 (wtB x3 x4 x5)) fun _ => ⊥) (first_mt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (mFirst_cover _ _) (by rw [hwt]; exact mFirst_canon _ _ _ hzt)
  have h14 := hold_writes c arg15 _ _ (sumB (ztB (i 0).val x0 (wtB x3 x4 x5)) (fun _ => ⊥) fun _ => 0) (first_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (sFirst_cover _ _ _) (by rw [hwt]; exact sFirst_canon _ _ _ _ hzt)
  have h15 := hold_writes c arg16 _ _ (maxB (zsB (i 0).val x1 x2 x6 x7) fun _ => ⊥) (first_ms c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (mFirst_cover _ _) (mFirst_canon _ _ _ hzs)
  have h16 := hold_writes c arg17 _ _ (sumB (zsB (i 0).val x1 x2 x6 x7) (fun _ => ⊥) fun _ => 0) (first_ss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7) (sFirst_cover _ _ _) (sFirst_canon _ _ _ _ hzs)
  iintro ⟨⟨H0, H1, H2, H3, H4, H5, H6, H7, H8, H9, H10, H11, H12, H13, H14, H15, H16⟩, Hk⟩
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.2.2.2.2.2 xi10 xi11 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply h8; iexact H8
  isplitl [H9]
  · iapply h9; iexact H9
  isplitl [H10]
  · iexact H10
  isplitl [H11]
  · iexact H11
  isplitl [H12]
  · iapply forget_pieces; iexact H12
  isplitl [H13]
  · iapply h13; iexact H13
  isplitl [H14]
  · iapply h14; iexact H14
  isplitl [H15]
  · iapply h15; iexact H15
  iapply h16; iexact H16

set_option maxHeartbeats 1000000 in
/-- The body at a point in between. -/
theorem body_mid (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : ¬cond0_1 i)
    (x0 : Vec Ideal S3072x2048 .bf16) (x1 : Vec Ideal S3072x1536 .fp8e4m3) (x2 : Vec Ideal S3072x128 .f32) (x3 : Vec Ideal S1024x512 .i8) (x4 x5 : Vec Ideal S16x512 .f32) (x6 : Vec Ideal S512x1536 .fp8e4m3) (x7 : Vec Ideal S1x1x512 .f32) (xs1 xs2 xs3 xs4 : Vec Ideal S3072x128 .f32) (xi10 xi11 : Vec Ideal S3072x128 .f32) (E : Set ℕ) (K : PUnit → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ owns (c : Thread nD τ) arg14 fullShare xs1 ∗ owns (c : Thread nD τ) arg15 fullShare xs2 ∗ owns (c : Thread nD τ) arg16 fullShare xs3 ∗ owns (c : Thread nD τ) arg17 fullShare xs4) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ztB (i 0).val x0 (wtB x3 x4 x5)) ∗ owns (c : Thread nD τ) arg10 fullShare (zsB (i 0).val x1 x2 x6 x7) ∗ owns (c : Thread nD τ) arg11 fullShare xi10 ∗ owns (c : Thread nD τ) arg12 fullShare xi11 ∗ (∃ d, owns (c : Thread nD τ) arg13 fullShare d) ∗ owns (c : Thread nD τ) arg14 fullShare (maxB (ztB (i 0).val x0 (wtB x3 x4 x5)) xs1) ∗ owns (c : Thread nD τ) arg15 fullShare (sumB (ztB (i 0).val x0 (wtB x3 x4 x5)) xs1 xs2) ∗ owns (c : Thread nD τ) arg16 fullShare (maxB (zsB (i 0).val x1 x2 x6 x7) xs3) ∗ owns (c : Thread nD τ) arg17 fullShare (sumB (zsB (i 0).val x1 x2 x6 x7) xs3 xs4)) -∗ K ⟨⟩))
      ⊢ wp frame (wpE (defs₀ (F := Ideal)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hwt := wtL_eq arg13 arg4 harg4 arg5 harg5 arg6 harg6 x3 x4 x5
  have ht := coord_lt i
  have hzt := fun q (hq : q < 6) k (hk : k < 4) r l => ztV_apply (i 0).val ht x0 (wtB x3 x4 x5) arg1 harg1 q hq k hk r l
  have hzs := fun q (hq : q < 6) k (hk : k < 4) r l => zsV_apply (i 0).val ht x1 x2 x6 x7 arg2 harg2 arg3 harg3 arg7 harg7 arg8 harg8 q hq k hk r l
  have h8 := hold_writes c arg9 _ _ (ztB (i 0).val x0 (wtB x3 x4 x5)) (mid_zt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (zList_cover _) (by rw [hwt]; exact zList_canon _ _ hzt)
  have h9 := hold_writes c arg10 _ _ (zsB (i 0).val x1 x2 x6 x7) (mid_zs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (zList_cover _) (zList_canon _ _ hzs)
  have h13 := hold_writes c arg14 _ _ (maxB (ztB (i 0).val x0 (wtB x3 x4 x5)) xs1) (mid_mt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (by rw [hwt]; exact mStep_canon _ _ arg14 harg14 xs1 hzt)
  have h14 := hold_writes c arg15 _ _ (sumB (ztB (i 0).val x0 (wtB x3 x4 x5)) xs1 xs2) (mid_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (by rw [hwt]; exact sStep_canon _ _ arg14 arg15 harg14 harg15 xs1 xs2 hzt)
  have h15 := hold_writes c arg16 _ _ (maxB (zsB (i 0).val x1 x2 x6 x7) xs3) (mid_ms c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (mStep_canon _ _ arg16 harg16 xs3 hzs)
  have h16 := hold_writes c arg17 _ _ (sumB (zsB (i 0).val x1 x2 x6 x7) xs3 xs4) (mid_ss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (sStep_canon _ _ arg16 arg17 harg16 harg17 xs3 xs4 hzs)
  iintro ⟨⟨H0, H1, H2, H3, H4, H5, H6, H7, H8, H9, H10, H11, H12, H13, H14, H15, H16⟩, Hk⟩
  iapply ((runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.2.2.2.2 xi10 xi11 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply h8; iexact H8
  isplitl [H9]
  · iapply h9; iexact H9
  isplitl [H10]
  · iexact H10
  isplitl [H11]
  · iexact H11
  isplitl [H12]
  · iapply forget_pieces; iexact H12
  isplitl [H13]
  · iapply h13; iexact H13
  isplitl [H14]
  · iapply h14; iexact H14
  isplitl [H15]
  · iapply h15; iexact H15
  iapply h16; iexact H16

set_option maxHeartbeats 1000000 in
/-- The body at the last point. -/
theorem body_last (c : Dev nD) (i : grid0.Coords) (arg1 : Memref sig .tc .vmem S3072x2048 .bf16) (harg1 : arg1.IsWhole) (arg2 : Memref sig .tc .vmem S3072x1536 .fp8e4m3) (harg2 : arg2.IsWhole) (arg3 : Memref sig .tc .vmem S3072x128 .f32) (harg3 : arg3.IsWhole) (arg4 : Memref sig .tc .vmem S1024x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1x3072x512 .f32) (harg9 : arg9.IsWhole) (arg10 : Memref sig .tc .vmem S1x3072x512 .f32) (harg10 : arg10.IsWhole) (arg11 : Memref sig .tc .vmem S3072x128 .f32) (harg11 : arg11.IsWhole) (arg12 : Memref sig .tc .vmem S3072x128 .f32) (harg12 : arg12.IsWhole) (arg13 : Memref sig .tc .vmem S2048x512 .bf16) (harg13 : arg13.IsWhole) (arg14 : Memref sig .tc .vmem S3072x128 .f32) (harg14 : arg14.IsWhole) (arg15 : Memref sig .tc .vmem S3072x128 .f32) (harg15 : arg15.IsWhole) (arg16 : Memref sig .tc .vmem S3072x128 .f32) (harg16 : arg16.IsWhole) (arg17 : Memref sig .tc .vmem S3072x128 .f32) (harg17 : arg17.IsWhole) (hc0 : ¬cond0_0 i) (hc1 : cond0_1 i)
    (x0 : Vec Ideal S3072x2048 .bf16) (x1 : Vec Ideal S3072x1536 .fp8e4m3) (x2 : Vec Ideal S3072x128 .f32) (x3 : Vec Ideal S1024x512 .i8) (x4 x5 : Vec Ideal S16x512 .f32) (x6 : Vec Ideal S512x1536 .fp8e4m3) (x7 : Vec Ideal S1x1x512 .f32) (xs1 xs2 xs3 xs4 : Vec Ideal S3072x128 .f32) (E : Set ℕ) (K : PUnit → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ owns (c : Thread nD τ) arg15 fullShare xs2 ∗ owns (c : Thread nD τ) arg16 fullShare xs3 ∗ owns (c : Thread nD τ) arg17 fullShare xs4) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ztB (i 0).val x0 (wtB x3 x4 x5)) ∗ owns (c : Thread nD τ) arg10 fullShare (zsB (i 0).val x1 x2 x6 x7) ∗ owns (c : Thread nD τ) arg11 fullShare (k0_pay3 (F := Ideal) (maxB (ztB (i 0).val x0 (wtB x3 x4 x5)) xs1) (sumB (ztB (i 0).val x0 (wtB x3 x4 x5)) xs1 xs2)) ∗ owns (c : Thread nD τ) arg12 fullShare (k0_pay4 (F := Ideal) (maxB (zsB (i 0).val x1 x2 x6 x7) xs3) (sumB (zsB (i 0).val x1 x2 x6 x7) xs3 xs4)) ∗ (∃ d, owns (c : Thread nD τ) arg13 fullShare d) ∗ owns (c : Thread nD τ) arg14 fullShare (maxB (ztB (i 0).val x0 (wtB x3 x4 x5)) xs1) ∗ owns (c : Thread nD τ) arg15 fullShare (sumB (ztB (i 0).val x0 (wtB x3 x4 x5)) xs1 xs2) ∗ owns (c : Thread nD τ) arg16 fullShare (maxB (zsB (i 0).val x1 x2 x6 x7) xs3) ∗ owns (c : Thread nD τ) arg17 fullShare (sumB (zsB (i 0).val x1 x2 x6 x7) xs3 xs4)) -∗ K ⟨⟩))
      ⊢ wp frame (wpE (defs₀ (F := Ideal)) Variants.none c none) E (cc0_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hwt := wtL_eq arg13 arg4 harg4 arg5 harg5 arg6 harg6 x3 x4 x5
  have ht := coord_lt i
  have hzt := fun q (hq : q < 6) k (hk : k < 4) r l => ztV_apply (i 0).val ht x0 (wtB x3 x4 x5) arg1 harg1 q hq k hk r l
  have hzs := fun q (hq : q < 6) k (hk : k < 4) r l => zsV_apply (i 0).val ht x1 x2 x6 x7 arg2 harg2 arg3 harg3 arg7 harg7 arg8 harg8 q hq k hk r l
  have h8 := hold_writes c arg9 _ _ (ztB (i 0).val x0 (wtB x3 x4 x5)) (last_zt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (zList_cover _) (by rw [hwt]; exact zList_canon _ _ hzt)
  have h9 := hold_writes c arg10 _ _ (zsB (i 0).val x1 x2 x6 x7) (last_zs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (zList_cover _) (zList_canon _ _ hzs)
  have h13 := hold_writes c arg14 _ _ (maxB (ztB (i 0).val x0 (wtB x3 x4 x5)) xs1) (last_mt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (by rw [hwt]; exact mStep_canon _ _ arg14 harg14 xs1 hzt)
  have h14 := hold_writes c arg15 _ _ (sumB (ztB (i 0).val x0 (wtB x3 x4 x5)) xs1 xs2) (last_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (by rw [hwt]; exact sStep_canon _ _ arg14 arg15 harg14 harg15 xs1 xs2 hzt)
  have h15 := hold_writes c arg16 _ _ (maxB (zsB (i 0).val x1 x2 x6 x7) xs3) (last_ms c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (mStep_canon _ _ arg16 harg16 xs3 hzs)
  have h16 := hold_writes c arg17 _ _ (sumB (zsB (i 0).val x1 x2 x6 x7) xs3 xs4) (last_ss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (rList_cover _) (sStep_canon _ _ arg16 arg17 harg16 harg17 xs3 xs4 hzs)
  have h10 := hold_writes c arg11 _ _ (k0_pay3 (F := Ideal) (maxB (ztB (i 0).val x0 (wtB x3 x4 x5)) xs1) (sumB (ztB (i 0).val x0 (wtB x3 x4 x5)) xs1 xs2)) (last_lt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (View.cover_of_tiledL _ S3072x128.size (by sl_kernel_rfl)) (by
    rw [View.canon_cons_unit_lit inb_S3072x128_S3072x128_0_0 _ [] (by decide), wholeCov_eq, wholeCov_eq, hwt,
      mStep_canon _ _ arg14 harg14 xs1 hzt, sStep_canon _ _ arg14 arg15 harg14 harg15 xs1 xs2 hzt])
  have h11 := hold_writes c arg12 _ _ (k0_pay4 (F := Ideal) (maxB (zsB (i 0).val x1 x2 x6 x7) xs3) (sumB (zsB (i 0).val x1 x2 x6 x7) xs3 xs4)) (last_ls c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4) (View.cover_of_tiledL _ S3072x128.size (by sl_kernel_rfl)) (by
    rw [View.canon_cons_unit_lit inb_S3072x128_S3072x128_0_0 _ [] (by decide), wholeCov_eq, wholeCov_eq,
      mStep_canon _ _ arg16 harg16 xs3 hzs, sStep_canon _ _ arg16 arg17 harg16 harg17 xs3 xs4 hzs])
  iintro ⟨⟨H0, H1, H2, H3, H4, H5, H6, H7, H8, H9, H10, H11, H12, H13, H14, H15, H16⟩, Hk⟩
  iapply ((runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs1 xs2 xs3 xs4).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply h8; iexact H8
  isplitl [H9]
  · iapply h9; iexact H9
  isplitl [H10]
  · iapply h10; iexact H10
  isplitl [H11]
  · iapply h11; iexact H11
  isplitl [H12]
  · iapply forget_pieces; iexact H12
  isplitl [H13]
  · iapply h13; iexact H13
  isplitl [H14]
  · iapply h14; iexact H14
  isplitl [H15]
  · iapply h15; iexact H15
  iapply h16; iexact H16

end Cert.LogitsIdeal.Gen

end
-- ==== Proof.Softmax.lean ====
module

public import Idealize.ShloMosaic.PureOps.Ideal

@[expose] public section

/-! The online log-sum-exp over the extended reals. A lane keeps a running maximum and the sum of `2^(z - maximum)` of
    the values seen; both are moved to each new maximum. At the end the lanes are joined at their common maximum. All
    laws hold at every extended real, so no precondition is needed. -/

namespace Cert.Lse
open Idealize.ShloMosaic

theorem exp2_nonneg (x : EReal) : 0 ≤ Ideal.exp2 x := by
  induction x using EReal.rec with
  | bot => simp
  | coe r => rw [Ideal.exp2_coe]; exact_mod_cast Real.rpow_nonneg (by norm_num) r
  | top => simp

/-- Moving a term from the maximum `a` to the later maximum `b`. -/
theorem exp2_mul {z a b : EReal} (h1 : z ≤ a) (h2 : a ≤ b) :
    Ideal.exp2 (z - a) * Ideal.exp2 (a - b) = Ideal.exp2 (z - b) := by
  induction b using EReal.rec with
  | top => simp [EReal.sub_top]
  | bot =>
    obtain rfl : a = ⊥ := le_bot_iff.1 h2
    obtain rfl : z = ⊥ := le_bot_iff.1 h1
    simp
  | coe b =>
    induction a using EReal.rec with
    | top => exact absurd h2 (by simp)
    | bot =>
      obtain rfl : z = ⊥ := le_bot_iff.1 h1
      simp
    | coe a =>
      induction z using EReal.rec with
      | top => exact absurd h1 (by simp)
      | bot => simp
      | coe z =>
        rw [← EReal.coe_sub, ← EReal.coe_sub, ← EReal.coe_sub, Ideal.exp2_coe, Ideal.exp2_coe, Ideal.exp2_coe,
          ← EReal.coe_mul]
        congr 1
        show (2 : ℝ) ^ (z - a) * (2 : ℝ) ^ (a - b) = (2 : ℝ) ^ (z - b)
        rw [← Real.rpow_add (by norm_num)]
        congr 1; ring

/-- A sum of nonnegative terms distributes over a product. -/
theorem sum_mul {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

/-- The running maximum of a lane after the tiles before `t`: four values in each tile. -/
noncomputable def runMax (z : ℕ → ℕ → EReal) : ℕ → EReal
  | 0 => ⊥
  | t + 1 => max (max (max (max (runMax z t) (z t 0)) (z t 1)) (z t 2)) (z t 3)

/-- The running sum of a lane after the tiles before `t`, at the running maximum. -/
noncomputable def runSum (z : ℕ → ℕ → EReal) : ℕ → EReal
  | 0 => 0
  | t + 1 => runSum z t * Ideal.exp2 (runMax z t - runMax z (t + 1)) + Ideal.exp2 (z t 0 - runMax z (t + 1))
      + Ideal.exp2 (z t 1 - runMax z (t + 1)) + Ideal.exp2 (z t 2 - runMax z (t + 1))
      + Ideal.exp2 (z t 3 - runMax z (t + 1))

theorem runMax_le_iff (z : ℕ → ℕ → EReal) (t : ℕ) (c : EReal) :
    runMax z t ≤ c ↔ ∀ t' < t, ∀ k < 4, z t' k ≤ c := by
  induction t with
  | zero => simp [runMax]
  | succ t ih =>
    simp only [runMax, max_le_iff, ih]
    constructor
    · rintro ⟨⟨⟨⟨h, h0⟩, h1⟩, h2⟩, h3⟩ t' ht k hk
      rcases Nat.lt_succ_iff_lt_or_eq.1 ht with ht | rfl
      · exact h t' ht k hk
      · interval_cases k <;> assumption
    · intro h
      exact ⟨⟨⟨⟨fun t' ht => h t' (by omega), h t (by omega) 0 (by omega)⟩, h t (by omega) 1 (by omega)⟩,
        h t (by omega) 2 (by omega)⟩, h t (by omega) 3 (by omega)⟩

theorem le_runMax (z : ℕ → ℕ → EReal) {t t' k : ℕ} (ht : t' < t) (hk : k < 4) : z t' k ≤ runMax z t :=
  (runMax_le_iff z t _).1 le_rfl t' ht k hk

theorem runMax_le_succ (z : ℕ → ℕ → EReal) (t : ℕ) : runMax z t ≤ runMax z (t + 1) :=
  (runMax_le_iff z t _).2 fun _ ht _ hk => le_runMax z (by omega) hk

/-- A lane's running sum is the sum of `2^(z - maximum)` over everything it has seen. -/
theorem runSum_eq (z : ℕ → ℕ → EReal) (t : ℕ) :
    runSum z t = ∑ t' ∈ Finset.range t, ∑ k ∈ Finset.range 4, Ideal.exp2 (z t' k - runMax z t) := by
  induction t with
  | zero => simp [runSum]
  | succ t ih =>
    rw [Finset.sum_range_succ, runSum, ih, sum_mul _ _ (fun _ => Finset.sum_nonneg fun _ _ => exp2_nonneg _)]
    have e : ∀ t' ∈ Finset.range t, (∑ k ∈ Finset.range 4, Ideal.exp2 (z t' k - runMax z t)) *
        Ideal.exp2 (runMax z t - runMax z (t + 1)) = ∑ k ∈ Finset.range 4, Ideal.exp2 (z t' k - runMax z (t + 1)) := by
      intro t' ht
      rw [sum_mul _ _ (fun _ => exp2_nonneg _)]
      exact Finset.sum_congr rfl fun k hk =>
        exp2_mul (le_runMax z (Finset.mem_range.1 ht) (Finset.mem_range.1 hk)) (runMax_le_succ z t)
    rw [Finset.sum_congr rfl e]
    simp only [Finset.sum_range_succ, Finset.sum_range_zero, zero_add]
    simp only [add_assoc]

/-- A sum over `a * b` numbers, in `a` runs of `b`. -/
theorem sum_range_mul (a b : ℕ) (f : ℕ → EReal) :
    ∑ i ∈ Finset.range (a * b), f i = ∑ i ∈ Finset.range a, ∑ j ∈ Finset.range b, f (i * b + j) := by
  induction a with
  | zero => simp
  | succ a ih => rw [Finset.sum_range_succ, ← ih, Nat.succ_mul, Finset.sum_range_add]

/-- The lanes' values joined at their common maximum `mm`: the sum over every value of the row. The value of tile `t`,
    column group `k` and lane `l` is `y (t * 512 + k * 128 + l)`. -/
theorem join_eq (y : ℕ → EReal) (n : ℕ) (mm : EReal)
    (hmm : ∀ l < 128, runMax (fun t k => y (t * 512 + k * 128 + l)) n ≤ mm) :
    ∑ l ∈ Finset.range 128, runSum (fun t k => y (t * 512 + k * 128 + l)) n *
        Ideal.exp2 (runMax (fun t k => y (t * 512 + k * 128 + l)) n - mm)
      = ∑ v ∈ Finset.range (n * 512), Ideal.exp2 (y v - mm) := by
  have e : ∀ l ∈ Finset.range 128, runSum (fun t k => y (t * 512 + k * 128 + l)) n *
        Ideal.exp2 (runMax (fun t k => y (t * 512 + k * 128 + l)) n - mm)
      = ∑ t ∈ Finset.range n, ∑ k ∈ Finset.range 4, Ideal.exp2 (y (t * 512 + k * 128 + l) - mm) := by
    intro l hl
    rw [runSum_eq, sum_mul _ _ (fun _ => Finset.sum_nonneg fun _ _ => exp2_nonneg _)]
    refine Finset.sum_congr rfl fun t ht => ?_
    rw [sum_mul _ _ (fun _ => exp2_nonneg _)]
    exact Finset.sum_congr rfl fun k hk =>
      exp2_mul (le_runMax (fun t k => y (t * 512 + k * 128 + l)) (Finset.mem_range.1 ht) (Finset.mem_range.1 hk))
        (hmm l (Finset.mem_range.1 hl))
  rw [Finset.sum_congr rfl e, Finset.sum_comm, sum_range_mul]
  refine Finset.sum_congr rfl fun t _ => ?_
  rw [Finset.sum_comm, show (512 : ℕ) = 4 * 128 from rfl, sum_range_mul]
  exact Finset.sum_congr rfl fun k _ => Finset.sum_congr rfl fun l _ => by rw [← add_assoc]

/-- The greatest lane maximum bounds exactly what bounds every value of the row. -/
theorem join_le_iff (y : ℕ → EReal) (n : ℕ) (c : EReal) :
    (∀ l < 128, runMax (fun t k => y (t * 512 + k * 128 + l)) n ≤ c) ↔ ∀ v < n * 512, y v ≤ c := by
  constructor
  · intro h v hv
    have := (runMax_le_iff _ n c).1 (h (v % 128) (by omega)) (v / 512) (by omega) (v / 128 % 4) (by omega)
    have e : v / 512 * 512 + v / 128 % 4 * 128 + v % 128 = v := by omega
    simpa only [e] using this
  · intro h l hl
    exact (runMax_le_iff _ n c).2 fun t ht k hk => h _ (by omega)

/-- The positive number by which natural units become binary ones. -/
noncomputable abbrev c2 : ℝ := (Real.log 2)⁻¹

theorem c2_pos : 0 < c2 := inv_pos.2 (Real.log_pos (by norm_num))

/-- A power of two at binary units is the exponential at natural ones. -/
theorem exp2_scaled (x m : EReal) : Ideal.exp2 (x * (c2 : EReal) - m * (c2 : EReal)) = Ideal.exp (x - m) := by
  have hc := c2_pos
  induction x using EReal.rec with
  | bot => simp [EReal.bot_mul_coe_of_pos hc]
  | top =>
    induction m using EReal.rec with
    | bot => simp [EReal.bot_mul_coe_of_pos hc, EReal.top_mul_coe_of_pos hc]
    | top => simp [EReal.top_mul_coe_of_pos hc, EReal.sub_top]
    | coe m =>
      rw [EReal.top_mul_coe_of_pos hc, ← EReal.coe_mul, EReal.top_sub_coe, EReal.top_sub_coe]; rfl
  | coe x =>
    induction m using EReal.rec with
    | bot => rw [EReal.bot_mul_coe_of_pos hc, ← EReal.coe_mul, EReal.coe_sub_bot, EReal.coe_sub_bot]; rfl
    | top => simp [EReal.top_mul_coe_of_pos hc, EReal.sub_top]
    | coe m =>
      rw [← EReal.coe_mul, ← EReal.coe_mul, ← EReal.coe_sub, ← EReal.coe_sub, Ideal.exp2_coe, Ideal.exp_coe]
      congr 1
      show (2 : ℝ) ^ (x * c2 - m * c2) = _
      rw [Real.rpow_def_of_pos (by norm_num)]
      congr 1
      have : Real.log 2 ≠ 0 := (Real.log_pos (by norm_num)).ne'
      simp only [c2]; field_simp

theorem scale_le_iff (x m : EReal) : x * (c2 : EReal) ≤ m * (c2 : EReal) ↔ x ≤ m := by
  have hc := c2_pos
  have key : ∀ a b : EReal, a ≤ b → a * (c2 : EReal) ≤ b * (c2 : EReal) := fun a b h =>
    mul_le_mul_of_nonneg_right h (by exact_mod_cast hc.le)
  refine ⟨fun h => ?_, key x m⟩
  have h' := mul_le_mul_of_nonneg_right h (show (0 : EReal) ≤ ((Real.log 2 : ℝ) : EReal) by
    exact_mod_cast (Real.log_pos (by norm_num)).le)
  have e : ∀ a : EReal, a * (c2 : EReal) * ((Real.log 2 : ℝ) : EReal) = a := by
    intro a
    rw [mul_assoc, ← EReal.coe_mul, show c2 * Real.log 2 = 1 from
      inv_mul_cancel₀ (Real.log_pos (by norm_num)).ne', EReal.coe_one, mul_one]
  rwa [e, e] at h'

theorem scale_add (a b : EReal) : (a + b) * (c2 : EReal) = a * (c2 : EReal) + b * (c2 : EReal) :=
  EReal.right_distrib_of_nonneg_of_ne_top (by exact_mod_cast c2_pos.le) (EReal.coe_ne_top _) a b

/-- The row's log-sum-exp in binary units from its lanes is the one in natural units, scaled. The row has `V` values
    `x v`; past them the tiles hold `-∞`. -/
theorem lse_eq (x y : ℕ → EReal) (V n : ℕ) (hV : V ≤ n * 512) (hy : ∀ v < V, y v = x v * (c2 : EReal))
    (hd : ∀ v, V ≤ v → y v = ⊥) (mm M : EReal)
    (hmm : ∀ c, mm ≤ c ↔ ∀ l < 128, runMax (fun t k => y (t * 512 + k * 128 + l)) n ≤ c)
    (hM : ∀ c, M ≤ c ↔ ∀ v < V, x v ≤ c) :
    mm + Ideal.log (∑ l ∈ Finset.range 128, runSum (fun t k => y (t * 512 + k * 128 + l)) n *
        Ideal.exp2 (runMax (fun t k => y (t * 512 + k * 128 + l)) n - mm)) * (c2 : EReal)
      = (M + Ideal.log (∑ v ∈ Finset.range V, Ideal.exp (x v - M))) * (c2 : EReal) := by
  have hc := c2_pos
  have e1 : ∀ c, mm ≤ c ↔ ∀ v < V, y v ≤ c := fun c => by
    rw [hmm, join_le_iff]
    refine ⟨fun h v hv => h v (by omega), fun h v _ => ?_⟩
    by_cases hv : v < V
    · exact h v hv
    · rw [hd v (by omega)]; exact bot_le
  have e2 : mm = M * (c2 : EReal) := by
    apply le_antisymm
    · rw [e1]; intro v hv; rw [hy v hv, scale_le_iff]; exact (hM M).1 le_rfl v hv
    · have h := (e1 mm).1 le_rfl
      have e : ∀ a : EReal, a * ((Real.log 2 : ℝ) : EReal) * (c2 : EReal) = a := by
        intro a
        rw [mul_assoc, ← EReal.coe_mul, show Real.log 2 * c2 = 1 from
          mul_inv_cancel₀ (Real.log_pos (by norm_num)).ne', EReal.coe_one, mul_one]
      rw [← e mm, scale_le_iff, hM]
      intro v hv
      rw [← scale_le_iff, e, ← hy v hv]
      exact h v hv
  rw [join_eq y n mm ((hmm mm).1 le_rfl), scale_add, ← e2]
  congr 3
  rw [← Nat.add_sub_cancel' hV, Finset.sum_range_add]
  have z : ∑ v ∈ Finset.range (n * 512 - V), Ideal.exp2 (y (V + v) - mm) = 0 :=
    Finset.sum_eq_zero fun v _ => by rw [hd _ (by omega)]; simp
  rw [z, add_zero]
  exact Finset.sum_congr rfl fun v hv => by
    rw [hy v (Finset.mem_range.1 hv), e2, exp2_scaled]

end Cert.Lse
-- ==== Proof.LogitsIdealData.lean ====
/-
  The logits call over the extended reals, as functions of the arrays the call reads: the scaled logits of every row and column,
  the tiles of them, and the running maximum and sum of every row and lane. A column past the end of the vocabulary is minus
  infinity, whatever the buffers hold there.
-/
module

public import proofs.«01_k».proof.Proof.LogitsIdealBody
public import proofs.«01_k».proof.Proof.Softmax
public import proofs.«01_k».proof.Proof.LogitsIdealFrame

@[expose] public section

set_option maxRecDepth 16384

noncomputable section

namespace Cert.LogitsIdeal.Gen

open Idealize.ShloMosaic Idealize.ShloMosaic.TcCoe Idealize.ShloMosaic.Tactic Idealize.ShloMosaic.ValueIdx
open scoped BigOperators

/-! ## The values -/

/-- The teacher's weight at row `k` and column `v`, from the bytes, the scales and the zeros. -/
def wtG (W : Vec Ideal S1024x151936 .i8) (S Z : Vec Ideal S16x151936 .f32) (k : Fin 2048) (v : Fin 151936) : EReal :=
  (nib (W (ix2 (⟨k.val / 2, by omega⟩ : Fin 1024) v)) (k.val % 2) - Z (ix2 (⟨k.val / 128, by omega⟩ : Fin 16) v))
    * S (ix2 (⟨k.val / 128, by omega⟩ : Fin 16) v)

/-- The scaled teacher logits. -/
def ztG (X : Vec Ideal S3072x2048 .bf16) (W : Vec Ideal S1024x151936 .i8) (S Z : Vec Ideal S16x151936 .f32) (r : Fin 3072) (v : ℕ) : EReal :=
  if h : v < 151936 then (∑ k : Fin 2048, X (ix2 r k) * wtG W S Z k ⟨v, h⟩) * half else ⊥

/-- The scaled student logits. -/
def zsG (Y : Vec Ideal S3072x1536 .fp8e4m3) (C : Vec Ideal S3072x128 .f32) (W : Vec Ideal S151936x1536 .fp8e4m3) (D : Vec Ideal S297x1x512 .f32)
    (r : Fin 3072) (v : ℕ) : EReal :=
  if h : v < 151936 then
    ((∑ k : Fin 1536, Y (ix2 r k) * W (ix2 (⟨v, h⟩ : Fin 151936) k)) * C (ix2 r (⟨v % 128, Nat.mod_lt _ (by decide)⟩ : Fin 128)))
      * (D (ix3 (⟨v / 512, by omega⟩ : Fin 297) (0 : Fin 1) (⟨v % 512, Nat.mod_lt _ (by decide)⟩ : Fin 512)) * half) else ⊥

/-- Tile `t` of the values `z`. -/
def tileG (z : Fin 3072 → ℕ → EReal) (t : ℕ) : S1x3072x512.Idx → EReal := fun i => z (i 1) (t * 512 + (i 2).val)

/-- The running maximum of every row and lane after the first `n` tiles. -/
def maxG (z : Fin 3072 → ℕ → EReal) (n : ℕ) : S3072x128.Idx → EReal := fun i =>
  Cert.Lse.runMax (fun t k => z (i 0) (t * 512 + k * 128 + (i 1).val)) n

/-- The running sum of every row and lane after the first `n` tiles. -/
def sumG (z : Fin 3072 → ℕ → EReal) (n : ℕ) : S3072x128.Idx → EReal := fun i =>
  Cert.Lse.runSum (fun t k => z (i 0) (t * 512 + k * 128 + (i 1).val)) n

theorem colB_tileG (z : Fin 3072 → ℕ → EReal) (t : ℕ) (i : S3072x128.Idx) (k : Fin 4) :
    colB (tileG z t) i k = z (i 0) (t * 512 + k.val * 128 + (i 1).val) := by
  show z (i 0) (t * 512 + (128 * k.val + (i 1).val)) = _
  congr 1; omega

theorem maxG_zero (z : Fin 3072 → ℕ → EReal) : maxG z 0 = fun _ => ⊥ := rfl
theorem sumG_zero (z : Fin 3072 → ℕ → EReal) : sumG z 0 = fun _ => 0 := rfl

theorem maxB_tileG (z : Fin 3072 → ℕ → EReal) (t : ℕ) : maxB (tileG z t) (maxG z t) = maxG z (t + 1) := by
  funext i
  unfold maxB; simp only [colB_tileG]; rfl

theorem sumB_tileG (z : Fin 3072 → ℕ → EReal) (t : ℕ) : sumB (tileG z t) (maxG z t) (sumG z t) = sumG z (t + 1) := by
  funext i
  unfold sumB; rw [maxB_tileG]; simp only [colB_tileG]; rfl

/-- A tile of the teacher's logits, from blocks that agree with the arrays on the columns of the vocabulary. -/
theorem ztB_eq (t : ℕ) (X : Vec Ideal S3072x2048 .bf16) (W : Vec Ideal S1024x151936 .i8) (S Z : Vec Ideal S16x151936 .f32)
    (x3 : Vec Ideal S1024x512 .i8) (x4 x5 : Vec Ideal S16x512 .f32)
    (h3 : ∀ p (q : Fin 512) (h : t * 512 + q.val < 151936), x3 (ix2 p q) = W (ix2 p (⟨t * 512 + q.val, h⟩ : Fin 151936)))
    (h4 : ∀ p (q : Fin 512) (h : t * 512 + q.val < 151936), x4 (ix2 p q) = S (ix2 p (⟨t * 512 + q.val, h⟩ : Fin 151936)))
    (h5 : ∀ p (q : Fin 512) (h : t * 512 + q.val < 151936), x5 (ix2 p q) = Z (ix2 p (⟨t * 512 + q.val, h⟩ : Fin 151936))) :
    ztB t X (wtB x3 x4 x5) = tileG (ztG X W S Z) t := by
  funext i
  have hq : (i 2).val < 512 := (i 2).isLt
  unfold ztB tileG ztG
  by_cases h : t * 512 + (i 2).val < 151936
  · rw [dif_pos h, if_pos (by omega)]
    congr 1
    refine Finset.sum_congr rfl fun k _ => ?_
    congr 1
    show (nib (x3 (ix2 (⟨k.val / 2, _⟩ : Fin 1024) (i 2))) (k.val % 2) - x5 (ix2 (⟨k.val / 128, _⟩ : Fin 16) (i 2)))
      * x4 (ix2 (⟨k.val / 128, _⟩ : Fin 16) (i 2)) = _
    rw [h3 _ _ h, h4 _ _ h, h5 _ _ h]; rfl
  · rw [dif_neg h, if_neg (by omega)]

/-- A tile of the student's logits, likewise. -/
theorem zsB_eq (t : ℕ) (ht : t < 297) (Y : Vec Ideal S3072x1536 .fp8e4m3) (C : Vec Ideal S3072x128 .f32) (W : Vec Ideal S151936x1536 .fp8e4m3) (D : Vec Ideal S297x1x512 .f32)
    (x6 : Vec Ideal S512x1536 .fp8e4m3) (x7 : Vec Ideal S1x1x512 .f32)
    (h6 : ∀ (q : Fin 512) k (h : t * 512 + q.val < 151936), x6 (ix2 q k) = W (ix2 (⟨t * 512 + q.val, h⟩ : Fin 151936) k))
    (h7 : ∀ q : Fin 512, x7 (ix3 (0 : Fin 1) (0 : Fin 1) q) = D (ix3 (⟨t, ht⟩ : Fin 297) (0 : Fin 1) q)) :
    zsB t Y C x6 x7 = tileG (zsG Y C W D) t := by
  funext i
  have hq : (i 2).val < 512 := (i 2).isLt
  unfold zsB tileG zsG
  by_cases h : t * 512 + (i 2).val < 151936
  · rw [dif_pos h, if_pos (by omega)]
    have e1 : (⟨(i 2).val % 128, Nat.mod_lt _ (by decide)⟩ : Fin 128) = ⟨(t * 512 + (i 2).val) % 128, Nat.mod_lt _ (by decide)⟩ := Fin.ext (by dsimp only; omega)
    have e2 : (⟨t, ht⟩ : Fin 297) = ⟨(t * 512 + (i 2).val) / 512, by omega⟩ := Fin.ext (by dsimp only; omega)
    have e3 : (i 2 : Fin 512) = ⟨(t * 512 + (i 2).val) % 512, Nat.mod_lt _ (by decide)⟩ := Fin.ext (by dsimp only; omega)
    rw [h7 (i 2), e1, e2]
    congr 1
    · congr 1
      exact Finset.sum_congr rfl fun k _ => by rw [h6 _ _ h]
    · congr 3
  · rw [dif_neg h, if_neg (by omega)]

/-! ## The blocks read -/

theorem index3 : ∀ t : Fin grid0.N, cc0_transform_3 (grid0.coords t) 0 = 0 ∧ cc0_transform_3 (grid0.coords t) 1 = t.val := by decide +kernel
theorem index4 : ∀ t : Fin grid0.N, cc0_transform_4 (grid0.coords t) 0 = 0 ∧ cc0_transform_4 (grid0.coords t) 1 = t.val := by decide +kernel
theorem index5 : ∀ t : Fin grid0.N, cc0_transform_5 (grid0.coords t) 0 = 0 ∧ cc0_transform_5 (grid0.coords t) 1 = t.val := by decide +kernel
theorem index6 : ∀ t : Fin grid0.N, cc0_transform_6 (grid0.coords t) 0 = t.val ∧ cc0_transform_6 (grid0.coords t) 1 = 0 := by decide +kernel
theorem index7 : ∀ t : Fin grid0.N, cc0_transform_7 (grid0.coords t) 0 = t.val ∧ cc0_transform_7 (grid0.coords t) 1 = 0 ∧ cc0_transform_7 (grid0.coords t) 2 = 0 := by decide +kernel

theorem extent_lt {ix k d j : ℕ} (hj : j < k) (h : ix * k + j < d) : j < (Pipeline.Clip.of ix k d).extent k := by
  unfold Pipeline.Clip.of
  split
  · exact hj
  · show j < d - ix * k
    omega

theorem extent_whole {ix k d j : ℕ} (h : ix = 0) (hd : k = d) (hj : j < k) : j < (Pipeline.Clip.of ix k d).extent k :=
  extent_lt hj (by subst h hd; rwa [Nat.zero_mul, Nat.zero_add])

variable (m : (ℓ : Loc nD τ sig) → Buf (Elt Ideal) ℓ)

attribute [local irreducible] Pipeline.Clip.of

/-- A filled block at an index that the transfer moves. -/
theorem fill_read {G : Pipeline.Grid} (w : Pipeline.Window sig G) {α : Type} (i : G.Coords) (d : w.block.Idx → α) (g : (w.xblock i).Idx → α) (j : w.block.Idx)
    (h : ∀ a, (j a).val < w.xsize i a) : w.fill i d g j = g (fun a => ⟨(j a).val, h a⟩) := by
  unfold Pipeline.Window.fill
  exact dif_pos ((w.moved_iff i j).mpr h)

theorem fill3 (c : Dev nD) (t : Fin cfg0.N) (d) (p : Fin 1024) (q : Fin 512) (h : t.val * 512 + q.val < 151936) :
    (cfg0.win 3).fill (grid0.coords t) d (iblk m c 3 t) (ix2 p q) = V m c main_arg3 (ix2 p (⟨t.val * 512 + q.val, h⟩ : Fin 151936)) := by
  obtain ⟨e0, e1⟩ := index3 t
  have h0 : p.val < (Pipeline.Clip.of (cc0_transform_3 (grid0.coords t) 0) (S1024x512.size 0) (S1024x151936.size 0)).extent (S1024x512.size 0) := extent_whole e0 (show S1024x512.size 0 = S1024x151936.size 0 from rfl) p.isLt
  have h1 : q.val < (Pipeline.Clip.of (cc0_transform_3 (grid0.coords t) 1) (S1024x512.size 1) (S1024x151936.size 1)).extent (S1024x512.size 1) := extent_lt q.isLt (by rw [e1]; exact h)
  refine (fill_read (cfg0.win 3) (grid0.coords t) d (iblk m c 3 t) (ix2 p q) (Fin.forall_fin_two.mpr ⟨h0, h1⟩)).trans ?_
  refine congrArg (V m c main_arg3) (funext (Fin.forall_fin_two.mpr ⟨Fin.ext ?_, Fin.ext ?_⟩))
  · show cc0_transform_3 (grid0.coords t) 0 * 1024 + 1 * p.val = p.val
    rw [e0]; omega
  · show cc0_transform_3 (grid0.coords t) 1 * 512 + 1 * q.val = t.val * 512 + q.val
    rw [e1]; omega

theorem fill4 (c : Dev nD) (t : Fin cfg0.N) (d) (p : Fin 16) (q : Fin 512) (h : t.val * 512 + q.val < 151936) :
    (cfg0.win 4).fill (grid0.coords t) d (iblk m c 4 t) (ix2 p q) = V m c main_arg4 (ix2 p (⟨t.val * 512 + q.val, h⟩ : Fin 151936)) := by
  obtain ⟨e0, e1⟩ := index4 t
  have h0 : p.val < (Pipeline.Clip.of (cc0_transform_4 (grid0.coords t) 0) 16 16).extent 16 := extent_lt p.isLt (by rw [e0]; omega)
  have h1 : q.val < (Pipeline.Clip.of (cc0_transform_4 (grid0.coords t) 1) 512 151936).extent 512 := extent_lt q.isLt (by rw [e1]; exact h)
  refine (fill_read (cfg0.win 4) (grid0.coords t) d (iblk m c 4 t) (ix2 p q) (Fin.forall_fin_two.mpr ⟨h0, h1⟩)).trans ?_
  refine congrArg (V m c main_arg4) (funext (Fin.forall_fin_two.mpr ⟨Fin.ext ?_, Fin.ext ?_⟩))
  · show cc0_transform_4 (grid0.coords t) 0 * 16 + 1 * p.val = p.val
    rw [e0]; omega
  · show cc0_transform_4 (grid0.coords t) 1 * 512 + 1 * q.val = t.val * 512 + q.val
    rw [e1]; omega

theorem fill5 (c : Dev nD) (t : Fin cfg0.N) (d) (p : Fin 16) (q : Fin 512) (h : t.val * 512 + q.val < 151936) :
    (cfg0.win 5).fill (grid0.coords t) d (iblk m c 5 t) (ix2 p q) = V m c main_arg5 (ix2 p (⟨t.val * 512 + q.val, h⟩ : Fin 151936)) := by
  obtain ⟨e0, e1⟩ := index5 t
  have h0 : p.val < (Pipeline.Clip.of (cc0_transform_5 (grid0.coords t) 0) 16 16).extent 16 := extent_lt p.isLt (by rw [e0]; omega)
  have h1 : q.val < (Pipeline.Clip.of (cc0_transform_5 (grid0.coords t) 1) 512 151936).extent 512 := extent_lt q.isLt (by rw [e1]; exact h)
  refine (fill_read (cfg0.win 5) (grid0.coords t) d (iblk m c 5 t) (ix2 p q) (Fin.forall_fin_two.mpr ⟨h0, h1⟩)).trans ?_
  refine congrArg (V m c main_arg5) (funext (Fin.forall_fin_two.mpr ⟨Fin.ext ?_, Fin.ext ?_⟩))
  · show cc0_transform_5 (grid0.coords t) 0 * 16 + 1 * p.val = p.val
    rw [e0]; omega
  · show cc0_transform_5 (grid0.coords t) 1 * 512 + 1 * q.val = t.val * 512 + q.val
    rw [e1]; omega

theorem fill6 (c : Dev nD) (t : Fin cfg0.N) (d) (q : Fin 512) (k : Fin 1536) (h : t.val * 512 + q.val < 151936) :
    (cfg0.win 6).fill (grid0.coords t) d (iblk m c 6 t) (ix2 q k) = V m c main_arg6 (ix2 (⟨t.val * 512 + q.val, h⟩ : Fin 151936) k) := by
  obtain ⟨e0, e1⟩ := index6 t
  have h0 : q.val < (Pipeline.Clip.of (cc0_transform_6 (grid0.coords t) 0) (S512x1536.size 0) (S151936x1536.size 0)).extent (S512x1536.size 0) := extent_lt q.isLt (by rw [e0]; exact h)
  have h1 : k.val < (Pipeline.Clip.of (cc0_transform_6 (grid0.coords t) 1) (S512x1536.size 1) (S151936x1536.size 1)).extent (S512x1536.size 1) := extent_whole e1 (show S512x1536.size 1 = S151936x1536.size 1 from rfl) k.isLt
  refine (fill_read (cfg0.win 6) (grid0.coords t) d (iblk m c 6 t) (ix2 q k) (Fin.forall_fin_two.mpr ⟨h0, h1⟩)).trans ?_
  refine congrArg (V m c main_arg6) (funext (Fin.forall_fin_two.mpr ⟨Fin.ext ?_, Fin.ext ?_⟩))
  · show cc0_transform_6 (grid0.coords t) 0 * 512 + 1 * q.val = t.val * 512 + q.val
    rw [e0]; omega
  · show cc0_transform_6 (grid0.coords t) 1 * 1536 + 1 * k.val = k.val
    rw [e1]; omega

theorem iblk7 (c : Dev nD) (t : Fin cfg0.N) (ht : t.val < 297) (q : Fin 512) :
    iblk m c 7 t (ix3 (0 : Fin 1) (0 : Fin 1) q) = V m c main_v3 (ix3 (⟨t.val, ht⟩ : Fin 297) (0 : Fin 1) q) := by
  obtain ⟨e0, e1, e2⟩ := index7 t
  refine congrArg (V m c main_v3) (funext fun a => Fin.ext ?_)
  match a with
  | ⟨0, _⟩ => show cc0_transform_7 (grid0.coords t) 0 * 1 + 1 * 0 = t.val; rw [e0]; omega
  | ⟨1, _⟩ => show cc0_transform_7 (grid0.coords t) 1 * 1 + 1 * 0 = 0; rw [e1]
  | ⟨2, _⟩ => show cc0_transform_7 (grid0.coords t) 2 * 512 + 1 * q.val = q.val; rw [e2]; omega

theorem iblk0 (c : Dev nD) (t : Fin cfg0.N) : iblk m c 0 t = V m c main_arg0 := by
  refine funext fun y => congrArg (V m c main_arg0) (funext fun a => Fin.ext ?_)
  match a with
  | ⟨0, _⟩ => show 0 * 3072 + 1 * (y 0).val = (y 0).val; omega
  | ⟨1, _⟩ => show 0 * 2048 + 1 * (y 1).val = (y 1).val; omega

theorem iblk1 (c : Dev nD) (t : Fin cfg0.N) : iblk m c 1 t = V m c main_arg1 := by
  refine funext fun y => congrArg (V m c main_arg1) (funext fun a => Fin.ext ?_)
  match a with
  | ⟨0, _⟩ => show 0 * 3072 + 1 * (y 0).val = (y 0).val; omega
  | ⟨1, _⟩ => show 0 * 1536 + 1 * (y 1).val = (y 1).val; omega

theorem iblk2 (c : Dev nD) (t : Fin cfg0.N) : iblk m c 2 t = V m c main_v1 := by
  refine funext fun y => congrArg (V m c main_v1) (funext fun a => Fin.ext ?_)
  match a with
  | ⟨0, _⟩ => show 0 * 3072 + 1 * (y 0).val = (y 0).val; omega
  | ⟨1, _⟩ => show 0 * 128 + 1 * (y 1).val = (y 1).val; omega

/-- The scaled teacher logits of the arrays the call finds. -/
abbrev ztV0 (c : Dev nD) : Fin 3072 → ℕ → EReal := ztG (V m c main_arg0) (V m c main_arg3) (V m c main_arg4) (V m c main_arg5)
/-- The scaled student logits of the arrays the call finds. -/
abbrev zsV0 (c : Dev nD) : Fin 3072 → ℕ → EReal := zsG (V m c main_arg1) (V m c main_v1) (V m c main_arg6) (V m c main_v3)

/-- What a point stores of the teacher's logits, whatever its buffers hold past the end of the arrays. -/
theorem zt_tile (c : Dev nD) (t : Fin cfg0.N) (d3 d4 d5) :
    ztB t.val (iblk m c 0 t) (wtB ((cfg0.win 3).fill (grid0.coords t) d3 (iblk m c 3 t)) ((cfg0.win 4).fill (grid0.coords t) d4 (iblk m c 4 t))
      ((cfg0.win 5).fill (grid0.coords t) d5 (iblk m c 5 t))) = tileG (ztV0 m c) t.val := by
  rw [iblk0]
  exact ztB_eq t.val _ _ _ _ _ _ _ (fun p q h => fill3 m c t d3 p q h) (fun p q h => fill4 m c t d4 p q h) (fun p q h => fill5 m c t d5 p q h)

/-- What a point stores of the student's logits. -/
theorem zs_tile (c : Dev nD) (t : Fin cfg0.N) (ht : t.val < 297) (d6) :
    zsB t.val (iblk m c 1 t) (iblk m c 2 t) ((cfg0.win 6).fill (grid0.coords t) d6 (iblk m c 6 t)) (iblk m c 7 t) = tileG (zsV0 m c) t.val := by
  rw [iblk1, iblk2]
  exact zsB_eq t.val ht _ _ _ _ _ _ (fun q k h => fill6 m c t d6 q k h) (fun q => iblk7 m c t ht q)

end Cert.LogitsIdeal.Gen

end
-- ==== Proof.LogitsIdealSound.lean ====
/-
  The logits call at the ideal instance, run: at every point of the grid the body takes the buffers from one state of the running
  arrays to the next and stores one tile of either kind of logits; at the last point it stores the two log-sum-exps.
-/
module

public import proofs.«01_k».proof.Proof.LogitsIdealData

@[expose] public section

set_option maxRecDepth 16384

noncomputable section

namespace Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The log-sum-exp of the teacher's logits as the last point stores it. -/
abbrev ltV0 (c : Dev nD) : S3072x128.Idx → EReal := k0_pay3 (F := Ideal) (maxG (ztV0 m c) 297) (sumG (ztV0 m c) 297)
/-- The log-sum-exp of the student's logits as the last point stores it. -/
abbrev lsV0 (c : Dev nD) : S3072x128.Idx → EReal := k0_pay4 (F := Ideal) (maxG (zsV0 m c) 297) (sumG (zsV0 m c) 297)

/-- The scratch buffers before point `n`: at any contents before the first point, then the running arrays of the tiles done. -/
def PhiS (c : Dev nD) : ℕ → sProp 𝕄
  | 0 => Pipeline.ΦA spec0 c
  | n + 1 => iprop(iprop((∃ d, owns (c : Thread nD τ) (Memref.whole cc0_scratch0) fullShare d)
      ∗ owns (c : Thread nD τ) (Memref.whole cc0_scratch1) fullShare (maxG (ztV0 m c) (n + 1))
      ∗ owns (c : Thread nD τ) (Memref.whole cc0_scratch2) fullShare (sumG (ztV0 m c) (n + 1))
      ∗ owns (c : Thread nD τ) (Memref.whole cc0_scratch3) fullShare (maxG (zsV0 m c) (n + 1))
      ∗ owns (c : Thread nD τ) (Memref.whole cc0_scratch4) fullShare (sumG (zsV0 m c) (n + 1))) ∗ (∃ r, prngReg c r))

/-- What the call's buffers hold after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (cfg0.win 3).fill (grid0.coords t) (Dat.unnamed 3 t) (iblk m c 3 t)
    | ⟨4, _⟩ => (cfg0.win 4).fill (grid0.coords t) (Dat.unnamed 4 t) (iblk m c 4 t)
    | ⟨5, _⟩ => (cfg0.win 5).fill (grid0.coords t) (Dat.unnamed 5 t) (iblk m c 5 t)
    | ⟨6, _⟩ => (cfg0.win 6).fill (grid0.coords t) (Dat.unnamed 6 t) (iblk m c 6 t)
    | ⟨7, _⟩ => iblk m c 7 t
    | ⟨8, _⟩ => tileG (ztV0 m c) t.val
    | ⟨9, _⟩ => tileG (zsV0 m c) t.val
    | ⟨10, _⟩ => ltV0 m c
    | ⟨11, _⟩ => lsV0 m c
  Φ t := PhiS m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => by dsimp only [dats]) t d
theorem before0_1 (c : Dev nD) (t : Fin cfg0.N) (d) : (dats m 0 c).before 1 t d = iblk m c 1 t :=
  before0_1_of m (dats m 0 c) (A_eq m c 1) (fun _ => by dsimp only [dats]) t d
theorem before0_2 (c : Dev nD) (t : Fin cfg0.N) (d) : (dats m 0 c).before 2 t d = iblk m c 2 t :=
  before0_2_of m (dats m 0 c) (A_eq m c 2) (fun _ => by dsimp only [dats]) t d
theorem before0_7 (c : Dev nD) (t : Fin cfg0.N) (d) : (dats m 0 c).before 7 t d = iblk m c 7 t :=
  before0_7_of m (dats m 0 c) (A_eq m c 7) (fun _ => by dsimp only [dats]) t d
theorem before0_3 (c : Dev nD) (t : Fin cfg0.N) (d) :
    (dats m 0 c).before 3 t d = (cfg0.win 3).fill (grid0.coords t) d (iblk m c 3 t) := by
  unfold Dat.before; rw [if_pos (fetch0_3 t)]; rfl
theorem cut0_3 (c : Dev nD) (t : Fin cfg0.N) : (cfg0.win 3).cut (grid0.coords t) ((dats m 0 c).after 3 t) = iblk m c 3 t :=
  (cfg0.win 3).cut_fill (grid0.coords t) (Dat.unnamed 3 t) (iblk m c 3 t)
theorem before0_4 (c : Dev nD) (t : Fin cfg0.N) (d) :
    (dats m 0 c).before 4 t d = (cfg0.win 4).fill (grid0.coords t) d (iblk m c 4 t) := by
  unfold Dat.before; rw [if_pos (fetch0_4 t)]; rfl
theorem cut0_4 (c : Dev nD) (t : Fin cfg0.N) : (cfg0.win 4).cut (grid0.coords t) ((dats m 0 c).after 4 t) = iblk m c 4 t :=
  (cfg0.win 4).cut_fill (grid0.coords t) (Dat.unnamed 4 t) (iblk m c 4 t)
theorem before0_5 (c : Dev nD) (t : Fin cfg0.N) (d) :
    (dats m 0 c).before 5 t d = (cfg0.win 5).fill (grid0.coords t) d (iblk m c 5 t) := by
  unfold Dat.before; rw [if_pos (fetch0_5 t)]; rfl
theorem cut0_5 (c : Dev nD) (t : Fin cfg0.N) : (cfg0.win 5).cut (grid0.coords t) ((dats m 0 c).after 5 t) = iblk m c 5 t :=
  (cfg0.win 5).cut_fill (grid0.coords t) (Dat.unnamed 5 t) (iblk m c 5 t)
theorem before0_6 (c : Dev nD) (t : Fin cfg0.N) (d) :
    (dats m 0 c).before 6 t d = (cfg0.win 6).fill (grid0.coords t) d (iblk m c 6 t) := by
  unfold Dat.before; rw [if_pos (fetch0_6 t)]; rfl
theorem cut0_6 (c : Dev nD) (t : Fin cfg0.N) : (cfg0.win 6).cut (grid0.coords t) ((dats m 0 c).after 6 t) = iblk m c 6 t :=
  (cfg0.win 6).cut_fill (grid0.coords t) (Dat.unnamed 6 t) (iblk m c 6 t)

theorem coords0 (t : Fin cfg0.N) : (grid0.coords t 0).val = t.val := by
  have ht : t.val < 297 := Nat.lt_of_lt_of_eq t.isLt N_0
  have e0 : (grid0.coords t 0).val = t.val / 1 % 297 := Pipeline.Grid.coords_val t 0 (by decide) rfl
  rw [e0]; omega

theorem leaves0_0 (c : Dev nD) (t : Fin cfg0.N) :
    (dats m 0 c).leaves 0 t = owns (c : Thread nD τ) ((cfg0.win 0).stage (cfg0.slots t 0)) fullShare (iblk m c 0 t) := rfl
theorem leaves0_1 (c : Dev nD) (t : Fin cfg0.N) :
    (dats m 0 c).leaves 1 t = owns (c : Thread nD τ) ((cfg0.win 1).stage (cfg0.slots t 1)) fullShare (iblk m c 1 t) := rfl
theorem leaves0_2 (c : Dev nD) (t : Fin cfg0.N) :
    (dats m 0 c).leaves 2 t = owns (c : Thread nD τ) ((cfg0.win 2).stage (cfg0.slots t 2)) fullShare (iblk m c 2 t) := rfl
theorem leaves0_7 (c : Dev nD) (t : Fin cfg0.N) :
    (dats m 0 c).leaves 7 t = owns (c : Thread nD τ) ((cfg0.win 7).stage (cfg0.slots t 7)) fullShare (iblk m c 7 t) := rfl
theorem leaves0_3 (c : Dev nD) (t : Fin cfg0.N) :
    (dats m 0 c).leaves 3 t = iprop(∃ d, owns (c : Thread nD τ) ((cfg0.win 3).stage (cfg0.slots t 3)) fullShare ((cfg0.win 3).fill (grid0.coords t) d (iblk m c 3 t))) := by
  rw [← cut0_3 m c t]
theorem leaves0_4 (c : Dev nD) (t : Fin cfg0.N) :
    (dats m 0 c).leaves 4 t = iprop(∃ d, owns (c : Thread nD τ) ((cfg0.win 4).stage (cfg0.slots t 4)) fullShare ((cfg0.win 4).fill (grid0.coords t) d (iblk m c 4 t))) := by
  rw [← cut0_4 m c t]
theorem leaves0_5 (c : Dev nD) (t : Fin cfg0.N) :
    (dats m 0 c).leaves 5 t = iprop(∃ d, owns (c : Thread nD τ) ((cfg0.win 5).stage (cfg0.slots t 5)) fullShare ((cfg0.win 5).fill (grid0.coords t) d (iblk m c 5 t))) := by
  rw [← cut0_5 m c t]
theorem leaves0_6 (c : Dev nD) (t : Fin cfg0.N) :
    (dats m 0 c).leaves 6 t = iprop(∃ d, owns (c : Thread nD τ) ((cfg0.win 6).stage (cfg0.slots t 6)) fullShare ((cfg0.win 6).fill (grid0.coords t) d (iblk m c 6 t))) := by
  rw [← cut0_6 m c t]
theorem leaves0_8 (c : Dev nD) (t : Fin cfg0.N) :
    (dats m 0 c).leaves 8 t = owns (c : Thread nD τ) ((cfg0.win 8).stage (cfg0.slots t 8)) fullShare (tileG (ztV0 m c) t.val) := rfl
theorem leaves0_9 (c : Dev nD) (t : Fin cfg0.N) :
    (dats m 0 c).leaves 9 t = owns (c : Thread nD τ) ((cfg0.win 9).stage (cfg0.slots t 9)) fullShare (tileG (zsV0 m c) t.val) := rfl
theorem leaves0_10_idle (c : Dev nD) (t : Fin cfg0.N) (h : ¬ t.val % 297 = 296) :
    (dats m 0 c).leaves 10 t = iprop(∃ d, owns (c : Thread nD τ) ((cfg0.win 10).stage (cfg0.slots t 10)) fullShare ((dats m 0 c).before 10 t d)) :=
  Dat.leaves_idle (dats m 0 c) 10 t
    (by show (!(k0_cond2 (grid0.coords t) == 1#1)) = true
        rw [Bool.not_eq_true', beq_eq_false_iff_ne]
        exact fun e => h ((hcond0_1 t).mp e))
    (Bool.eq_false_iff.mpr fun e => h ((flush0_10 t).mp e))
theorem leaves0_10_last (c : Dev nD) (t : Fin cfg0.N) (h : t.val % 297 = 296) :
    (dats m 0 c).leaves 10 t = owns (c : Thread nD τ) ((cfg0.win 10).stage (cfg0.slots t 10)) fullShare (ltV0 m c) := by
  have hi : cfg0.idle 10 (cfg0.grid.coords t) = false := by
    show (!(k0_cond2 (grid0.coords t) == 1#1)) = false
    rw [Bool.not_eq_false', beq_iff_eq]
    exact (hcond0_1 t).mpr h
  unfold Dat.leaves
  rw [hi]; rfl
theorem leaves0_11_idle (c : Dev nD) (t : Fin cfg0.N) (h : ¬ t.val % 297 = 296) :
    (dats m 0 c).leaves 11 t = iprop(∃ d, owns (c : Thread nD τ) ((cfg0.win 11).stage (cfg0.slots t 11)) fullShare ((dats m 0 c).before 11 t d)) :=
  Dat.leaves_idle (dats m 0 c) 11 t
    (by show (!(k0_cond2 (grid0.coords t) == 1#1)) = true
        rw [Bool.not_eq_true', beq_eq_false_iff_ne]
        exact fun e => h ((hcond0_1 t).mp e))
    (Bool.eq_false_iff.mpr fun e => h ((flush0_11 t).mp e))
theorem leaves0_11_last (c : Dev nD) (t : Fin cfg0.N) (h : t.val % 297 = 296) :
    (dats m 0 c).leaves 11 t = owns (c : Thread nD τ) ((cfg0.win 11).stage (cfg0.slots t 11)) fullShare (lsV0 m c) := by
  have hi : cfg0.idle 11 (cfg0.grid.coords t) = false := by
    show (!(k0_cond2 (grid0.coords t) == 1#1)) = false
    rw [Bool.not_eq_false', beq_iff_eq]
    exact (hcond0_1 t).mpr h
  unfold Dat.leaves
  rw [hi]; rfl

/-! ## The body's obligation -/

set_option maxHeartbeats 1000000 in
/-- The obligation at the first point. -/
theorem obligation_first (c : Dev nD) (t : Fin cfg0.N) (h0 : t.val = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := Ideal)) Variants.none c none) Set.univ (defs₀ (F := Ideal) .tc cfg0.body (cfg0.bodyArgs t (cfg0.slots t))) fun _ =>
          iprop((dats m 0 c).Φ t.succ ∗ (dats m 0 c).owesAt () t.succ ∗ bigSep Finset.univ fun w : Fin cfg0.W => (dats m 0 c).leaves w t) := by
  have ht : t.val < 297 := Nat.lt_of_lt_of_eq t.isLt N_0
  rw [bigSep_W0, bigSep_W0, bodyRow]
  rw [leaves0_0, leaves0_1, leaves0_2, leaves0_3, leaves0_4, leaves0_5, leaves0_6, leaves0_7, leaves0_8, leaves0_9, leaves0_10_idle m c t (by omega), leaves0_11_idle m c t (by omega)]
  rw [show (dats m 0 c).Φ t.castSucc = Pipeline.ΦA spec0 c from by show PhiS m c t.val = _; rw [h0]; rfl, anyScratch_eq]
  rw [show (dats m 0 c).Φ t.succ = PhiS m c (t.val + 1) from rfl]
  unfold PhiS bodyAt0
  dsimp only
  iintro ⟨⟨⟨H12, H13, H14, H15, H16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0 m c t d0, before0_1 m c t d1, before0_2 m c t d2, before0_3 m c t d3, before0_4 m c t d4, before0_5 m c t d5, before0_6 m c t d6, before0_7 m c t d7]
  iapply (body_first c (grid0.coords t) _ _ _ _ _ _ _ _ _ _ _ _ _ _ _ _ _ _ _ _ _ _ _ _ _ _ _ _ _ _ _ _ _ _ ((hcond0_0 t).mpr (by omega)) (fun e => by have := (hcond0_1 t).mp e; omega) (iblk m c 0 t) (iblk m c 1 t) (iblk m c 2 t) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) (iblk m c 7 t) _ _ Set.univ _)
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    iexact H16
  iintro ⟨H0, H1, H2, H3, H4, H5, H6, H7, H8, H9, H10, H11, H12, H13, H14, H15, H16⟩
  rw [coords0 t, zt_tile m c t, zs_tile m c t ht]
  rw [h0, ← maxG_zero (ztV0 m c), ← sumG_zero (ztV0 m c), maxB_tileG (ztV0 m c), sumB_tileG (ztV0 m c), maxG_zero (ztV0 m c), sumG_zero (ztV0 m c),
    ← maxG_zero (zsV0 m c), ← sumG_zero (zsV0 m c), maxB_tileG (zsV0 m c), sumB_tileG (zsV0 m c)]
  isplitl [H12 H13 H14 H15 H16 Hg]
  · isplitl [H12 H13 H14 H15 H16]
    · isplitl [H12]; · iexact H12
      isplitl [H13]; · iexact H13
      isplitl [H14]; · iexact H14
      isplitl [H15]; · iexact H15
      iexact H16
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexists _; iexact H10
  iexists _; iexact H11

set_option maxHeartbeats 1000000 in
/-- The obligation at a point that is neither the first nor the last. -/
theorem obligation_mid (c : Dev nD) (t : Fin cfg0.N) (h0 : t.val ≠ 0) (h1 : t.val ≠ 296) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := Ideal)) Variants.none c none) Set.univ (defs₀ (F := Ideal) .tc cfg0.body (cfg0.bodyArgs t (cfg0.slots t))) fun _ =>
          iprop((dats m 0 c).Φ t.succ ∗ (dats m 0 c).owesAt () t.succ ∗ bigSep Finset.univ fun w : Fin cfg0.W => (dats m 0 c).leaves w t) := by
  have ht : t.val < 297 := Nat.lt_of_lt_of_eq t.isLt N_0
  rw [bigSep_W0, bigSep_W0, bodyRow]
  rw [leaves0_0, leaves0_1, leaves0_2, leaves0_3, leaves0_4, leaves0_5, leaves0_6, leaves0_7, leaves0_8, leaves0_9, leaves0_10_idle m c t (by omega), leaves0_11_idle m c t (by omega)]
  obtain ⟨n, hn⟩ : ∃ n, t.val = n + 1 := ⟨t.val - 1, by omega⟩
  rw [show (dats m 0 c).Φ t.castSucc = PhiS m c (n + 1) from by show PhiS m c t.val = _; rw [hn]]
  rw [show (dats m 0 c).Φ t.succ = PhiS m c (t.val + 1) from rfl]
  unfold PhiS bodyAt0
  dsimp only
  rw [← hn]
  iintro ⟨⟨⟨H12, H13, H14, H15, H16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0 m c t d0, before0_1 m c t d1, before0_2 m c t d2, before0_3 m c t d3, before0_4 m c t d4, before0_5 m c t d5, before0_6 m c t d6, before0_7 m c t d7]
  iapply (body_mid c (grid0.coords t) _ _ _ _ _ _ _ _ _ _ _ _ _ _ _ _ _ _ _ _ _ _ _ _ _ _ _ _ _ _ _ _ _ _ (fun e => by have := (hcond0_0 t).mp e; omega) (fun e => by have := (hcond0_1 t).mp e; omega) (iblk m c 0 t) (iblk m c 1 t) (iblk m c 2 t) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) (iblk m c 7 t) (maxG (ztV0 m c) t.val) (sumG (ztV0 m c) t.val) (maxG (zsV0 m c) t.val) (sumG (zsV0 m c) t.val) _ _ Set.univ _)
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    iexact H16
  iintro ⟨H0, H1, H2, H3, H4, H5, H6, H7, H8, H9, H10, H11, H12, H13, H14, H15, H16⟩
  rw [coords0 t, zt_tile m c t, zs_tile m c t ht]
  rw [maxB_tileG (ztV0 m c), sumB_tileG (ztV0 m c), maxB_tileG (zsV0 m c), sumB_tileG (zsV0 m c)]
  isplitl [H12 H13 H14 H15 H16 Hg]
  · isplitl [H12 H13 H14 H15 H16]
    · isplitl [H12]; · iexact H12
      isplitl [H13]; · iexact H13
      isplitl [H14]; · iexact H14
      isplitl [H15]; · iexact H15
      iexact H16
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexists _; iexact H10
  iexists _; iexact H11

set_option maxHeartbeats 1000000 in
/-- The obligation at the last point. -/
theorem obligation_last (c : Dev nD) (t : Fin cfg0.N) (h1 : t.val = 296) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := Ideal)) Variants.none c none) Set.univ (defs₀ (F := Ideal) .tc cfg0.body (cfg0.bodyArgs t (cfg0.slots t))) fun _ =>
          iprop((dats m 0 c).Φ t.succ ∗ (dats m 0 c).owesAt () t.succ ∗ bigSep Finset.univ fun w : Fin cfg0.W => (dats m 0 c).leaves w t) := by
  have ht : t.val < 297 := Nat.lt_of_lt_of_eq t.isLt N_0
  rw [bigSep_W0, bigSep_W0, bodyRow]
  rw [leaves0_0, leaves0_1, leaves0_2, leaves0_3, leaves0_4, leaves0_5, leaves0_6, leaves0_7, leaves0_8, leaves0_9, leaves0_10_last m c t (by omega), leaves0_11_last m c t (by omega)]
  obtain ⟨n, hn⟩ : ∃ n, t.val = n + 1 := ⟨t.val - 1, by omega⟩
  rw [show (dats m 0 c).Φ t.castSucc = PhiS m c (n + 1) from by show PhiS m c t.val = _; rw [hn]]
  rw [show (dats m 0 c).Φ t.succ = PhiS m c (t.val + 1) from rfl]
  unfold PhiS bodyAt0
  dsimp only
  rw [← hn]
  iintro ⟨⟨⟨H12, H13, H14, H15, H16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0 m c t d0, before0_1 m c t d1, before0_2 m c t d2, before0_3 m c t d3, before0_4 m c t d4, before0_5 m c t d5, before0_6 m c t d6, before0_7 m c t d7]
  iapply (body_last c (grid0.coords t) _ _ _ _ _ _ _ _ _ _ _ _ _ _ _ _ _ _ _ _ _ _ _ _ _ _ _ _ _ _ _ _ _ _ (fun e => by have := (hcond0_0 t).mp e; omega) ((hcond0_1 t).mpr (by omega)) (iblk m c 0 t) (iblk m c 1 t) (iblk m c 2 t) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) (iblk m c 7 t) (maxG (ztV0 m c) t.val) (sumG (ztV0 m c) t.val) (maxG (zsV0 m c) t.val) (sumG (zsV0 m c) t.val) Set.univ _)
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [H15]; · iexact H15
    iexact H16
  iintro ⟨H0, H1, H2, H3, H4, H5, H6, H7, H8, H9, H10, H11, H12, H13, H14, H15, H16⟩
  rw [coords0 t, zt_tile m c t, zs_tile m c t ht]
  rw [maxB_tileG (ztV0 m c), sumB_tileG (ztV0 m c), maxB_tileG (zsV0 m c), sumB_tileG (zsV0 m c)]
  rw [show t.val + 1 = 297 from by omega]
  isplitl [H12 H13 H14 H15 H16 Hg]
  · isplitl [H12 H13 H14 H15 H16]
    · isplitl [H12]; · iexact H12
      isplitl [H13]; · iexact H13
      isplitl [H14]; · iexact H14
      isplitl [H15]; · iexact H15
      iexact H16
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexact H10
  iexact H11

/-- The body's obligation at every point. -/
theorem obligation (c : Dev nD) : BodyObligationLoose (dats m 0 c) (defs₀ (F := Ideal)) Variants.none () Set.univ := fun t => by
  by_cases h0 : t.val = 0
  · exact obligation_first m c t h0
  · by_cases h1 : t.val = 296
    · exact obligation_last m c t h1
    · exact obligation_mid m c t h0 h1

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (296 + 1) from by
    show PhiS m c (Fin.last cfg0.N).val = _
    rw [Fin.val_last, show cfg0.N = 297 from N_0], anyScratch_eq]
  unfold PhiS
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The launch: every array of the call ends at what the proof data say of it. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := hin m) (hout := hout m)

end Cert.LogitsIdeal.Gen

end
-- ==== Proof.LogitsIdealFinal.lean ====
/-
  What the logits call leaves in its four result arrays: the two arrays of tiles block by block, the two log-sum-exps as the last
  point writes them back, and the arguments as they were launched.
-/
module

public import proofs.«01_k».proof.Proof.LogitsIdealSound
public import Idealize.ShloMosaic.Lib.Pipeline.Value

@[expose] public section

set_option maxRecDepth 16384

noncomputable section

namespace Cert.LogitsIdeal.Gen

open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The array of all the tiles of the values `z`. -/
def tilesG (z : Fin 3072 → ℕ → EReal) : S297x3072x512.Idx → EReal := fun i => z (i 1) ((i 0).val * 512 + (i 2).val)

theorem ext_z (z : Fin 3072 → ℕ → EReal) {r r' : Fin 3072} {n n' : ℕ} (hr : r.val = r'.val) (hn : n = n') : z r n = z r' n' := by
  rw [Fin.ext hr, hn]

theorem index_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem flush_8 : ∀ t : Fin cfg0.N, (cfg0.win 8).flush t = true :=
  (by decide +kernel : ∀ t : Fin grid0.N, win0_8.flush t = true)

theorem flushed8 (c : Dev nD) (t : Fin cfg0.N) :
    (dats m 0 c).flushed 8 t = ((cfg0.win 8).blk t).view.read (Elt Ideal) (tilesG (ztV0 m c)) := by
  show (cfg0.win 8).cut (grid0.coords t) ((dats m 0 c).after 8 t) = _
  rw [show (dats m 0 c).after 8 t = tileG (ztV0 m c) t.val from by dsimp only [dats]]
  obtain ⟨e0, e1, e2⟩ := index_8 t
  funext y
  have hy0 : (y 0).val < 1 := (y 0).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 3072 + 1 * (y 1).val := rfl
  have hb2 : (((cfg0.win 8).blk t).view.emb y 2).val = win0_8.index t (2 : Fin 3) * 512 + 1 * (y 2).val := rfl
  show ztV0 m c (y 1) (t.val * 512 + (y 2).val)
    = ztV0 m c (((cfg0.win 8).blk t).view.emb y 1) ((((cfg0.win 8).blk t).view.emb y 0).val * 512 + (((cfg0.win 8).blk t).view.emb y 2).val)
  exact ext_z (ztV0 m c) (by rw [hb1, e1]; omega) (by rw [hb0, hb2, e0, e2]; omega)

theorem mem_blk8 (t : Fin cfg0.N) (i : S297x3072x512.Idx) :
    i ∈ ((cfg0.win 8).blk t).view.set ↔ ∀ a : Fin 3, win0_8.index t a * S1x3072x512.size a ≤ (i a).val ∧ (i a).val < win0_8.index t a * S1x3072x512.size a + S1x3072x512.size a := by
  show i ∈ ((View.whole main_v4_0).slice (win0_8.rect t)).set ↔ _
  rw [View.set_slice_whole, Rect.mem_set_unit]
  exact Iff.rfl

theorem final8 (c : Dev nD) : (dats m 0 c).arrAt 8 cfg0.N = tilesG (ztV0 m c) :=
  (dats m 0 c).arrAt_eq_of_cover 8 _ (fun t _ => flushed8 m c t) (fun i => by
    have hi0 : (i 0).val < 297 := (i 0).isLt
    have hi1 : (i 1).val < 3072 := (i 1).isLt
    have hi2 : (i 2).val < 512 := (i 2).isLt
    refine ⟨⟨(i 0).val, lt_of_lt_of_eq hi0 N_0.symm⟩, flush_8 _, ?_⟩
    rw [mem_blk8]
    obtain ⟨e0, e1, e2⟩ := index_8 ⟨(i 0).val, lt_of_lt_of_eq hi0 N_0.symm⟩
    intro a
    match a with
    | ⟨0, _⟩ => show win0_8.index _ (0 : Fin 3) * 1 ≤ (i 0).val ∧ (i 0).val < win0_8.index _ (0 : Fin 3) * 1 + 1; rw [e0]; dsimp only; omega
    | ⟨1, _⟩ => show win0_8.index _ (1 : Fin 3) * 3072 ≤ (i 1).val ∧ (i 1).val < win0_8.index _ (1 : Fin 3) * 3072 + 3072; rw [e1]; omega
    | ⟨2, _⟩ => show win0_8.index _ (2 : Fin 3) * 512 ≤ (i 2).val ∧ (i 2).val < win0_8.index _ (2 : Fin 3) * 512 + 512; rw [e2]; omega)

theorem index_9 : ∀ t : Fin cfg0.N, win0_9.index t (0 : Fin 3) = t.val ∧ win0_9.index t (1 : Fin 3) = 0 ∧ win0_9.index t (2 : Fin 3) = 0 :=
  (by decide +kernel : ∀ t : Fin grid0.N, _)
theorem flush_9 : ∀ t : Fin cfg0.N, (cfg0.win 9).flush t = true :=
  (by decide +kernel : ∀ t : Fin grid0.N, win0_9.flush t = true)

theorem flushed9 (c : Dev nD) (t : Fin cfg0.N) :
    (dats m 0 c).flushed 9 t = ((cfg0.win 9).blk t).view.read (Elt Ideal) (tilesG (zsV0 m c)) := by
  show (cfg0.win 9).cut (grid0.coords t) ((dats m 0 c).after 9 t) = _
  rw [show (dats m 0 c).after 9 t = tileG (zsV0 m c) t.val from by dsimp only [dats]]
  obtain ⟨e0, e1, e2⟩ := index_9 t
  funext y
  have hy0 : (y 0).val < 1 := (y 0).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 3072 + 1 * (y 1).val := rfl
  have hb2 : (((cfg0.win 9).blk t).view.emb y 2).val = win0_9.index t (2 : Fin 3) * 512 + 1 * (y 2).val := rfl
  show zsV0 m c (y 1) (t.val * 512 + (y 2).val)
    = zsV0 m c (((cfg0.win 9).blk t).view.emb y 1) ((((cfg0.win 9).blk t).view.emb y 0).val * 512 + (((cfg0.win 9).blk t).view.emb y 2).val)
  exact ext_z (zsV0 m c) (by rw [hb1, e1]; omega) (by rw [hb0, hb2, e0, e2]; omega)

theorem mem_blk9 (t : Fin cfg0.N) (i : S297x3072x512.Idx) :
    i ∈ ((cfg0.win 9).blk t).view.set ↔ ∀ a : Fin 3, win0_9.index t a * S1x3072x512.size a ≤ (i a).val ∧ (i a).val < win0_9.index t a * S1x3072x512.size a + S1x3072x512.size a := by
  show i ∈ ((View.whole main_v4_1).slice (win0_9.rect t)).set ↔ _
  rw [View.set_slice_whole, Rect.mem_set_unit]
  exact Iff.rfl

theorem final9 (c : Dev nD) : (dats m 0 c).arrAt 9 cfg0.N = tilesG (zsV0 m c) :=
  (dats m 0 c).arrAt_eq_of_cover 9 _ (fun t _ => flushed9 m c t) (fun i => by
    have hi0 : (i 0).val < 297 := (i 0).isLt
    have hi1 : (i 1).val < 3072 := (i 1).isLt
    have hi2 : (i 2).val < 512 := (i 2).isLt
    refine ⟨⟨(i 0).val, lt_of_lt_of_eq hi0 N_0.symm⟩, flush_9 _, ?_⟩
    rw [mem_blk9]
    obtain ⟨e0, e1, e2⟩ := index_9 ⟨(i 0).val, lt_of_lt_of_eq hi0 N_0.symm⟩
    intro a
    match a with
    | ⟨0, _⟩ => show win0_9.index _ (0 : Fin 3) * 1 ≤ (i 0).val ∧ (i 0).val < win0_9.index _ (0 : Fin 3) * 1 + 1; rw [e0]; dsimp only; omega
    | ⟨1, _⟩ => show win0_9.index _ (1 : Fin 3) * 3072 ≤ (i 1).val ∧ (i 1).val < win0_9.index _ (1 : Fin 3) * 3072 + 3072; rw [e1]; omega
    | ⟨2, _⟩ => show win0_9.index _ (2 : Fin 3) * 512 ≤ (i 2).val ∧ (i 2).val < win0_9.index _ (2 : Fin 3) * 512 + 512; rw [e2]; omega)

theorem index_10 : ∀ t : Fin cfg0.N, win0_10.index t (0 : Fin 2) = 0 ∧ win0_10.index t (1 : Fin 2) = 0 :=
  (by decide +kernel : ∀ t : Fin grid0.N, _)

theorem flushed10 (c : Dev nD) (t : Fin cfg0.N) :
    (dats m 0 c).flushed 10 t = ((cfg0.win 10).blk t).view.read (Elt Ideal) (ltV0 m c) := by
  show (cfg0.win 10).cut (grid0.coords t) ((dats m 0 c).after 10 t) = _
  rw [show (dats m 0 c).after 10 t = ltV0 m c from by dsimp only [dats]]
  obtain ⟨e0, e1⟩ := index_10 t
  funext y
  have hb0 : (((cfg0.win 10).blk t).view.emb y 0).val = win0_10.index t (0 : Fin 2) * 3072 + 1 * (y 0).val := rfl
  have hb1 : (((cfg0.win 10).blk t).view.emb y 1).val = win0_10.index t (1 : Fin 2) * 128 + 1 * (y 1).val := rfl
  show ltV0 m c ((cfg0.win 10).xinj (grid0.coords t) y) = ltV0 m c (((cfg0.win 10).blk t).view.emb y)
  refine congrArg (ltV0 m c) (funext fun a => Fin.ext ?_)
  match a with
  | ⟨0, _⟩ => show (y 0).val = (((cfg0.win 10).blk t).view.emb y 0).val; rw [hb0]; omega
  | ⟨1, _⟩ => show (y 1).val = (((cfg0.win 10).blk t).view.emb y 1).val; rw [hb1]; omega

theorem mem_blk10 (t : Fin cfg0.N) (i : S3072x128.Idx) :
    i ∈ ((cfg0.win 10).blk t).view.set ↔ ∀ a : Fin 2, win0_10.index t a * S3072x128.size a ≤ (i a).val ∧ (i a).val < win0_10.index t a * S3072x128.size a + S3072x128.size a := by
  show i ∈ ((View.whole main_v4_2).slice (win0_10.rect t)).set ↔ _
  rw [View.set_slice_whole, Rect.mem_set_unit]
  exact Iff.rfl

theorem flush_10 : (cfg0.win 10).flush ⟨296, lt_of_lt_of_eq (by decide) N_0.symm⟩ = true :=
  (by decide +kernel : win0_10.flush ⟨296, lt_of_lt_of_eq (by decide) N_0.symm⟩ = true)

theorem final10 (c : Dev nD) : (dats m 0 c).arrAt 10 cfg0.N = ltV0 m c :=
  (dats m 0 c).arrAt_eq_of_cover 10 _ (fun t _ => flushed10 m c t) (fun i => by
    have hi0 : (i 0).val < 3072 := (i 0).isLt
    have hi1 : (i 1).val < 128 := (i 1).isLt
    refine ⟨⟨296, lt_of_lt_of_eq (by decide) N_0.symm⟩, flush_10, ?_⟩
    rw [mem_blk10]
    obtain ⟨e0, e1⟩ := index_10 ⟨296, lt_of_lt_of_eq (by decide) N_0.symm⟩
    intro a
    match a with
    | ⟨0, _⟩ => show win0_10.index _ (0 : Fin 2) * 3072 ≤ (i 0).val ∧ (i 0).val < win0_10.index _ (0 : Fin 2) * 3072 + 3072; rw [e0]; omega
    | ⟨1, _⟩ => show win0_10.index _ (1 : Fin 2) * 128 ≤ (i 1).val ∧ (i 1).val < win0_10.index _ (1 : Fin 2) * 128 + 128; rw [e1]; omega)

theorem index_11 : ∀ t : Fin cfg0.N, win0_11.index t (0 : Fin 2) = 0 ∧ win0_11.index t (1 : Fin 2) = 0 :=
  (by decide +kernel : ∀ t : Fin grid0.N, _)

theorem flushed11 (c : Dev nD) (t : Fin cfg0.N) :
    (dats m 0 c).flushed 11 t = ((cfg0.win 11).blk t).view.read (Elt Ideal) (lsV0 m c) := by
  show (cfg0.win 11).cut (grid0.coords t) ((dats m 0 c).after 11 t) = _
  rw [show (dats m 0 c).after 11 t = lsV0 m c from by dsimp only [dats]]
  obtain ⟨e0, e1⟩ := index_11 t
  funext y
  have hb0 : (((cfg0.win 11).blk t).view.emb y 0).val = win0_11.index t (0 : Fin 2) * 3072 + 1 * (y 0).val := rfl
  have hb1 : (((cfg0.win 11).blk t).view.emb y 1).val = win0_11.index t (1 : Fin 2) * 128 + 1 * (y 1).val := rfl
  show lsV0 m c ((cfg0.win 11).xinj (grid0.coords t) y) = lsV0 m c (((cfg0.win 11).blk t).view.emb y)
  refine congrArg (lsV0 m c) (funext fun a => Fin.ext ?_)
  match a with
  | ⟨0, _⟩ => show (y 0).val = (((cfg0.win 11).blk t).view.emb y 0).val; rw [hb0]; omega
  | ⟨1, _⟩ => show (y 1).val = (((cfg0.win 11).blk t).view.emb y 1).val; rw [hb1]; omega

theorem mem_blk11 (t : Fin cfg0.N) (i : S3072x128.Idx) :
    i ∈ ((cfg0.win 11).blk t).view.set ↔ ∀ a : Fin 2, win0_11.index t a * S3072x128.size a ≤ (i a).val ∧ (i a).val < win0_11.index t a * S3072x128.size a + S3072x128.size a := by
  show i ∈ ((View.whole main_v4_3).slice (win0_11.rect t)).set ↔ _
  rw [View.set_slice_whole, Rect.mem_set_unit]
  exact Iff.rfl

theorem flush_11 : (cfg0.win 11).flush ⟨296, lt_of_lt_of_eq (by decide) N_0.symm⟩ = true :=
  (by decide +kernel : win0_11.flush ⟨296, lt_of_lt_of_eq (by decide) N_0.symm⟩ = true)

theorem final11 (c : Dev nD) : (dats m 0 c).arrAt 11 cfg0.N = lsV0 m c :=
  (dats m 0 c).arrAt_eq_of_cover 11 _ (fun t _ => flushed11 m c t) (fun i => by
    have hi0 : (i 0).val < 3072 := (i 0).isLt
    have hi1 : (i 1).val < 128 := (i 1).isLt
    refine ⟨⟨296, lt_of_lt_of_eq (by decide) N_0.symm⟩, flush_11, ?_⟩
    rw [mem_blk11]
    obtain ⟨e0, e1⟩ := index_11 ⟨296, lt_of_lt_of_eq (by decide) N_0.symm⟩
    intro a
    match a with
    | ⟨0, _⟩ => show win0_11.index _ (0 : Fin 2) * 3072 ≤ (i 0).val ∧ (i 0).val < win0_11.index _ (0 : Fin 2) * 3072 + 3072; rw [e0]; omega
    | ⟨1, _⟩ => show win0_11.index _ (1 : Fin 2) * 128 ≤ (i 1).val ∧ (i 1).val < win0_11.index _ (1 : Fin 2) * 128 + 128; rw [e1]; omega)

/-- The run: the four result arrays, and the arguments as launched. -/
theorem run_results : θ_run defs (onTc (τ := τ) (main (F := Ideal))) (s₀ m ρ) (fun r => ∀ c : Dev nD,
    r.2.mem ((c : Thread nD τ).loc main_v4_0) = tilesG (ztV0 m c)
    ∧ r.2.mem ((c : Thread nD τ).loc main_v4_1) = tilesG (zsV0 m c)
    ∧ r.2.mem ((c : Thread nD τ).loc main_v4_2) = ltV0 m c
    ∧ r.2.mem ((c : Thread nD τ).loc main_v4_3) = lsV0 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run defs _ _).mono (fun r h c => ⟨((h.1 c).1 8).trans (final8 m c), ((h.1 c).1 9).trans (final9 m c),
    ((h.1 c).1 10).trans (final10 m c), ((h.1 c).1 11).trans (final11 m c),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Pipeline.mem_restRefs_of main_arg2 (by decide) (by decide))).trans (V_main_arg2 m c),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).1 5).trans (((dats m 0 c).arrAt_in 5 rfl _).trans ((A_eq m c 5).trans (V_main_arg5 m c))),
    ((h.1 c).1 6).trans (((dats m 0 c).arrAt_in 6 rfl _).trans ((A_eq m c 6).trans (V_main_arg6 m c))),
    ((h.1 c).2 main_arg7 (Pipeline.mem_restRefs_of main_arg7 (by decide) (by decide))).trans (V_main_arg7 m c)⟩) (run_main m ρ)

/-! ## What the host prepares -/

theorem V_main_v1 (c : Dev nD) : V m c main_v1
    = broadcastInDim S3072x128 ![0, 1] bcast_S3072x1_S3072x128_0_1 (broadcastInDim S3072x1 ![0] bcast_S3072_S3072x1_0 (m ((c : Thread nD τ).loc main_arg2))) := by
  show StableHlo.after (List.flatten [hostOps0, hostOps0_1, hostOps0_2]) _ (Proc.devRef .tc main_v1) = _
  simp only [List.flatten_cons, List.flatten_nil, List.append_nil, hostOps0, hostOps0_1, hostOps0_2, List.cons_append, List.nil_append]
  after_results

theorem V_main_v3 (c : Dev nD) : V m c main_v3
    = shapeCast _ (pad S152064 ![0] ![128] ![0] (m ((c : Thread nD τ).loc main_arg7)) (sitofp (F := Ideal) .f32 (constantI S_ 32 0#32)) pads_S151936_S152064_01280 h_S_) shapeCasts_S152064_S297x1x512 := by
  show StableHlo.after (List.flatten [hostOps0, hostOps0_1, hostOps0_2]) _ (Proc.devRef .tc main_v3) = _
  simp only [List.flatten_cons, List.flatten_nil, List.append_nil, hostOps0, hostOps0_1, hostOps0_2, List.cons_append, List.nil_append]
  after_results
  rfl

end Cert.LogitsIdeal.Gen

end
-- ==== Proof.LogitsIdealLse.lean ====
/-
  The log-sum-exps the logits call stores: its last step joins the 128 lanes of a row at their common maximum, and that is the
  log-sum-exp of the row's logits, in units of log 2.
-/
module

public import proofs.«01_k».proof.Proof.LogitsIdealData
public import proofs.«01_k».proof.Proof.Gen.LogitsIdeal.Skeleton
public import Idealize.ShloMosaic.Lib.Pipeline.Value
public import Idealize.ShloMosaic.Lib.ValueIdx
public import Idealize.ShloMosaic.Lib.KernelVsHost
public import Idealize.ShloMosaic.Lib.IdealHost
public import Idealize.ShloMosaic.PureOps.Ideal.Laws

@[expose] public section

set_option maxRecDepth 16384

noncomputable section

namespace Cert.LogitsIdeal.Gen

open Idealize.ShloMosaic Idealize.ShloMosaic.TcCoe Idealize.ShloMosaic.Tactic Idealize.ShloMosaic.ValueIdx
open Cert.Lse (c2 runMax runSum)
open scoped BigOperators

/-- The greatest of finitely many values. -/
def topF {n : ℕ} (f : Fin n → EReal) : EReal := Finset.univ.fold max (⊥ : EReal) f

theorem topF_le_iff {n : ℕ} (f : Fin n → EReal) (c : EReal) : topF f ≤ c ↔ ∀ i (h : i < n), f ⟨i, h⟩ ≤ c := by
  unfold topF
  rw [Finset.fold_max_le]
  exact ⟨fun h i hi => h.2 ⟨i, hi⟩ (Finset.mem_univ _), fun h => ⟨bot_le, fun i _ => h i.val i.isLt⟩⟩

/-- Joining the lanes of a row `y` that holds the scaled logits `X` and then minus infinity. -/
theorem lse_fin (V n : ℕ) (X : Fin V → EReal) (y : ℕ → EReal) (hV : V ≤ n * 512) (hy : ∀ v (h : v < V), y v = X ⟨v, h⟩ * (c2 : EReal))
    (hd : ∀ v, V ≤ v → y v = ⊥) (M S : Fin 128 → EReal) (hM : ∀ l, M l = runMax (fun t k => y (t * 512 + k * 128 + l.val)) n)
    (hS : ∀ l, S l = runSum (fun t k => y (t * 512 + k * 128 + l.val)) n) :
    topF M + Ideal.log (∑ l : Fin 128, S l * Ideal.exp2 (M l - topF M)) * (c2 : EReal)
      = (topF X + Ideal.log (∑ v : Fin V, Ideal.exp (X v - topF X))) * (c2 : EReal) := by
  have hx : ∀ v (h : v < V), (if h : v < V then X ⟨v, h⟩ else 0) = X ⟨v, h⟩ := fun v h => dif_pos h
  have key := Cert.Lse.lse_eq (fun v => if h : v < V then X ⟨v, h⟩ else 0) y V n hV (fun v h => by rw [hx v h]; exact hy v h) hd (topF M) (topF X)
    (fun c => by
      rw [topF_le_iff]
      exact ⟨fun h l hl => (hM ⟨l, hl⟩) ▸ h l hl, fun h l hl => (hM ⟨l, hl⟩).symm ▸ h l hl⟩)
    (fun c => by
      rw [topF_le_iff]
      exact ⟨fun h v hv => by rw [hx v hv]; exact h v hv, fun h v hv => by have := h v hv; rwa [hx v hv] at this⟩)
  rw [Finset.sum_range, Finset.sum_range] at key
  refine Eq.trans ?_ (key.trans ?_)
  · refine congrArg (fun s => topF M + Ideal.log s * (c2 : EReal)) (Finset.sum_congr rfl fun l _ => ?_)
    rw [hM l, hS l]
  · refine congrArg (fun s => (topF X + Ideal.log s) * (c2 : EReal)) (Finset.sum_congr rfl fun v _ => ?_)
    rw [hx v.val v.isLt]

theorem col_apply (y : FVec Ideal S3072 .f32) (r : Fin 3072) : shapeCast S3072x1 y shapeCasts_S3072_S3072x1 (ix2 r (0 : Fin 1)) = y (ix1 r) :=
  shapeCast_apply _ shapeCasts_S3072_S3072x1 (ix2 r (0 : Fin 1)) (ix1 r) (by
    rw [Shape.rowMajor_val_two, Shape.rowMajor_val_one]
    show r.val = r.val * 1 + 0
    omega)

theorem lane_apply (y : FVec Ideal S3072x1 .f32) (r : Fin 3072) (l : Fin 128) :
    broadcastTo S3072x128 y broadcasts_S3072x1_S3072x128 (ix2 r l) = y (ix2 r (0 : Fin 1)) :=
  broadcastTo_apply _ _ (ix2 r l) (ix2 r (0 : Fin 1)) (fun a => match a with | ⟨0, _⟩ => rfl | ⟨1, _⟩ => rfl)

theorem lift_lane (r : Fin 3072) (l : Fin 128) : reduces_S3072x128_S3072.lift (ix1 r) l = ix2 r l :=
  funext fun a => Fin.ext (by match a with | ⟨0, _⟩ => rfl | ⟨1, _⟩ => rfl)

theorem laneMax_apply (y : FVec Ideal S3072x128 .f32) (r : Fin 3072) :
    multiReduction .maximumf [1] S3072 y 0xFF800000#32 reduces_S3072x128_S3072 (.inl rfl) rfl (ix1 r) = topF (fun l : Fin 128 => y (ix2 r l)) := by
  refine (Ideal.multiReduction_maximumf_single y _ _ _ _ (ix1 r)).trans ?_
  unfold topF
  rw [show FloatOps.ofBits (F := Ideal) .f32 0xFF800000#32 = (⊥ : EReal) from ninf_eq]
  exact congrArg (Finset.univ.fold max (⊥ : EReal)) (funext fun l => congrArg y (lift_lane r l))

theorem laneSum_apply (y : FVec Ideal S3072x128 .f32) (r : Fin 3072) :
    multiReduction .add [1] S3072 y 0x00000000#32 reduces_S3072x128_S3072 (.inl rfl) rfl (ix1 r) = ∑ l : Fin 128, y (ix2 r l) :=
  (Ideal.multiReduction_add_single y _ _ _ _ (ix1 r)).trans (Finset.sum_congr rfl fun l _ => congrArg y (lift_lane r l))

theorem addScaled_apply (a b : FVec Ideal S3072x1 .f32) (i : S3072x1.Idx) :
    addf a (mulf (log b) (broadcast S3072x1 (Named.named (F := Ideal) κ "log2e" 0x3FB8AA3B#32))) i = a i + Ideal.log (b i) * (c2 : EReal) := rfl
theorem term_apply (s y t : FVec Ideal S3072x128 .f32) (i : S3072x128.Idx) : mulf s (exp2 (subf y t)) i = s i * Ideal.exp2 (y i - t i) := rfl

/-- The stored log-sum-exp, from the lanes' maxima `M` and sums `S`. -/
theorem pay3_apply (M S : Vec Ideal S3072x128 .f32) (r : Fin 3072) (l : Fin 128) : k0_pay3 (F := Ideal) M S (ix2 r l)
    = topF (fun l : Fin 128 => M (ix2 r l))
      + Ideal.log (∑ l : Fin 128, S (ix2 r l) * Ideal.exp2 (M (ix2 r l) - topF (fun l : Fin 128 => M (ix2 r l)))) * (c2 : EReal) := by
  unfold k0_pay3
  dsimp only
  rw [lane_apply, shapeCast_self, addScaled_apply, col_apply, col_apply, laneMax_apply, laneSum_apply]
  refine congrArg (fun s => topF (fun l : Fin 128 => M (ix2 r l)) + Ideal.log s * (c2 : EReal)) (Finset.sum_congr rfl fun k _ => ?_)
  rw [term_apply, lane_apply, col_apply, laneMax_apply]

theorem pay4_eq (M S : Vec Ideal S3072x128 .f32) : k0_pay4 (F := Ideal) M S = k0_pay3 (F := Ideal) M S := rfl

/-- The log-sum-exp stored for the scaled logits `z` is the one of the logits `X` themselves. -/
theorem lanesG_apply (z : Fin 3072 → ℕ → EReal) (X : Fin 3072 → Fin 151936 → EReal)
    (hz : ∀ r v (h : v < 151936), z r v = X r ⟨v, h⟩ * (c2 : EReal)) (hd : ∀ r v, 151936 ≤ v → z r v = ⊥) (r : Fin 3072) (l : Fin 128) :
    k0_pay3 (F := Ideal) (maxG z 297) (sumG z 297) (ix2 r l)
      = (topF (X r) + Ideal.log (∑ v : Fin 151936, Ideal.exp (X r v - topF (X r)))) * (c2 : EReal) :=
  (pay3_apply _ _ r l).trans (lse_fin 151936 297 (X r) (z r) (by decide) (hz r) (hd r) _ _ (fun _ => rfl) (fun _ => rfl))

/-! ## The scaled logits -/

theorem unit_eq (x : EReal) : Ideal.div x ((2 : ℝ) : EReal) * (c2 : EReal) = x * half := by
  rw [Ideal.div_coe (by norm_num), mul_assoc, ← EReal.coe_mul]
  show _ = x * (((Real.log 2 * 2)⁻¹ : ℝ) : EReal)
  rw [mul_inv_rev, one_div]

/-- The teacher's scaled logits are the logits at the temperature, in units of log 2. -/
theorem ztG_eq (X : Vec Ideal S3072x2048 .bf16) (W : Vec Ideal S1024x151936 .i8) (S Z : Vec Ideal S16x151936 .f32) (r : Fin 3072) (v : ℕ) (h : v < 151936) :
    ztG X W S Z r v = Ideal.div (∑ k : Fin 2048, X (ix2 r k) * wtG W S Z k ⟨v, h⟩) ((2 : ℝ) : EReal) * (c2 : EReal) := by
  rw [unit_eq, ztG, dif_pos h]
theorem ztG_past (X : Vec Ideal S3072x2048 .bf16) (W : Vec Ideal S1024x151936 .i8) (S Z : Vec Ideal S16x151936 .f32) (r : Fin 3072) (v : ℕ) (h : 151936 ≤ v) :
    ztG X W S Z r v = ⊥ := dif_neg (Nat.not_lt.mpr h)

/-- The student's scaled logits are the logits at the temperature, in units of log 2. -/
theorem zsG_eq (Y : Vec Ideal S3072x1536 .fp8e4m3) (C : Vec Ideal S3072x128 .f32) (W : Vec Ideal S151936x1536 .fp8e4m3) (D : Vec Ideal S297x1x512 .f32)
    (r : Fin 3072) (v : ℕ) (h : v < 151936) (a b : EReal) (hC : ∀ l : Fin 128, C (ix2 r l) = a)
    (hD : D (ix3 (⟨v / 512, by omega⟩ : Fin 297) (0 : Fin 1) (⟨v % 512, Nat.mod_lt _ (by decide)⟩ : Fin 512)) = b) :
    zsG Y C W D r v = Ideal.div ((∑ k : Fin 1536, Y (ix2 r k) * W (ix2 (⟨v, h⟩ : Fin 151936) k)) * a * b) ((2 : ℝ) : EReal) * (c2 : EReal) := by
  rw [unit_eq, zsG, dif_pos h, hC, hD, mul_assoc _ b half]
theorem zsG_past (Y : Vec Ideal S3072x1536 .fp8e4m3) (C : Vec Ideal S3072x128 .f32) (W : Vec Ideal S151936x1536 .fp8e4m3) (D : Vec Ideal S297x1x512 .f32)
    (r : Fin 3072) (v : ℕ) (h : 151936 ≤ v) : zsG Y C W D r v = ⊥ := dif_neg (Nat.not_lt.mpr h)

/-- The row scales the host repeats in every lane. -/
theorem scales_apply (y : FVec Ideal S3072 .f32) (r : Fin 3072) (l : Fin 128) :
    broadcastInDim S3072x128 ![0, 1] bcast_S3072x1_S3072x128_0_1 (broadcastInDim S3072x1 ![0] bcast_S3072_S3072x1_0 y) (ix2 r l) = y (ix1 r) := by
  rw [broadcastInDim_apply _ bcast_S3072x1_S3072x128_0_1 _ (ix2 r l) (ix2 r (0 : Fin 1)) (fun a => match a with
    | ⟨0, _⟩ => by show r.val = if (3072 : Nat) = 1 then 0 else r.val; rw [if_neg (by decide)]
    | ⟨1, _⟩ => by show 0 = if (1 : Nat) = 1 then 0 else l.val; rw [if_pos rfl])]
  exact broadcastInDim_apply _ bcast_S3072_S3072x1_0 y _ (ix1 r) (fun a => match a with
    | ⟨0, _⟩ => by show r.val = if (3072 : Nat) = 1 then 0 else r.val; rw [if_neg (by decide)])

/-- The column scales the host pads and cuts into tiles. -/
theorem tiled_apply (y : FVec Ideal S151936 .f32) (p : FVec Ideal S_ .f32) (v : ℕ) (h : v < 151936) (h1 : v / 512 < 297) (h2 : v % 512 < 512) :
    shapeCast S297x1x512 (pad S152064 ![0] ![128] ![0] y p pads_S151936_S152064_01280 h_S_) shapeCasts_S152064_S297x1x512
      (ix3 (⟨v / 512, h1⟩ : Fin 297) (0 : Fin 1) (⟨v % 512, h2⟩ : Fin 512)) = y (ix1 (⟨v, h⟩ : Fin 151936)) := by
  have hb : v < 152064 := by omega
  rw [shapeCast_apply _ shapeCasts_S152064_S297x1x512 _ (ix1 (⟨v, hb⟩ : Fin 152064)) (by
    rw [Shape.rowMajor_val_three, Shape.rowMajor_val_one]
    show v = (v / 512 * 1 + 0) * 512 + v % 512
    omega)]
  refine pad_apply_of_inside _ _ _ _ _ _ _ _ _ (fun a => ?_)
  match a with
  | ⟨0, _⟩ => show v = 0 + v * (0 + 1); omega

end Cert.LogitsIdeal.Gen

end
-- ==== Proof.RefForms.lean ====
/-
  The two forms in which the reference returns an array `x` of logits: cut into tiles, in units of log 2, with minus infinity
  past the end of the vocabulary; and the log-sum-exp of every row in every lane, in the same units.
-/
module

public import proofs.«01_k».proof.Proof.Gen.ReferenceIdeal.Run
public import proofs.«01_k».proof.Proof.Softmax
public import Idealize.ShloMosaic.Lib.Pipeline.Value
public import Idealize.ShloMosaic.Lib.ValueIdx
public import Idealize.ShloMosaic.Lib.KernelVsHost
public import Idealize.ShloMosaic.Lib.IdealHost
public import Idealize.ShloMosaic.PureOps.Ideal.Laws

@[expose] public section

set_option maxRecDepth 16384

noncomputable section

namespace Cert.ReferenceIdeal.Agree

open Cert.ReferenceIdeal Cert.ReferenceIdeal.Gen Idealize.ShloMosaic Idealize.ShloMosaic.TcCoe Idealize.ShloMosaic.ValueIdx
open Cert.Lse (c2)
open scoped BigOperators

theorem two_eq : Ideal.ofBits .f32 0x40000000#32 = ((2 : ℝ) : EReal) := by
  simp [Ideal.ofBits, Ideal.ieee, -EReal.coe_mul]; try norm_num
theorem ninf_eq : Ideal.ofBits .f32 0xFF800000#32 = (⊥ : EReal) := by
  simp [Ideal.ofBits, Ideal.ieee]

/-- The logarithm of two, as the host computes it. -/
abbrev ln2 : FVec Ideal S_ .f32 := Host.log (constant S_ .f32 0x40000000#32)

theorem ln2_apply (i : S_.Idx) : ln2 i = ((Real.log 2 : ℝ) : EReal) := by
  show Ideal.log (Ideal.ofBits .f32 0x40000000#32) = _
  rw [two_eq]
  show (if (2 : ℝ) ≤ 0 then (⊥ : EReal) else ((Real.log 2 : ℝ) : EReal)) = _
  rw [if_neg (by norm_num)]

theorem div_ln2 (x : EReal) : Ideal.div x ((Real.log 2 : ℝ) : EReal) = x * (c2 : EReal) := by
  rw [Ideal.div_coe (Real.log_pos (by norm_num)).ne', one_div]

/-- The array cut into tiles. -/
abbrev tilesR (x : FVec Ideal S3072x151936 .f32) : FVec Ideal S297x3072x512 .f32 :=
  transpose S297x3072x512 [1, 0, 2] (shapeCast _ (pad S3072x152064 ![0, 0] ![0, 128] ![0, 0] (Host.divf x (broadcastInDim S3072x151936 ![] bcast_S_S3072x151936 ln2)) (id (constant (F := Ideal) S_ .f32 0xFF800000#32)) pads_S3072x151936_S3072x152064_000_01280 h_S_) shapeCasts_S3072x152064_S3072x297x512) transposes_S3072x297x512_S297x3072x512_1_0_2

theorem scaled_apply (x : FVec Ideal S3072x151936 .f32) (i : S3072x151936.Idx) :
    Host.divf x (broadcastInDim S3072x151936 ![] bcast_S_S3072x151936 ln2) i = x i * (c2 : EReal) := by
  rw [hostDivf_apply, broadcastInDim_scalar_apply, ln2_apply, div_ln2]

theorem padded_apply (y : FVec Ideal S3072x151936 .f32) (r : Fin 3072) (v : ℕ) (hv : v < 152064) :
    pad S3072x152064 ![0, 0] ![0, 128] ![0, 0] y (id (constant (F := Ideal) S_ .f32 0xFF800000#32)) pads_S3072x151936_S3072x152064_000_01280 h_S_
      (ix2 r (⟨v, hv⟩ : Fin 152064)) = if h : v < 151936 then y (ix2 r (⟨v, h⟩ : Fin 151936)) else ⊥ := by
  by_cases h : v < 151936
  · rw [dif_pos h]
    refine pad_apply_of_inside _ _ _ _ _ _ _ _ _ (fun a => ?_)
    match a with
    | ⟨0, _⟩ => show r.val = 0 + r.val * (0 + 1); omega
    | ⟨1, _⟩ => show v = 0 + v * (0 + 1); omega
  · rw [dif_neg h]
    refine (pad_apply_of_not_inside _ _ _ _ _ _ _ _ (1 : Fin 2) (fun ha => ?_)).trans ninf_eq
    have h2 : (v - 0) / (0 + 1) < S3072x151936.size 1 := ha.2.2
    rw [Nat.sub_zero, Nat.zero_add, Nat.div_one] at h2
    exact h h2

theorem tilesR_apply (x : FVec Ideal S3072x151936 .f32) (t : Fin 297) (r : Fin 3072) (q : Fin 512) :
    tilesR x (ix3 t r q) = if h : t.val * 512 + q.val < 151936 then x (ix2 r (⟨t.val * 512 + q.val, h⟩ : Fin 151936)) * (c2 : EReal) else ⊥ := by
  have hb : t.val * 512 + q.val < 152064 := by omega
  rw [tilesR, transpose_apply [1, 0, 2] _ _ (ix3 t r q) (ix3 r t q) (fun b => match b with | ⟨0, _⟩ => rfl | ⟨1, _⟩ => rfl | ⟨2, _⟩ => rfl),
    shapeCast_apply _ shapeCasts_S3072x152064_S3072x297x512 (ix3 r t q) (ix2 r (⟨t.val * 512 + q.val, hb⟩ : Fin 152064)) (by
      rw [Shape.rowMajor_val_three, Shape.rowMajor_val_two]
      show r.val * 152064 + (t.val * 512 + q.val) = (r.val * 297 + t.val) * 512 + q.val
      omega), padded_apply]
  by_cases h : t.val * 512 + q.val < 151936
  · rw [dif_pos h, dif_pos h, scaled_apply]
  · rw [dif_neg h, dif_neg h]

/-- The greatest entry of every row. -/
abbrev maxR (x : FVec Ideal S3072x151936 .f32) : FVec Ideal S3072x1 .f32 :=
  broadcastInDim S3072x1 ![0] bcast_S3072_S3072x1_0 (Host.reduce FloatOps.maximumf x (constant (F := Ideal) S_ .f32 0xFF800000#32) reducesTo_S3072x151936_S3072_d1 h_S_)

/-- The log-sum-exp of every row, in every lane. -/
abbrev lanesR (x : FVec Ideal S3072x151936 .f32) : FVec Ideal S3072x128 .f32 :=
  broadcastInDim S3072x128 ![0, 1] bcast_S3072x1_S3072x128_0_1 (broadcastInDim S3072x1 ![0] bcast_S3072_S3072x1_0 (Host.divf (shapeCast _ (addf (maxR x) (Host.log (broadcastInDim S3072x1 ![0] bcast_S3072_S3072x1_0 (Host.reduceAdd (Host.exp (subf x (broadcastInDim S3072x151936 ![0, 1] bcast_S3072x1_S3072x151936_0_1 (maxR x)))) (constant S_ .f32 0x00000000#32) reducesTo_S3072x151936_S3072_d1 h_S_)))) shapeCasts_S3072x1_S3072) (broadcastInDim S3072 ![] bcast_S_S3072 ln2)))

/-- The greatest of a row's entries. -/
def topR (x : FVec Ideal S3072x151936 .f32) (r : Fin 3072) : EReal := Finset.univ.fold max (⊥ : EReal) (fun v : Fin 151936 => x (ix2 r v))

theorem column_apply (y : FVec Ideal S3072 .f32) (r : Fin 3072) :
    broadcastInDim S3072x1 ![0] bcast_S3072_S3072x1_0 y (ix2 r (0 : Fin 1)) = y (ix1 r) :=
  broadcastInDim_apply _ bcast_S3072_S3072x1_0 y _ (ix1 r) (fun a => match a with
    | ⟨0, _⟩ => by show r.val = if (3072 : Nat) = 1 then 0 else r.val; rw [if_neg (by decide)])

theorem lift_eq (h : S3072x151936.Reduces [1] S3072) (r : Fin 3072) (v : Fin 151936) : h.lift (ix1 r) v = ix2 r v :=
  funext fun a => Fin.ext (by match a with | ⟨0, _⟩ => rfl | ⟨1, _⟩ => rfl)

theorem maxR_apply (x : FVec Ideal S3072x151936 .f32) (r : Fin 3072) : maxR x (ix2 r (0 : Fin 1)) = topR x r := by
  have h : S3072x151936.Reduces [1] S3072 := by decide
  rw [maxR, column_apply]
  refine (Host.reduce_eq_fold_single (α := EReal) (fun a b => max a b) x _ reducesTo_S3072x151936_S3072_d1 h h_S_ (ix1 r)).trans ?_
  unfold topR
  rw [show (constant (F := Ideal) S_ .f32 0xFF800000#32) (Shape.Idx.first h_S_) = (⊥ : EReal) from ninf_eq]
  exact congrArg (Finset.univ.fold max (⊥ : EReal)) (funext fun v => congrArg x (lift_eq h r v))

theorem exp_apply (x : FVec Ideal S3072x151936 .f32) (r : Fin 3072) (v : Fin 151936) :
    Host.exp (subf x (broadcastInDim S3072x151936 ![0, 1] bcast_S3072x1_S3072x151936_0_1 (maxR x))) (ix2 r v)
      = Ideal.exp (x (ix2 r v) - topR x r) := by
  refine congrArg (fun t => Ideal.exp (x (ix2 r v) - t)) ?_
  rw [broadcastInDim_apply _ bcast_S3072x1_S3072x151936_0_1 _ (ix2 r v) (ix2 r (0 : Fin 1)) (fun a => match a with
    | ⟨0, _⟩ => by show r.val = if (3072 : Nat) = 1 then 0 else r.val; rw [if_neg (by decide)]
    | ⟨1, _⟩ => by show 0 = if (1 : Nat) = 1 then 0 else v.val; rw [if_pos rfl]), maxR_apply]

theorem rowSum_apply (y : FVec Ideal S3072x151936 .f32) (r : Fin 3072) :
    Host.reduceAdd y (constant S_ .f32 0x00000000#32) reducesTo_S3072x151936_S3072_d1 h_S_ (ix1 r) = ∑ v : Fin 151936, y (ix2 r v) := by
  refine Eq.trans (b := (0 : EReal) + ∑ v : Fin 151936, y (ix2 r v)) ?_ (zero_add _)
  simp only [Host.reduceAdd, Ideal.hostReduceAdd_def]
  rw [Ideal.hostReduceAdd_single reducesTo_S3072x151936_S3072_d1 (by decide)]
  refine congrArg₂ (· + ·) Ideal.ofBits_zero_f32 (Finset.sum_congr rfl fun k _ => ?_)
  exact congrArg y (funext fun a => Fin.ext (by match a with | ⟨0, _⟩ => rfl | ⟨1, _⟩ => rfl))

theorem addLog_apply (a b : FVec Ideal S3072x1 .f32) (i : S3072x1.Idx) : addf a (Host.log b) i = a i + Ideal.log (b i) := rfl

theorem lanesR_apply (x : FVec Ideal S3072x151936 .f32) (r : Fin 3072) (l : Fin 128) :
    lanesR x (ix2 r l) = (topR x r + Ideal.log (∑ v : Fin 151936, Ideal.exp (x (ix2 r v) - topR x r))) * (c2 : EReal) := by
  rw [lanesR, broadcastInDim_apply _ bcast_S3072x1_S3072x128_0_1 _ (ix2 r l) (ix2 r (0 : Fin 1)) (fun a => match a with
    | ⟨0, _⟩ => by show r.val = if (3072 : Nat) = 1 then 0 else r.val; rw [if_neg (by decide)]
    | ⟨1, _⟩ => by show 0 = if (1 : Nat) = 1 then 0 else l.val; rw [if_pos rfl]), column_apply, hostDivf_apply,
    broadcastInDim_scalar_apply, ln2_apply, div_ln2]
  refine congrArg (· * (c2 : EReal)) ?_
  rw [shapeCast_apply _ shapeCasts_S3072x1_S3072 (ix1 r) (ix2 r (0 : Fin 1)) (by
    rw [Shape.rowMajor_val_two, Shape.rowMajor_val_one]
    show r.val * 1 + 0 = r.val
    omega)]
  rw [addLog_apply, maxR_apply, column_apply, rowSum_apply]
  exact congrArg (fun s => topR x r + Ideal.log s) (Finset.sum_congr rfl fun v _ => exp_apply x r v)

end Cert.ReferenceIdeal.Agree

end
-- ==== Proof.RefRegion.lean ====
/-
  The reference's one pallas call: its output array is the product of the student's activations and weights, both as codes.
-/
module

public import proofs.«01_k».proof.Proof.Gen.ReferenceIdeal.Run
public import Idealize.ShloMosaic.Lib.Pipeline.Value
public import Idealize.ShloMosaic.Lib.Pipeline.ValueKit.Basic
public import Idealize.ShloMosaic.Lib.ValueIdx
public import Idealize.ShloMosaic.Lib.MatmulPlain
public import Idealize.ShloMosaic.PureOps.Ideal.Laws

@[expose] public section

noncomputable section

namespace Cert.ReferenceIdeal.Agree

open Cert.ReferenceIdeal Cert.ReferenceIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The product of the activations `y` and the transposed weights `w`. -/
def prodR (y : Vec Ideal S3072x1536 .fp8e4m3) (w : Vec Ideal S151936x1536 .fp8e4m3) : Vec Ideal S3072x151936 .f32 :=
  fun i => ∑ k : Fin 1536, y (ix2 (i 0) k) * w (ix2 (i 1) k)

theorem pay_eq (y : Vec Ideal S3072x1536 .fp8e4m3) (w : Vec Ideal S151936x1536 .fp8e4m3) : k0_pay1 (F := Ideal) y w = prodR y w := by
  funext i
  rw [eq_ix2 i]
  unfold k0_pay1
  refine (Ideal.matmul_transposedRhs_apply (M := 3072) (K := 1536) (N := 151936) none _ _ _ (i 0) (i 1)).trans ?_
  refine (congrArg₂ (· + ·) Ideal.ofBits_zero_f32 rfl).trans ?_
  rw [zero_add]
  rfl

theorem rect_zero : ∀ a : Fin 2, (![0, 0] : Fin 2 → ℕ) a = 0 := by decide

theorem out_eq (y : Vec Ideal S3072x1536 .fp8e4m3) (w : Vec Ideal S151936x1536 .fp8e4m3) : out0_2 (F := Ideal) y w = prodR y w := by
  unfold out0_2
  rw [View.canon_cons_unit_lit _ _ _ rect_zero, View.ld_unit_lit _ _ rect_zero, View.ld_unit_lit _ _ rect_zero, pay_eq]

theorem place (n y : ℕ) : 0 * n + 1 * y = y := by rw [Nat.zero_mul, Nat.zero_add, Nat.one_mul]

theorem iblk0 (c : Dev nD) (t : Fin cfg0.N) : iblk m c 0 t = m ((c : Thread nD τ).loc main_arg1) := by
  rw [← V_main_arg1 m c]
  exact funext fun y => congrArg (V m c main_arg1) (funext fun a => Fin.ext (place (S3072x1536.size a) (y a).val))

theorem iblk1 (c : Dev nD) (t : Fin cfg0.N) : iblk m c 1 t = m ((c : Thread nD τ).loc main_arg6) := by
  rw [← V_main_arg6 m c]
  exact funext fun y => congrArg (V m c main_arg6) (funext fun a => Fin.ext (place (S151936x1536.size a) (y a).val))

theorem flushed_eq (c : Dev nD) (t : Fin cfg0.N) :
    (dats m 0 c).flushed 2 t = ((cfg0.win 2).blk t).view.read (Elt Ideal)
      (prodR (m ((c : Thread nD τ).loc main_arg1)) (m ((c : Thread nD τ).loc main_arg6))) := by
  show (cfg0.win 2).cut (grid0.coords t) ((dats m 0 c).after 2 t) = _
  rw [after0_2, iblk0, iblk1, out_eq]
  funext y
  generalize prodR _ _ = G
  exact congrArg G (funext fun a => Fin.ext (place (S3072x151936.size a) (y a).val).symm)

theorem mem_blk (t : Fin cfg0.N) (i : S3072x151936.Idx) : i ∈ ((cfg0.win 2).blk t).view.set := by
  show i ∈ ((View.whole main_v0).slice (win0_2.rect t)).set
  rw [View.set_slice_whole, Rect.mem_set_unit]
  intro a
  show 0 * S3072x151936.size a ≤ (i a).val ∧ (i a).val < 0 * S3072x151936.size a + S3072x151936.size a
  rw [Nat.zero_mul, Nat.zero_add]
  exact ⟨Nat.zero_le _, (i a).isLt⟩

theorem flush2 : ∀ t : Fin cfg0.N, (cfg0.win 2).flush t = true :=
  (by decide +kernel : ∀ t : Fin grid0.N, win0_2.flush t = true)

/-- The call's output array. -/
theorem reg_eq (c : Dev nD) : Value.reg_main_v0 m c
    = prodR (m ((c : Thread nD τ).loc main_arg1)) (m ((c : Thread nD τ).loc main_arg6)) :=
  (dats m 0 c).arrAt_eq_of_cover 2 _ (fun t _ => flushed_eq m c t) (fun i =>
    ⟨⟨0, by decide⟩, flush2 _, mem_blk _ i⟩)

end Cert.ReferenceIdeal.Agree

end
-- ==== Proof.RefWeights.lean ====
/-
  The reference's teacher weights: at row `k` and column `v` the weight is made of code `k % 2` of byte `(k / 2, v)` and of the
  scale and the zero of group `k / 128`.
-/
module

public import proofs.«01_k».proof.Proof.Gen.ReferenceIdeal.Read
public import proofs.«01_k».proof.Proof.LogitsBits

@[expose] public section

noncomputable section

namespace Cert.ReferenceIdeal.Agree

open Cert.ReferenceIdeal Cert.ReferenceIdeal.Gen Cert.ReferenceIdeal.Read Idealize.ShloMosaic Idealize.ShloMosaic.TcCoe Idealize.ShloMosaic.ValueIdx

abbrev nib := Cert.LogitsIdeal.Gen.nib

theorem low_eq (b : BitVec 8) : ((IntOp.andi (b.setWidth 32) 15#32).toInt : ℤ) = ((b.toNat / 16 ^ 0 % 16 : ℕ) : ℤ) := by
  have h : ∀ b : BitVec 8, ((IntOp.andi (b.setWidth 32) 15#32).toInt : ℤ) = ((b.toNat / 16 ^ 0 % 16 : ℕ) : ℤ) := by decide +kernel
  exact h b
theorem high_eq (b : BitVec 8) : ((IntOp.shrsi .host (b.setWidth 32) 4#32).toInt : ℤ) = ((b.toNat / 16 ^ 1 % 16 : ℕ) : ℤ) := by
  have h : ∀ b : BitVec 8, ((IntOp.shrsi .host (b.setWidth 32) 4#32).toInt : ℤ) = ((b.toNat / 16 ^ 1 % 16 : ℕ) : ℤ) := by decide +kernel
  exact h b

/-- The two codes of a byte, as the reference stacks them. -/
theorem stack_apply (W : Vec Ideal S1024x151936 .i8) (b : Fin 1024) (p : Fin 2) (v : Fin 151936) :
    ((val_main_v8 (F := Ideal) W (ix3 b p v) : BitVec 32).toInt : ℤ) = (((W (ix2 b v) : BitVec 8).toNat / 16 ^ p.val % 16 : ℕ) : ℤ) := by
  unfold val_main_v8
  match p with
  | ⟨0, _⟩ =>
    refine (congrArg BitVec.toInt (concatenate_pair_apply_left (s₁ := S1024x1x151936) (s₂ := S1024x1x151936) (t := S1024x2x151936) (1 : Fin 3) _ _ _ _ rfl
      (ix3 b (0 : Fin 1) v) (fun a => match a with | ⟨0, _⟩ => rfl | ⟨1, _⟩ => rfl | ⟨2, _⟩ => rfl))).trans ?_
    rw [val_main_v6_apply, val_main_v3_apply, val_main_v1_apply, val_main_v2_apply, val_main_c_apply]
    rw [show idx_main_v6 (ix3 b (0 : Fin 1) v) = ix2 b v from funext fun a => match a with | ⟨0, _⟩ => rfl | ⟨1, _⟩ => rfl]
    exact low_eq _
  | ⟨1, _⟩ =>
    refine (congrArg BitVec.toInt (concatenate_pair_apply_right (s₁ := S1024x1x151936) (s₂ := S1024x1x151936) (t := S1024x2x151936) (1 : Fin 3) _ _ _ _ rfl rfl
      (ix3 b (0 : Fin 1) v) (fun a ha => match a, ha with | ⟨0, _⟩, _ => rfl | ⟨1, _⟩, ha => absurd rfl ha | ⟨2, _⟩, _ => rfl) rfl)).trans ?_
    rw [val_main_v7_apply, val_main_v5_apply, val_main_v1_apply, val_main_v4_apply, val_main_c_0_apply]
    rw [show idx_main_v7 (ix3 b (0 : Fin 1) v) = ix2 b v from funext fun a => match a with | ⟨0, _⟩ => rfl | ⟨1, _⟩ => rfl]
    exact high_eq _

theorem flat0 (k v N M : ℕ) (hv : v < N) (hM : M = N * 128) : (k * N + v) / M = k / 128 := by
  subst hM
  rw [← Nat.div_div_eq_div_mul, Nat.mul_comm, Nat.mul_add_div (by omega), Nat.div_eq_of_lt hv, Nat.add_zero]
theorem flat1 (k v N : ℕ) (hv : v < N) : (k * N + v) / N = k := by
  rw [Nat.mul_comm, Nat.mul_add_div (by omega), Nat.div_eq_of_lt hv, Nat.add_zero]
theorem flat2 (k v N : ℕ) (hv : v < N) : (k * N + v) % N = v := by
  rw [Nat.mul_comm, Nat.mul_add_mod, Nat.mod_eq_of_lt hv]
theorem flat3 (k v N M : ℕ) (hv : v < N) (hM : M = N * 2) : (k * N + v) / M = k / 2 := by
  subst hM
  rw [← Nat.div_div_eq_div_mul, Nat.mul_comm, Nat.mul_add_div (by omega), Nat.div_eq_of_lt hv, Nat.add_zero]

theorem idx19 (k : Fin 2048) (v : Fin 151936) :
    idx_main_v19 (ix2 k v) = ix3 (⟨k.val / 128, by omega⟩ : Fin 16) (⟨k.val % 128, by omega⟩ : Fin 128) v := by
  funext a; apply Fin.ext
  match a with
  | ⟨0, _⟩ => exact flat0 k.val v.val 151936 19447808 v.isLt (by norm_num)
  | ⟨1, _⟩ => exact congrArg (· % 128) (flat1 k.val v.val 151936 v.isLt)
  | ⟨2, _⟩ => exact flat2 k.val v.val 151936 v.isLt

theorem idx9 (k : Fin 2048) (v : Fin 151936) :
    idx_main_v9 (ix3 (⟨k.val / 128, by omega⟩ : Fin 16) (⟨k.val % 128, by omega⟩ : Fin 128) v)
      = ix3 (⟨k.val / 2, by omega⟩ : Fin 1024) (⟨k.val % 2, by omega⟩ : Fin 2) v := by
  have e : k.val / 128 * 128 + k.val % 128 = k.val := by omega
  funext a; apply Fin.ext
  match a with
  | ⟨0, _⟩ =>
    refine (flat3 (k.val / 128 * 128 + k.val % 128) v.val 151936 303872 v.isLt (by norm_num)).trans ?_
    rw [e]
  | ⟨1, _⟩ =>
    refine (congrArg (· % 2) (flat1 (k.val / 128 * 128 + k.val % 128) v.val 151936 v.isLt)).trans ?_
    dsimp only; rw [e]
  | ⟨2, _⟩ => exact flat2 _ v.val 151936 v.isLt

/-- The reference's teacher weights at an entry. -/
theorem weight_apply (W : Vec Ideal S1024x151936 .i8) (S Z : Vec Ideal S16x151936 .f32) (k : Fin 2048) (v : Fin 151936) :
    val_main_v19 (F := Ideal) W S Z (ix2 k v)
      = (nib (W (ix2 (⟨k.val / 2, by omega⟩ : Fin 1024) v)) (k.val % 2) - Z (ix2 (⟨k.val / 128, by omega⟩ : Fin 16) v))
        * S (ix2 (⟨k.val / 128, by omega⟩ : Fin 16) v) := by
  rw [val_main_v19_apply, idx19, val_main_v18_apply, val_main_v16_apply, val_main_v14_apply, val_main_v15_apply, val_main_v17_apply,
    val_main_v11_apply, val_main_v13_apply, val_main_v10_apply, val_main_v12_apply, val_main_v9_apply, idx9]
  show (((val_main_v8 (F := Ideal) W (ix3 (⟨k.val / 2, _⟩ : Fin 1024) (⟨k.val % 2, _⟩ : Fin 2) v) : BitVec 32).toInt : ℝ) - Z _) * S _ = _
  rw [show (((val_main_v8 (F := Ideal) W (ix3 (⟨k.val / 2, by omega⟩ : Fin 1024) (⟨k.val % 2, by omega⟩ : Fin 2) v) : BitVec 32).toInt : ℝ) : EReal)
      = nib (W (ix2 (⟨k.val / 2, by omega⟩ : Fin 1024) v)) (k.val % 2) from by
    rw [stack_apply]; unfold nib Cert.LogitsIdeal.Gen.nib; rw [Int.cast_natCast]]
  refine congrArg₂ (fun a b => (nib _ _ - Z a) * S b) ?_ ?_
  · funext a; match a with | ⟨0, _⟩ => rfl | ⟨1, _⟩ => rfl
  · funext a; match a with | ⟨0, _⟩ => rfl | ⟨1, _⟩ => rfl

end Cert.ReferenceIdeal.Agree

end
-- ==== Proof.RefRun.lean ====
/-
  The reference's run: its four results are the two forms of the teacher's and of the student's logits, and a logit is the scaled
  product of a row and a weight column over the temperature.
-/
module

public import proofs.«01_k».proof.Proof.RefForms
public import proofs.«01_k».proof.Proof.RefRegion
public import proofs.«01_k».proof.Proof.RefWeights

@[expose] public section

set_option maxRecDepth 16384

noncomputable section

namespace Cert.ReferenceIdeal.Agree

open Cert.ReferenceIdeal Cert.ReferenceIdeal.Gen Cert.ReferenceIdeal.Read Cert.ReferenceIdeal.Value
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The teacher's logits. -/
abbrev teacher (x : Vec Ideal S3072x2048 .bf16) (w : Vec Ideal S1024x151936 .i8) (s z : Vec Ideal S16x151936 .f32) : FVec Ideal S3072x151936 .f32 :=
  val_main_v22 (F := Ideal) x w s z
/-- The student's logits. -/
abbrev student (y : Vec Ideal S3072x1536 .fp8e4m3) (a : Vec Ideal S3072 .f32) (w : Vec Ideal S151936x1536 .fp8e4m3) (b : Vec Ideal S151936 .f32) :
    FVec Ideal S3072x151936 .f32 :=
  val_main_v30 (F := Ideal) a b (prodR y w)

theorem teacher_apply (x : Vec Ideal S3072x2048 .bf16) (w : Vec Ideal S1024x151936 .i8) (s z : Vec Ideal S16x151936 .f32) (r : Fin 3072) (v : Fin 151936) :
    teacher x w s z (ix2 r v) = Ideal.div (∑ k : Fin 2048, x (ix2 r k)
      * ((nib (w (ix2 (⟨k.val / 2, by omega⟩ : Fin 1024) v)) (k.val % 2) - z (ix2 (⟨k.val / 128, by omega⟩ : Fin 16) v))
        * s (ix2 (⟨k.val / 128, by omega⟩ : Fin 16) v))) ((2 : ℝ) : EReal) := by
  rw [teacher, val_main_v22_apply, val_main_v20_apply, val_main_v21_apply]
  refine congrArg₂ Ideal.div (Finset.sum_congr rfl fun k _ => congrArg₂ (· * ·) (congrArg x ?_) ((congrArg (val_main_v19 (F := Ideal) w s z) ?_).trans (weight_apply w s z k v))) two_eq
  · funext a; match a with | ⟨0, _⟩ => rfl | ⟨1, _⟩ => rfl
  · funext a; match a with | ⟨0, _⟩ => rfl | ⟨1, _⟩ => rfl

theorem student_apply (y : Vec Ideal S3072x1536 .fp8e4m3) (a : Vec Ideal S3072 .f32) (w : Vec Ideal S151936x1536 .fp8e4m3) (b : Vec Ideal S151936 .f32)
    (r : Fin 3072) (v : Fin 151936) : student y a w b (ix2 r v)
      = Ideal.div ((∑ k : Fin 1536, y (ix2 r k) * w (ix2 v k)) * a (ix1 r) * b (ix1 v)) ((2 : ℝ) : EReal) := by
  rw [student, val_main_v30_apply, val_main_v28_apply, val_main_v25_apply, val_main_v24_apply, val_main_v23_apply, val_main_v27_apply,
    val_main_v26_apply, val_main_v29_apply]
  refine congrArg₂ Ideal.div (congrArg₂ (fun s t => (∑ k : Fin 1536, y (ix2 r k) * w (ix2 v k)) * a s * b t) ?_ ?_) two_eq
  · funext a; match a with | ⟨0, _⟩ => rfl
  · funext a; match a with | ⟨0, _⟩ => rfl

theorem exit_teacher (V0 : Valuation τ sig (Elt Ideal)) : res_main_v22 V0 = teacher (V0 (Proc.devRef .tc main_arg0)) (V0 (Proc.devRef .tc main_arg3))
    (V0 (Proc.devRef .tc main_arg4)) (V0 (Proc.devRef .tc main_arg5)) := rfl
theorem exit_student (V0 : Valuation τ sig (Elt Ideal)) : res_main_v30 V0
    = val_main_v30 (F := Ideal) (V0 (Proc.devRef .tc main_arg2)) (V0 (Proc.devRef .tc main_arg7)) (V0 (Proc.devRef .tc main_v0)) := rfl

/-- The teacher's logits of the arguments. -/
abbrev teacherM (c : Dev nD) : FVec Ideal S3072x151936 .f32 :=
  teacher (m ((c.tc : Thread nD τ).loc main_arg0)) (m ((c.tc : Thread nD τ).loc main_arg3)) (m ((c.tc : Thread nD τ).loc main_arg4)) (m ((c.tc : Thread nD τ).loc main_arg5))
/-- The student's logits of the arguments. -/
abbrev studentM (c : Dev nD) : FVec Ideal S3072x151936 .f32 :=
  student (m ((c.tc : Thread nD τ).loc main_arg1)) (m ((c.tc : Thread nD τ).loc main_arg2)) (m ((c.tc : Thread nD τ).loc main_arg6)) (m ((c.tc : Thread nD τ).loc main_arg7))

theorem teacher_eq (c : Dev nD) : res_main_v22 (exitV m c) = teacherM m c := by
  rw [exit_teacher, exit_main_arg0, exit_main_arg3, exit_main_arg4, exit_main_arg5]
theorem student_eq (c : Dev nD) : res_main_v30 (exitV m c) = studentM m c := by
  rw [exit_student, exit_main_arg2, exit_main_arg7, exit_main_v0, reg_eq]

theorem run_results : θ_run defs (onTc (τ := τ) (main (F := Ideal))) ⟨m, fun _ => 0, ρ⟩ (fun r => ∀ c : Dev nD,
    r.2.mem ((c.tc : Thread nD τ).loc main_v36) = tilesR (teacherM m c)
    ∧ r.2.mem ((c.tc : Thread nD τ).loc main_v41) = tilesR (studentM m c)
    ∧ r.2.mem ((c.tc : Thread nD τ).loc main_v55) = lanesR (teacherM m c)
    ∧ r.2.mem ((c.tc : Thread nD τ).loc main_v69) = lanesR (studentM m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r h c => by
    obtain ⟨h0, h1, h2, h3, hk⟩ := h c
    refine ⟨h0.trans ?_, h1.trans ?_, h2.trans ?_, h3.trans ?_, hk⟩
    · exact congrArg tilesR (teacher_eq m c)
    · exact congrArg tilesR (student_eq m c)
    · exact congrArg lanesR (teacher_eq m c)
    · exact congrArg lanesR (student_eq m c)) (Value.run m ρ)

end Cert.ReferenceIdeal.Agree

end
-- ==== Proof.Agree.lean ====
/-
  The logits call and the reference agree: the arrays of tiles and the log-sum-exps of both are the same functions of the arguments.
-/
module

public import proofs.«01_k».proof.Defs
public import proofs.«01_k».proof.Proof.LogitsIdealFinal
public import proofs.«01_k».proof.Proof.LogitsIdealLse
public import proofs.«01_k».proof.Proof.RefRun
public import proofs.«01_k».proof.Proof.Gen.LogitsIdeal
public import proofs.«01_k».proof.Proof.Gen.ReferenceIdeal

@[expose] public section

set_option maxRecDepth 16384

noncomputable section

namespace Cert.Agree

open Idealize.ShloMosaic Idealize.ShloMosaic.TcCoe Idealize.ShloMosaic.ValueIdx
open Idealize.SL.Sem
open Cert.LogitsIdeal Cert.LogitsIdeal.Gen
open Cert.Lse (c2)
open Cert.ReferenceIdeal.Agree (tilesR lanesR tilesR_apply lanesR_apply teacher student teacher_apply student_apply)

/-- The scaled logits `z` are the logits `x` in units of log 2, and minus infinity past the end of the vocabulary. -/
structure Scaled (z : Fin 3072 → ℕ → EReal) (x : FVec Ideal Cert.ReferenceIdeal.S3072x151936 .f32) : Prop where
  inside : ∀ r v (h : v < 151936), z r v = x (ix2 r (⟨v, h⟩ : Fin 151936)) * (c2 : EReal)
  past : ∀ r v, 151936 ≤ v → z r v = ⊥

theorem Scaled.tiles {z x} (h : Scaled z x) : tilesR x = tilesG z := by
  funext i
  obtain ⟨t, r, q, rfl⟩ : ∃ (t : Fin 297) (r : Fin 3072) (q : Fin 512), i = ix3 t r q := ⟨i 0, i 1, i 2, eq_ix3 i⟩
  refine (tilesR_apply x t r q).trans ?_
  show _ = z r (t.val * 512 + q.val)
  by_cases hv : t.val * 512 + q.val < 151936
  · rw [dif_pos hv, h.inside r _ hv]
  · rw [dif_neg hv, h.past r _ (Nat.not_lt.mp hv)]

theorem Scaled.lanes {z x} (h : Scaled z x) : lanesR x = k0_pay3 (F := Ideal) (maxG z 297) (sumG z 297) := by
  funext i
  obtain ⟨r, l, rfl⟩ : ∃ (r : Fin 3072) (l : Fin 128), i = ix2 r l := ⟨i 0, i 1, eq_ix2 i⟩
  exact (lanesR_apply x r l).trans (lanesG_apply z (fun r v => x (ix2 r v)) h.inside h.past r l).symm

theorem teacher_scaled (X : Vec Ideal S3072x2048 .bf16) (W : Vec Ideal S1024x151936 .i8) (S Z : Vec Ideal S16x151936 .f32) :
    Scaled (ztG X W S Z) (teacher X W S Z) where
  inside r v h := (ztG_eq X W S Z r v h).trans (congrArg (· * (c2 : EReal)) (teacher_apply X W S Z r ⟨v, h⟩).symm)
  past r v h := ztG_past X W S Z r v h

theorem student_scaled (Y : Vec Ideal S3072x1536 .fp8e4m3) (a : Vec Ideal S3072 .f32) (W : Vec Ideal S151936x1536 .fp8e4m3) (b : Vec Ideal S151936 .f32)
    (C : Vec Ideal S3072x128 .f32) (D : Vec Ideal S297x1x512 .f32) (p : FVec Ideal S_ .f32)
    (hC : C = broadcastInDim S3072x128 ![0, 1] bcast_S3072x1_S3072x128_0_1 (broadcastInDim S3072x1 ![0] bcast_S3072_S3072x1_0 a))
    (hD : D = shapeCast S297x1x512 (pad S152064 ![0] ![128] ![0] b p pads_S151936_S152064_01280 h_S_) shapeCasts_S152064_S297x1x512) :
    Scaled (zsG Y C W D) (student Y a W b) where
  inside r v h := (zsG_eq Y C W D r v h (a (ix1 r)) (b (ix1 (⟨v, h⟩ : Fin 151936))) (fun l => by rw [hC]; exact scales_apply a r l)
    (by rw [hD]; exact tiled_apply b p v h _ _)).trans (congrArg (· * (c2 : EReal)) (student_apply Y a W b r ⟨v, h⟩).symm)
  past r v h := zsG_past Y C W D r v h

theorem algebraic : Cert.algebraic_LogitsIdeal_ReferenceIdeal (hLogitsIdeal := Cert.LogitsIdeal.Gen.facts) (hReferenceIdeal := Cert.ReferenceIdeal.Gen.facts) := by
  intro m g m' g' _ hm
  refine ⟨fun c => tilesG (ztV0 m c), fun c => tilesG (zsV0 m c), fun c => ltV0 m c, fun c => lsV0 m c, run_results m g, ?_⟩
  refine (θ_run _ _ _).mono (fun r h c => ?_) (Cert.ReferenceIdeal.Agree.run_results m' g')
  obtain ⟨e0, e1, e2, e3, hk⟩ := h c
  obtain ⟨a0, a1, a2, a3, a4, a5, a6, a7⟩ := hm c
  have ht : Scaled (ztV0 m c) (Cert.ReferenceIdeal.Agree.teacherM m' c) := by
    show Scaled (ztG _ _ _ _) (teacher _ _ _ _)
    rw [V_main_arg0, V_main_arg3, V_main_arg4, V_main_arg5, a0, a3, a4, a5]
    exact teacher_scaled _ _ _ _
  have hs : Scaled (zsV0 m c) (Cert.ReferenceIdeal.Agree.studentM m' c) := by
    show Scaled (zsG _ _ _ _) (student _ _ _ _)
    rw [V_main_arg1, V_main_arg6, a1, a2, a6, a7]
    exact student_scaled _ _ _ _ _ _ _ (V_main_v1 m c) (V_main_v3 m c)
  exact ⟨e0.trans ht.tiles, e1.trans hs.tiles, e2.trans ht.lanes, e3.trans hs.lanes, hk⟩

end Cert.Agree

end
-- ==== Proof.GradIdealForm.lean ====
/-
  The gradient call: what one point of the grid adds to the running sums of the loss, as one function for every block of rows. The
  body is written out block by block and group by group; here each block is an instance of the same function.
-/
module

public import proofs.«01_k».proof.Proof.GradIdealCond

@[expose] public section

noncomputable section

namespace Cert.GradIdeal.Gen

open Idealize.ShloMosaic Idealize.ShloMosaic.TcCoe Idealize.ShloMosaic.Tactic

variable {F : FTy → Type} [FloatOps F] [Named F]

/-- The running sum after four groups of columns, from the log-sum-exps and the logits of a block of rows. -/
def sumV (lt ls : FVec F S256x128 .f32) (zt zs : (k : ℕ) → k < 4 → Vec F S1x256x128 .f32) (s : FVec F S256x128 .f32) : FVec F S256x128 .f32 :=
  k0_pay87 lt ls (k0_pay87 lt ls (k0_pay87 lt ls (k0_pay87 lt ls s (zt 0 (by decide)) (zs 0 (by decide))) (zt 1 (by decide)) (zs 1 (by decide)))
    (zt 2 (by decide)) (zs 2 (by decide))) (zt 3 (by decide)) (zs 3 (by decide))

theorem inbR {n : ℕ} {c : ℕ} (hc : c < 4) : ∀ a, (![256 * c, 0] : Fin 2 → ℕ) a + (⟨2, ![256, n]⟩ : Shape).size a ≤ (⟨2, ![1024, n]⟩ : Shape).size a :=
  fun a => by match a with | ⟨0, _⟩ => show 256 * c + 256 ≤ 1024; omega | ⟨1, _⟩ => show 0 + n ≤ n; omega
theorem inbZ {c k : ℕ} (hc : c < 4) (hk : k < 4) : ∀ a, (![0, 256 * c, 128 * k] : Fin 3 → ℕ) a + S1x256x128.size a ≤ S1x1024x512.size a :=
  fun a => by match a with | ⟨0, _⟩ => show 0 + 1 ≤ 1; omega | ⟨1, _⟩ => show 256 * c + 256 ≤ 1024; omega | ⟨2, _⟩ => show 128 * k + 128 ≤ 512; omega

/-- A piece of an array with a number per row and lane: the block of rows `c`. -/
def rPiece (v : (c : ℕ) → c < 4 → FVec F S256x128 .f32) (c : ℕ) (hc : c < 4) : View.Piece (Elt F) S1024x128 .f32 :=
  ⟨Rect.unit ![256 * c, 0] S256x128.size (inbR hc), shapeCast S256x128 (v c hc) shapeCasts_S256x128_S256x128⟩

/-- The pieces of such an array, the last one stored first. -/
def rList (v : (c : ℕ) → c < 4 → FVec F S256x128 .f32) : List (View.Piece (Elt F) S1024x128 .f32) :=
  [rPiece v 3 (by decide), rPiece v 2 (by decide), rPiece v 1 (by decide), rPiece v 0 (by decide)]

/-- A piece of the loss: the block of rows `c`, from its running sums `s` and the share `w` of a token. -/
def lossPiece (w : F .f32) (s : (c : ℕ) → c < 4 → FVec F S256x128 .f32) (c : ℕ) (hc : c < 4) : View.Piece (Elt F) S1024x128 .f32 :=
  ⟨Rect.unit ![256 * c, 0] S256x128.size (inbR hc), k0_pay4 w (s c hc)⟩

/-- The pieces of the loss, the last one stored first. -/
def lossList (w : F .f32) (s : (c : ℕ) → c < 4 → FVec F S256x128 .f32) : List (View.Piece (Elt F) S1024x128 .f32) :=
  [lossPiece w s 3 (by decide), lossPiece w s 2 (by decide), lossPiece w s 1 (by decide), lossPiece w s 0 (by decide)]

/-- The block of rows `c` of such an array. -/
def rowsL (a : Memref sig .tc .vmem S1024x128 .f32) (ha : a.IsWhole) (x : Vec F S1024x128 .f32) (c : ℕ) (hc : c < 4) : FVec F S256x128 .f32 :=
  View.readAt (Elt F) a.view (Rect.unit (s := S1024x128) ![256 * c, 0] S256x128.size (inbR hc)).toLoadRect (ha.unread x)

/-- The block of rows `c` of such an array, read back from stored pieces. -/
def rowsCov (a : Memref sig .tc .vmem S1024x128 .f32) (L : List (View.Piece (Elt F) S1024x128 .f32)) (c : ℕ) (hc : c < 4) : FVec F S256x128 .f32 :=
  a.view.readCov L (Rect.unit (s := S1024x128) ![256 * c, 0] S256x128.size (inbR hc)).toLoadRect

/-- The block of rows `c` of such an array, read from a buffer's contents. -/
def rowsX (a : Memref sig .tc .vmem S1024x128 .f32) (X : BufTy.Contents (Elt F) a.view.ty) (c : ℕ) (hc : c < 4) : FVec F S256x128 .f32 :=
  View.readAt (Elt F) a.view (Rect.unit (s := S1024x128) ![256 * c, 0] S256x128.size (inbR hc)).toLoadRect X

/-- Group `k` of the block of rows `c` of a tile of logits. -/
def zL (a : Memref sig .tc .vmem S1x1024x512 .f32) (ha : a.IsWhole) (x : Vec F S1x1024x512 .f32) (c : ℕ) (hc : c < 4) (k : ℕ) (hk : k < 4) :
    Vec F S1x256x128 .f32 :=
  View.readAt (Elt F) a.view (Rect.unit (s := S1x1024x512) ![0, 256 * c, 128 * k] S1x256x128.size (inbZ hc hk)).toLoadRect (ha.unread x)

/-- The new running sums of the block of rows `c`. -/
def stepV (arg3 : Memref sig .tc .vmem S1x1024x512 .f32) (harg3 : arg3.IsWhole) (arg4 : Memref sig .tc .vmem S1x1024x512 .f32) (harg4 : arg4.IsWhole)
    (arg5 : Memref sig .tc .vmem S1024x128 .f32) (harg5 : arg5.IsWhole) (arg6 : Memref sig .tc .vmem S1024x128 .f32) (harg6 : arg6.IsWhole)
    (x1 x2 : Vec F S1x1024x512 .f32) (x3 x4 : Vec F S1024x128 .f32) (c : ℕ) (hc : c < 4) (s : FVec F S256x128 .f32) : FVec F S256x128 .f32 :=
  sumV (rowsL arg5 harg5 x3 c hc) (rowsL arg6 harg6 x4 c hc) (zL arg3 harg3 x1 c hc) (zL arg4 harg4 x2 c hc) s

/-- The pieces of the running sums at the first point: a fill with zero, then `n` blocks of rows. -/
def sFirst (f : (c : ℕ) → c < 4 → FVec F S256x128 .f32 → FVec F S256x128 .f32) (a : Memref sig .tc .vmem S1024x128 .f32) :
    (n : ℕ) → n ≤ 4 → List (View.Piece (Elt F) S1024x128 .f32)
  | 0, _ => [⟨Rect.unit ![0, 0] S1024x128.size inb_S1024x128_S1024x128_0_0, k0_pay10⟩]
  | n + 1, h => ⟨Rect.unit (s := S1024x128) ![256 * n, 0] S256x128.size (inbR h),
      shapeCast S256x128 (f n h (rowsCov a (sFirst f a n (Nat.le_of_succ_le h)) n h)) shapeCasts_S256x128_S256x128⟩
      :: sFirst f a n (Nat.le_of_succ_le h)

end Cert.GradIdeal.Gen

end
-- ==== Proof.LossMath.lean ====
/-
  The entropy terms of the loss over the extended reals. One program keeps the weights as powers of two and takes logarithms in
  units of log 2; the other takes exponentials and logarithms in natural units and the logarithm of a quotient. The laws hold at
  every extended real, so no precondition is needed.
-/
module

public import proofs.«01_k».proof.Proof.Softmax
public import Idealize.ShloMosaic.PureOps.Ideal.Laws

@[expose] public section

namespace Cert.Loss
open Idealize.ShloMosaic
open Cert.Lse (c2 c2_pos exp2_nonneg sum_range_mul)
open scoped BigOperators

/-- The natural logarithm of two. -/
noncomputable abbrev ln2 : EReal := ((Real.log 2 : ℝ) : EReal)

theorem log2_pos : 0 < Real.log 2 := Real.log_pos (by norm_num)

/-- The logarithm, in units of log 2, of the sum of two powers of two, kept at least `w`. -/
noncomputable def logMix (w a b : EReal) : EReal := Ideal.log (max (Ideal.exp2 a + Ideal.exp2 b) w) * (c2 : EReal)

/-- A column's two entropy terms in units of log 2, from the logarithms `a` and `b` of its weights. -/
noncomputable def termK (w a b : EReal) : EReal := Ideal.exp2 b * (b - logMix w a b) + Ideal.exp2 a * (a - logMix w a b)

/-- A column's two entropy terms in natural units, from its weights `p` and `q`. -/
noncomputable def termR (w p q : EReal) : EReal :=
  p * Ideal.log (Ideal.div p (max (p + q) w)) + q * Ideal.log (Ideal.div q (max (p + q) w))

/-- The power of two at a shifted argument. -/
theorem exp2_shift (z l : EReal) (s : ℝ) : Ideal.exp2 (z - (l - (s : EReal))) = (((2 : ℝ) ^ s : ℝ) : EReal) * Ideal.exp ((z - l) * ln2) := by
  have h := log2_pos
  have hs : (0 : ℝ) < (2 : ℝ) ^ s := Real.rpow_pos_of_pos (by norm_num) s
  induction l using EReal.rec with
  | top => rw [EReal.top_sub_coe, EReal.sub_top, EReal.bot_mul_coe_of_pos h]; simp
  | bot =>
    have e : (⊥ : EReal) - (s : EReal) = ⊥ := by rw [sub_eq_add_neg, EReal.bot_add]
    rw [e]
    induction z using EReal.rec with
    | bot => simp [EReal.bot_mul_coe_of_pos h]
    | top => simp [EReal.top_mul_coe_of_pos h, EReal.coe_mul_top_of_pos hs]
    | coe z => rw [EReal.coe_sub_bot, EReal.top_mul_coe_of_pos h]; simp [EReal.coe_mul_top_of_pos hs]
  | coe l =>
    induction z using EReal.rec with
    | bot => simp [EReal.bot_mul_coe_of_pos h, ← EReal.coe_sub]
    | top =>
      rw [← EReal.coe_sub, EReal.top_sub_coe, EReal.top_sub_coe, EReal.top_mul_coe_of_pos h]
      simp [EReal.coe_mul_top_of_pos hs]
    | coe z =>
      rw [← EReal.coe_sub, ← EReal.coe_sub, ← EReal.coe_sub, ← EReal.coe_mul, Ideal.exp2_coe, Ideal.exp_coe, ← EReal.coe_mul]
      congr 1
      show (2 : ℝ) ^ (z - (l - s)) = (2 : ℝ) ^ s * Real.exp ((z - l) * Real.log 2)
      rw [show Real.exp ((z - l) * Real.log 2) = (2 : ℝ) ^ (z - l) from by
        rw [Real.rpow_def_of_pos (by norm_num), mul_comm], ← Real.rpow_add (by norm_num)]
      congr 1; ring

/-- One weight's term: the logarithm of a quotient is the difference of the logarithms. -/
theorem gain_eq (y M : EReal) (hM : 0 < M) (h : Ideal.exp2 y ≤ M) :
    Ideal.exp2 y * (y - Ideal.log M * (c2 : EReal)) * ln2 = Ideal.exp2 y * Ideal.log (Ideal.div (Ideal.exp2 y) M) := by
  have h2 := log2_pos
  have hc := c2_pos
  induction y using EReal.rec with
  | bot => simp
  | top =>
    obtain rfl : M = ⊤ := top_le_iff.1 (by simpa using h)
    have e : Ideal.div (⊤ : EReal) ⊤ = 0 := by unfold Ideal.div; simp
    rw [Ideal.exp2_top, e, Ideal.log_top, EReal.top_mul_coe_of_pos hc, EReal.sub_top, EReal.top_mul_bot, EReal.bot_mul_coe_of_pos h2]
    show _ = ⊤ * (Ideal.log ((0 : ℝ) : EReal))
    rw [Ideal.log_coe, if_pos le_rfl, EReal.top_mul_bot]
  | coe y =>
    have hp : (0 : ℝ) < (2 : ℝ) ^ y := Real.rpow_pos_of_pos (by norm_num) y
    have ep : Ideal.exp2 (y : EReal) = (((2 : ℝ) ^ y : ℝ) : EReal) := rfl
    rw [ep]
    rw [ep] at h
    induction M using EReal.rec with
    | bot => exact absurd hM (by simp)
    | top =>
      have e : Ideal.div (((2 : ℝ) ^ y : ℝ) : EReal) ⊤ = ((0 : ℝ) : EReal) := by unfold Ideal.div; simp
      rw [e, Ideal.log_coe, if_pos le_rfl, Ideal.log_top, EReal.top_mul_coe_of_pos hc, EReal.sub_top, EReal.coe_mul_bot_of_pos hp,
        EReal.bot_mul_coe_of_pos h2]
    | coe M =>
      have hM' : (0 : ℝ) < M := by exact_mod_cast hM
      rw [Ideal.div_coe hM'.ne', ← EReal.coe_mul, Ideal.log_coe, Ideal.log_coe, if_neg (not_le.2 hM'),
        if_neg (not_le.2 (mul_pos hp (by positivity))), ← EReal.coe_mul, ← EReal.coe_sub, ← EReal.coe_mul, ← EReal.coe_mul, ← EReal.coe_mul]
      congr 1
      rw [Real.log_mul hp.ne' (by positivity), one_div, Real.log_inv, Real.log_rpow (by norm_num)]
      have : Real.log 2 ≠ 0 := h2.ne'
      simp only [c2]; field_simp; ring

theorem add_ln2 (a b : EReal) : (a + b) * ln2 = a * ln2 + b * ln2 :=
  EReal.right_distrib_of_nonneg_of_ne_top (by exact_mod_cast log2_pos.le) (EReal.coe_ne_top _) a b

theorem sum_ln2 {ι : Type} (s : Finset ι) (f : ι → EReal) : (∑ i ∈ s, f i) * ln2 = ∑ i ∈ s, f i * ln2 := by
  classical
  induction s using Finset.induction_on with
  | empty => simp
  | insert a s ha ih => rw [Finset.sum_insert ha, Finset.sum_insert ha, add_ln2, ih]

/-- The two forms of a column's entropy terms agree. -/
theorem term_eq (w a b : EReal) (hw : 0 < w) : termK w a b * ln2 = termR w (Ideal.exp2 a) (Ideal.exp2 b) := by
  have hm : 0 < max (Ideal.exp2 a + Ideal.exp2 b) w := lt_max_of_lt_right hw
  have ha : Ideal.exp2 a ≤ max (Ideal.exp2 a + Ideal.exp2 b) w := le_max_of_le_left (le_add_of_nonneg_right (exp2_nonneg b))
  have hb : Ideal.exp2 b ≤ max (Ideal.exp2 a + Ideal.exp2 b) w := le_max_of_le_left (le_add_of_nonneg_left (exp2_nonneg a))
  unfold termK termR logMix
  rw [add_ln2, gain_eq b _ hm hb, gain_eq a _ hm ha, add_comm]

/-- What a lane has summed of the tiles before `t`: four columns in each tile. -/
noncomputable def runAcc (f : ℕ → ℕ → EReal) : ℕ → EReal
  | 0 => 0
  | t + 1 => runAcc f t + f t 0 + f t 1 + f t 2 + f t 3

theorem runAcc_eq (f : ℕ → ℕ → EReal) (t : ℕ) : runAcc f t = ∑ t' ∈ Finset.range t, ∑ k ∈ Finset.range 4, f t' k := by
  induction t with
  | zero => simp [runAcc]
  | succ t ih =>
    rw [Finset.sum_range_succ, runAcc, ih]
    simp only [Finset.sum_range_succ, Finset.sum_range_zero, zero_add]
    simp only [add_assoc]

/-- The lanes' sums joined: the sum over every column of the row. -/
theorem join_acc (y : ℕ → EReal) (n : ℕ) :
    ∑ l ∈ Finset.range 128, runAcc (fun t k => y (t * 512 + k * 128 + l)) n = ∑ v ∈ Finset.range (n * 512), y v := by
  rw [Finset.sum_congr rfl fun l _ => runAcc_eq _ n, Finset.sum_comm, sum_range_mul]
  refine Finset.sum_congr rfl fun t _ => ?_
  rw [Finset.sum_comm, show (512 : ℕ) = 4 * 128 from rfl, sum_range_mul]
  exact Finset.sum_congr rfl fun k _ => Finset.sum_congr rfl fun l _ => by rw [← add_assoc]

/-- The row's terms, summed lane by lane in units of log 2, and summed column by column in natural units. -/
theorem row_eq (w : EReal) (hw : 0 < w) (a b p q : ℕ → EReal) (n : ℕ) (ha : ∀ v, Ideal.exp2 (a v) = p v) (hb : ∀ v, Ideal.exp2 (b v) = q v) :
    (∑ l : Fin 128, runAcc (fun t k => termK w (a (t * 512 + k * 128 + l.val)) (b (t * 512 + k * 128 + l.val))) n) * ln2
      = ∑ v : Fin (n * 512), termR w (p v.val) (q v.val) := by
  have e := join_acc (fun v => termK w (a v) (b v)) n
  rw [Finset.sum_range, Finset.sum_range] at e
  rw [e, sum_ln2]
  exact Finset.sum_congr rfl fun v _ => by rw [term_eq w _ _ hw, ha, hb]

end Cert.Loss
-- ==== Proof.GradIdealValue.lean ====
/-
  The gradient call over the extended reals: the running sums of the loss and the loss itself at one point of the grid, entry by entry,
  from the blocks the point reads.
-/
module

public import proofs.«01_k».proof.Proof.GradIdealForm
public import proofs.«01_k».proof.Proof.LossMath
public import Idealize.ShloMosaic.Lib.Pipeline.FrameBody
public import Idealize.ShloMosaic.Lib.Pipeline.ReadBack
public import Idealize.ShloMosaic.Lib.Pipeline.Value
public import Idealize.ShloMosaic.Lib.ValueIdx
public import Idealize.ShloMosaic.Lib.WholeRead
public import Idealize.ShloMosaic.Lib.IdealHost
public import Idealize.ShloMosaic.Lib.KernelVsHost
public import Idealize.ShloMosaic.PureOps.Ideal.Laws

@[expose] public section

set_option maxRecDepth 16384

noncomputable section

namespace Cert.GradIdeal.Gen

open Idealize.ShloMosaic Idealize.ShloMosaic.TcCoe Idealize.ShloMosaic.Tactic Idealize.ShloMosaic.ValueIdx
open scoped BigOperators

/-! ## The pieces cover their arrays -/

theorem rList_cover (v : (c : ℕ) → c < 4 → FVec Ideal S256x128 .f32) (y : S1024x128.Idx) : ∃ p ∈ rList v, y ∈ p.1.set :=
  View.cover_of_tiledL (rList v) S256x128.size (by sl_kernel_rfl) y

theorem lossList_cover (w : Ideal .f32) (s : (c : ℕ) → c < 4 → FVec Ideal S256x128 .f32) (y : S1024x128.Idx) : ∃ p ∈ lossList w s, y ∈ p.1.set :=
  View.cover_of_tiledL (lossList w s) S256x128.size (by sl_kernel_rfl) y

/-! ## An array put together from its pieces -/

theorem rPiece_emb (v : (c : ℕ) → c < 4 → FVec Ideal S256x128 .f32) (G : S1024x128.Idx → EReal) (c : ℕ) (hc : c < 4)
    (h : ∀ (r : Fin 256) (l : Fin 128), v c hc (ix2 r l) = G (ix2 (⟨256 * c + r.val, by omega⟩ : Fin 1024) l))
    (x : (rPiece v c hc).1.shape.Idx) : (rPiece v c hc).2 x = G ((rPiece v c hc).1.emb x) := by
  obtain ⟨r, l, rfl⟩ : ∃ (r : Fin 256) (l : Fin 128), x = ix2 r l := ⟨_, _, eq_ix2 x⟩
  refine (congrFun (shapeCast_self _ _) (ix2 r l)).trans ((h r l).trans (congrArg G ?_))
  funext a; apply Fin.ext
  match a with
  | ⟨0, _⟩ => show 256 * c + r.val = 256 * c + 1 * r.val; omega
  | ⟨1, _⟩ => show l.val = 0 + 1 * l.val; omega

theorem rList_canon_append (v : (c : ℕ) → c < 4 → FVec Ideal S256x128 .f32) (G : S1024x128.Idx → EReal) (L : List (View.Piece (Elt Ideal) S1024x128 .f32))
    (h : ∀ c (hc : c < 4) (r : Fin 256) (l : Fin 128), v c hc (ix2 r l) = G (ix2 (⟨256 * c + r.val, by omega⟩ : Fin 1024) l)) :
    View.canon (Val := Elt Ideal) (e := .f32) (rList v ++ L) = G := by
  have hp := fun c hc => rPiece_emb v G c hc (h c hc)
  have hall : View.PiecesOf (Val := Elt Ideal) (e := .f32) G (rList v) := ⟨hp _ _, hp _ _, hp _ _, hp _ _, trivial⟩
  funext y
  exact View.canon_append_of_piecesOf G L (rList v) hall y (rList_cover v y)

theorem rList_canon (v : (c : ℕ) → c < 4 → FVec Ideal S256x128 .f32) (G : S1024x128.Idx → EReal)
    (h : ∀ c (hc : c < 4) (r : Fin 256) (l : Fin 128), v c hc (ix2 r l) = G (ix2 (⟨256 * c + r.val, by omega⟩ : Fin 1024) l)) :
    View.canon (Val := Elt Ideal) (e := .f32) (rList v) = G := by
  have := rList_canon_append v G [] h
  rwa [List.append_nil] at this

theorem lossPiece_emb (w : Ideal .f32) (s : (c : ℕ) → c < 4 → FVec Ideal S256x128 .f32) (G : S1024x128.Idx → EReal) (c : ℕ) (hc : c < 4)
    (h : ∀ (r : Fin 256) (l : Fin 128), k0_pay4 w (s c hc) (ix2 r l) = G (ix2 (⟨256 * c + r.val, by omega⟩ : Fin 1024) l))
    (x : (lossPiece w s c hc).1.shape.Idx) : (lossPiece w s c hc).2 x = G ((lossPiece w s c hc).1.emb x) := by
  obtain ⟨r, l, rfl⟩ : ∃ (r : Fin 256) (l : Fin 128), x = ix2 r l := ⟨_, _, eq_ix2 x⟩
  refine (h r l).trans (congrArg G ?_)
  funext a; apply Fin.ext
  match a with
  | ⟨0, _⟩ => show 256 * c + r.val = 256 * c + 1 * r.val; omega
  | ⟨1, _⟩ => show l.val = 0 + 1 * l.val; omega

theorem lossList_canon (w : Ideal .f32) (s : (c : ℕ) → c < 4 → FVec Ideal S256x128 .f32) (G : S1024x128.Idx → EReal)
    (h : ∀ c (hc : c < 4) (r : Fin 256) (l : Fin 128), k0_pay4 w (s c hc) (ix2 r l) = G (ix2 (⟨256 * c + r.val, by omega⟩ : Fin 1024) l)) :
    View.canon (Val := Elt Ideal) (e := .f32) (lossList w s) = G := by
  have hp := fun c hc => lossPiece_emb w s G c hc (h c hc)
  have hall : View.PiecesOf (Val := Elt Ideal) (e := .f32) G (lossList w s) := ⟨hp _ _, hp _ _, hp _ _, hp _ _, trivial⟩
  funext y
  have := View.canon_append_of_piecesOf G [] (lossList w s) hall y (lossList_cover w s y)
  rwa [List.append_nil] at this

/-! ## What the body reads -/

theorem rowsL_apply (a : Memref sig .tc .vmem S1024x128 .f32) (ha : a.IsWhole) (x : Vec Ideal S1024x128 .f32) (c : ℕ) (hc : c < 4)
    (r : Fin 256) (l : Fin 128) : rowsL a ha x c hc (ix2 r l) = x (ix2 (⟨256 * c + r.val, by omega⟩ : Fin 1024) l) := by
  unfold rowsL
  rw [ha.readAt_unread]
  refine congrArg x (funext fun x => Fin.ext ?_)
  match x with
  | ⟨0, _⟩ => show 256 * c + 1 * r.val = 256 * c + r.val; omega
  | ⟨1, _⟩ => show 0 + 1 * l.val = l.val; omega

theorem rowsCov_apply (a : Memref sig .tc .vmem S1024x128 .f32) (L : List (View.Piece (Elt Ideal) S1024x128 .f32)) (c : ℕ) (hc : c < 4)
    (r : Fin 256) (l : Fin 128) : rowsCov a L c hc (ix2 r l) = View.canon L (ix2 (⟨256 * c + r.val, by omega⟩ : Fin 1024) l) := by
  unfold rowsCov
  rw [View.readCov_eq_canon']
  refine congrArg (View.canon L) (funext fun a => Fin.ext ?_)
  match a with
  | ⟨0, _⟩ => show 256 * c + 1 * r.val = 256 * c + r.val; omega
  | ⟨1, _⟩ => show 0 + 1 * l.val = l.val; omega

theorem zL_apply (a : Memref sig .tc .vmem S1x1024x512 .f32) (ha : a.IsWhole) (x : Vec Ideal S1x1024x512 .f32) (c : ℕ) (hc : c < 4) (k : ℕ) (hk : k < 4)
    (r : Fin 256) (l : Fin 128) : zL a ha x c hc k hk (ix3 (0 : Fin 1) r l)
      = x (ix3 (0 : Fin 1) (⟨256 * c + r.val, by omega⟩ : Fin 1024) (⟨128 * k + l.val, by omega⟩ : Fin 512)) := by
  unfold zL
  rw [ha.readAt_unread]
  refine congrArg x (funext fun x => Fin.ext ?_)
  match x with
  | ⟨0, _⟩ => rfl
  | ⟨1, _⟩ => show 256 * c + 1 * r.val = 256 * c + r.val; omega
  | ⟨2, _⟩ => show 128 * k + 1 * l.val = 128 * k + l.val; omega

/-! ## The constants -/

/-- The smallest number the mixture is compared with. -/
def tiny : EReal := Ideal.ofBits .f32 0x00800000#32
/-- The binary logarithm of one quarter, as the kernel writes it. -/
def quarterE : EReal := Ideal.ofBits .f32 0xC0000000#32
/-- The binary logarithm of three quarters. -/
def threeE : EReal := ((Real.log (3 / 4) / Real.log 2 : ℝ) : EReal)

/-! ## The running sums -/

/-- The word of group `k` and lane `l` in a row of a tile. -/
def colB (z : S1x1024x512.Idx → EReal) (i : S1024x128.Idx) (k : Fin 4) : EReal :=
  z (ix3 (0 : Fin 1) (i 0) (⟨128 * k.val + (i 1).val, by have := idx2_lt1 i; omega⟩ : Fin 512))

/-- What one word adds to the running sum. -/
def wordB (zt zs : S1x1024x512.Idx → EReal) (lt ls : S1024x128.Idx → EReal) (i : S1024x128.Idx) (k : Fin 4) : EReal :=
  Cert.Loss.termK tiny (colB zt i k - (lt i - quarterE)) (colB zs i k - (ls i - threeE))

/-- The running sum after a tile. -/
def sumB (zt zs : S1x1024x512.Idx → EReal) (lt ls s : S1024x128.Idx → EReal) : S1024x128.Idx → EReal := fun i =>
  s i + wordB zt zs lt ls i 0 + wordB zt zs lt ls i 1 + wordB zt zs lt ls i 2 + wordB zt zs lt ls i 3

theorem pay87_apply (lt ls s : FVec Ideal S256x128 .f32) (zt zs : Vec Ideal S1x256x128 .f32) (r : Fin 256) (l : Fin 128) :
    k0_pay87 lt ls s zt zs (ix2 r l)
      = s (ix2 r l) + Cert.Loss.termK tiny (zt (ix3 (0 : Fin 1) r l) - (lt (ix2 r l) - quarterE)) (zs (ix3 (0 : Fin 1) r l) - (ls (ix2 r l) - threeE)) := by
  have e : ∀ z : Vec Ideal S1x256x128 .f32, shapeCast S256x128 z shapeCasts_S1x256x128_S256x128 (ix2 r l) = z (ix3 (0 : Fin 1) r l) := fun z =>
    shapeCast_apply _ _ _ _ (by
      rw [Shape.rowMajor_val_three, Shape.rowMajor_val_two]
      show (0 * 256 + r.val) * 128 + l.val = r.val * 128 + l.val
      omega)
  unfold k0_pay87 k0_pay85 k0_pay84 k0_pay83 k0_pay82 k0_pay81 k0_pay80 k0_pay79 k0_pay78
  simp only [shapeCast_self]
  rw [← e zt, ← e zs]
  rfl

theorem stepV_apply (arg3 : Memref sig .tc .vmem S1x1024x512 .f32) (harg3 : arg3.IsWhole) (arg4 : Memref sig .tc .vmem S1x1024x512 .f32) (harg4 : arg4.IsWhole)
    (arg5 : Memref sig .tc .vmem S1024x128 .f32) (harg5 : arg5.IsWhole) (arg6 : Memref sig .tc .vmem S1024x128 .f32) (harg6 : arg6.IsWhole)
    (x1 x2 : Vec Ideal S1x1024x512 .f32) (x3 x4 : Vec Ideal S1024x128 .f32) (c : ℕ) (hc : c < 4) (s : FVec Ideal S256x128 .f32) (Sm : S1024x128.Idx → EReal)
    (r : Fin 256) (l : Fin 128) (hs : s (ix2 r l) = Sm (ix2 (⟨256 * c + r.val, by omega⟩ : Fin 1024) l)) :
    stepV arg3 harg3 arg4 harg4 arg5 harg5 arg6 harg6 x1 x2 x3 x4 c hc s (ix2 r l) = sumB x1 x2 x3 x4 Sm (ix2 (⟨256 * c + r.val, by omega⟩ : Fin 1024) l) := by
  unfold stepV sumV
  rw [pay87_apply, pay87_apply, pay87_apply, pay87_apply, hs, rowsL_apply, rowsL_apply]
  simp only [zL_apply]
  rfl

/-! ## The first point: the running sums start from zero -/

theorem rows_disj (n c : ℕ) (hn : n < 4) (hc : c < 4) (h : n < c) :
    LoadRect.disj (Rect.unit (s := S1024x128) ![256 * n, 0] S256x128.size (inbR hn)) (Rect.unit (s := S1024x128) ![256 * c, 0] S256x128.size (inbR hc)).toLoadRect
      = true := by
  unfold LoadRect.disj
  refine decide_eq_true ⟨0, .inr (.inr (.inl ?_))⟩
  show 256 * n + 1 * (256 - 1) < 256 * c
  omega

theorem sFirst_rows (f : (c : ℕ) → c < 4 → FVec Ideal S256x128 .f32 → FVec Ideal S256x128 .f32) (a : Memref sig .tc .vmem S1024x128 .f32) (c : ℕ) (hc : c < 4) :
    ∀ n (hn : n ≤ 4), n ≤ c → rowsCov a (sFirst f a n hn) c hc = fun _ => (0 : EReal)
  | 0, _, _ => by
    refine (View.readCov_fill (Val := Elt Ideal) (e := .f32) a.view (s := S1024x128) inb_S1024x128_S1024x128_0_0 (k0_pay10 (F := Ideal)) [] _ (by decide)).trans ?_
    funext y
    exact Ideal.ofBits_zero_f32
  | n + 1, hn, h => by
    have ih := sFirst_rows f a c hc n (Nat.le_of_succ_le hn) (by omega)
    exact (View.readCov_skip (Val := Elt Ideal) a.view _ _ _ _ (rows_disj n c hn hc h)).trans ih

theorem sFirst_canon (arg3 : Memref sig .tc .vmem S1x1024x512 .f32) (harg3 : arg3.IsWhole) (arg4 : Memref sig .tc .vmem S1x1024x512 .f32) (harg4 : arg4.IsWhole)
    (arg5 : Memref sig .tc .vmem S1024x128 .f32) (harg5 : arg5.IsWhole) (arg6 : Memref sig .tc .vmem S1024x128 .f32) (harg6 : arg6.IsWhole)
    (x1 x2 : Vec Ideal S1x1024x512 .f32) (x3 x4 : Vec Ideal S1024x128 .f32) (a : Memref sig .tc .vmem S1024x128 .f32) :
    View.canon (Val := Elt Ideal) (e := .f32) (sFirst (stepV arg3 harg3 arg4 harg4 arg5 harg5 arg6 harg6 x1 x2 x3 x4) a 4 le_rfl)
      = sumB x1 x2 x3 x4 (fun _ => 0) :=
  rList_canon_append (fun c hc => stepV arg3 harg3 arg4 harg4 arg5 harg5 arg6 harg6 x1 x2 x3 x4 c hc
      (rowsCov a (sFirst (stepV arg3 harg3 arg4 harg4 arg5 harg5 arg6 harg6 x1 x2 x3 x4) a c (Nat.le_of_lt hc)) c hc)) _ _
    fun c hc r l => stepV_apply _ _ _ _ _ _ _ _ _ _ _ _ c hc _ (fun _ => 0) r l (congrFun (sFirst_rows _ a c hc c _ le_rfl) _)

theorem sFirst_cover (f : (c : ℕ) → c < 4 → FVec Ideal S256x128 .f32 → FVec Ideal S256x128 .f32) (a : Memref sig .tc .vmem S1024x128 .f32) (y : S1024x128.Idx) :
    ∃ p ∈ sFirst f a 4 le_rfl, y ∈ p.1.set := by
  obtain ⟨p, hp, hy⟩ := rList_cover (fun c hc => f c hc (rowsCov a (sFirst f a c (Nat.le_of_lt hc)) c hc)) y
  exact ⟨p, List.mem_append_left (sFirst f a 0 (Nat.zero_le _)) hp, hy⟩

/-! ## Every later point: the running sums step -/

theorem sStep_canon (arg3 : Memref sig .tc .vmem S1x1024x512 .f32) (harg3 : arg3.IsWhole) (arg4 : Memref sig .tc .vmem S1x1024x512 .f32) (harg4 : arg4.IsWhole)
    (arg5 : Memref sig .tc .vmem S1024x128 .f32) (harg5 : arg5.IsWhole) (arg6 : Memref sig .tc .vmem S1024x128 .f32) (harg6 : arg6.IsWhole)
    (x1 x2 : Vec Ideal S1x1024x512 .f32) (x3 x4 : Vec Ideal S1024x128 .f32) (a : Memref sig .tc .vmem S1024x128 .f32) (ha : a.IsWhole)
    (s : Vec Ideal S1024x128 .f32) :
    View.canon (Val := Elt Ideal) (e := .f32)
      (rList fun c hc => stepV arg3 harg3 arg4 harg4 arg5 harg5 arg6 harg6 x1 x2 x3 x4 c hc (rowsL a ha s c hc)) = sumB x1 x2 x3 x4 s :=
  rList_canon _ _ fun c hc r l => stepV_apply _ _ _ _ _ _ _ _ _ _ _ _ c hc _ s r l (rowsL_apply a ha s c hc r l)

/-! ## The loss at the last point -/

/-- The loss of a block of rows from its running sums. -/
def lossB (w : EReal) (s : S1024x128.Idx → EReal) : S1024x128.Idx → EReal := fun i =>
  w * ((∑ l : Fin 128, s (ix2 (i 0) l)) * Cert.Loss.ln2 + Ideal.ofBits .f32 0x3F0FF532#32)

theorem pay4_apply (w : Ideal .f32) (s : FVec Ideal S256x128 .f32) (r : Fin 256) (l : Fin 128) :
    k0_pay4 w s (ix2 r l) = w * ((∑ l : Fin 128, s (ix2 r l)) * Cert.Loss.ln2 + Ideal.ofBits .f32 0x3F0FF532#32) := by
  have e : shapeCast S256x1 (multiReduction .add [1] S256 s 0x00000000#32 reduces_S256x128_S256 (.inl rfl) rfl) shapeCasts_S256_S256x1 (ix2 r (0 : Fin 1))
      = ∑ l : Fin 128, s (ix2 r l) := by
    refine (shapeCast_apply _ _ _ (ix1 r) (by
      rw [Shape.rowMajor_val_two, Shape.rowMajor_val_one]
      show r.val = r.val * 1 + 0
      omega)).trans ?_
    refine (Ideal.multiReduction_add_single s _ _ _ _ (ix1 r)).trans ?_
    exact Finset.sum_congr rfl fun k _ => congrArg s (funext fun a => Fin.ext (by match a with | ⟨0, _⟩ => rfl | ⟨1, _⟩ => rfl))
  unfold k0_pay4
  refine (broadcastTo_apply _ _ (ix2 r l) (ix2 r (0 : Fin 1)) (by intro a; match a with | ⟨0, _⟩ => rfl | ⟨1, _⟩ => rfl)).trans ?_
  simp only [shapeCast_self]
  rw [← e]
  rfl

theorem loss_canon (w : Ideal .f32) (a : Memref sig .tc .vmem S1024x128 .f32) (L : List (View.Piece (Elt Ideal) S1024x128 .f32)) (s : S1024x128.Idx → EReal)
    (hL : View.canon L = s) : View.canon (Val := Elt Ideal) (e := .f32) (lossList w (rowsCov a L)) = lossB w s :=
  lossList_canon _ _ _ fun c hc r l => by
    rw [pay4_apply]
    simp only [rowsCov_apply, hL]
    rfl

end Cert.GradIdeal.Gen

end
-- ==== Proof.GradIdealFormFirst.lean ====
/-
  The gradient call: what its body stores into the running sums of the loss at the first point of a block of rows.
-/
module

public import proofs.«01_k».proof.Proof.GradIdealForm
public import proofs.«01_k».proof.Proof.GradIdealRunFirst

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem first_acc (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.1
      = sFirst (stepV arg3 harg3 arg4 harg4 arg5 harg5 arg6 harg6 x1 x2 x3 x4) arg19 4 (by decide) := by
  rfl

end Cert.GradIdeal.Gen

end
-- ==== Proof.GradIdealFormMid.lean ====
/-
  The gradient call: what its body stores into the running sums of the loss at a point between the first and the last of a block of rows.
-/
module

public import proofs.«01_k».proof.Proof.GradIdealForm
public import proofs.«01_k».proof.Proof.GradIdealRunMid

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem mid_acc (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) (xs1 : Vec F S1024x1536 .f32) (xs2 : Vec F S1024x1536 .f32) (xs3 : Vec F S1024x128 .f32) (xs4 : Vec F S1024x128 .f32) :
    (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs1 xs2 xs3 xs4).2.2.2.2.2.2.1
      = rList (fun c hc => stepV arg3 harg3 arg4 harg4 arg5 harg5 arg6 harg6 x1 x2 x3 x4 c hc (rowsL arg19 harg19 xs4 c hc)) := by
  rfl

end Cert.GradIdeal.Gen

end
-- ==== Proof.GradIdealFormLast.lean ====
/-
  The gradient call: what its body stores into the loss at the last point of a block of rows. A counted loop goes over four blocks of
  256 rows.
-/
module

public import proofs.«01_k».proof.Proof.GradIdealForm
public import proofs.«01_k».proof.Proof.GradIdealRunLast
public import Idealize.ShloMosaic.Lib.ValueIdx

@[expose] public section

set_option maxRecDepth 16384

noncomputable section

namespace Cert.GradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one trip of the loop stores into the loss. -/
theorem trip_loss (𝒱 : Variants) (c : Dev nD) (bd : Option 𝒱.V) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (k0_h2 : k0_cond2 i = 1#1) (v994 : Elt F .i32) (X_arg9 : BufTy.Contents (Elt F) arg9.view.ty) (X_arg10 : BufTy.Contents (Elt F) arg10.view.ty) (X_arg11 : BufTy.Contents (Elt F) arg11.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v994 X_arg9 X_arg10 X_arg11 X_arg16 X_arg17 X_arg18 X_arg19 k).1
      = [⟨Rect.unit (s := S1024x128) (k0_off1 k) S256x128.size (k0_off1_inb i k k0_h2), k0_pay4 (k0_pay2 v994)
          (View.readAt (Elt F) arg19.view (Rect.unit (s := S1024x128) (k0_off1 k) S256x128.size (k0_off1_inb i k k0_h2)).toLoadRect X_arg19)⟩] := by
  unfold trip_k0_t1; rfl

/-- What the loop stores into the loss. -/
theorem loop_loss (𝒱 : Variants) (c : Dev nD) (bd : Option 𝒱.V) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (k0_h2 : k0_cond2 i = 1#1) (v994 : Elt F .i32) (X_arg9 : BufTy.Contents (Elt F) arg9.view.ty) (X_arg10 : BufTy.Contents (Elt F) arg10.view.ty) (X_arg11 : BufTy.Contents (Elt F) arg11.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) :
    (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v994 X_arg9 X_arg10 X_arg11 X_arg16 X_arg17 X_arg18 X_arg19 4).1 = lossList (k0_pay2 v994) (rowsX arg19 X_arg19) := by
  rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v994 X_arg9 X_arg10 X_arg11 X_arg16 X_arg17 X_arg18 X_arg19 (⟨3, by decide⟩ : Fin k0_t1_loop.trips)]
  rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v994 X_arg9 X_arg10 X_arg11 X_arg16 X_arg17 X_arg18 X_arg19 (⟨2, by decide⟩ : Fin k0_t1_loop.trips)]
  rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v994 X_arg9 X_arg10 X_arg11 X_arg16 X_arg17 X_arg18 X_arg19 (⟨1, by decide⟩ : Fin k0_t1_loop.trips)]
  rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v994 X_arg9 X_arg10 X_arg11 X_arg16 X_arg17 X_arg18 X_arg19 (⟨0, by decide⟩ : Fin k0_t1_loop.trips)]
  dsimp only [tripL_k0_t1]
  rw [trip_loss, trip_loss, trip_loss, trip_loss]
  rfl

/-- The loss stored at the last point: from the running sums as the point leaves them. -/
theorem last_loss (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1 .i32) (x1 : Vec F S1x1024x512 .f32) (x2 : Vec F S1x1024x512 .f32) (x3 : Vec F S1024x128 .f32) (x4 : Vec F S1024x128 .f32) (x5 : Vec F S512x1536 .fp8e4m3) (x6 : Vec F S1x1x512 .f32) (x7 : Vec F S1024x1536 .bf16) (x8 : Vec F S1024x128 .f32) (x9 : Vec F S1x1536 .f32) (xs1 : Vec F S1024x1536 .f32) (xs2 : Vec F S1024x1536 .f32) (xs3 : Vec F S1024x128 .f32) (xs4 : Vec F S1024x128 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs1 xs2 xs3 xs4).1
      = lossList (k0_pay2 (View.readAt (Elt F) arg2.view (Rect.unit (s := S1) ![0] S1.size inb_S1_S1_0).toLoadRect (harg2.unread x0) (ValueIdx.ix1 (0 : Fin 1))))
          (rowsCov arg19 (rList (fun c hc => stepV arg3 harg3 arg4 harg4 arg5 harg5 arg6 harg6 x1 x2 x3 x4 c hc (rowsL arg19 harg19 xs4 c hc)))) := by
  conv_lhs => whnf
  refine Eq.trans (loop_loss _ _ _ _ _ _ _ _ _ _ _ _ _ _ _ _ _ _ _ _ _ _ _ _ _ _ _ _ _ _ _ _ _ _ _ _ _ _ _ _ _ _ _ _ _ _ _ _ _) ?_
  refine congrArg₂ lossList (congrArg k0_pay2 ?_) ?_
  · refine congrArg (View.readAt (Elt F) arg2.view (Rect.unit (s := S1) ![0] S1.size inb_S1_S1_0).toLoadRect (harg2.unread x0)) (funext fun a => ?_)
    match a with
    | ⟨0, _⟩ => exact Subsingleton.elim (α := Fin 1) _ _
  · rfl

end Cert.GradIdeal.Gen

end
-- ==== Proof.GradIdealBody.lean ====
/-
  The body of the gradient call at the ideal instance, at each of the three kinds of point, for the loss: from blocks and running sums
  at given contents it runs to the end and leaves the running sums and the loss at the contents named here, everything else at some
  contents.
-/
module

public import proofs.«01_k».proof.Proof.GradIdealValue
public import proofs.«01_k».proof.Proof.GradIdealAny
public import proofs.«01_k».proof.Proof.GradIdealFormFirst
public import proofs.«01_k».proof.Proof.GradIdealFormMid
public import proofs.«01_k».proof.Proof.GradIdealFormLast

@[expose] public section

set_option maxRecDepth 16384

noncomputable section

namespace Cert.GradIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A buffer that was written in pieces covering it holds what the pieces say. -/
theorem hold_writes (c : Dev nD) {S : Shape} {e : EltTy} (a : Memref sig .tc .vmem S e) (L L' : List (View.Piece (Elt Ideal) S e)) (G : S.Idx → Elt Ideal e)
    (hL : L = L') (hcov : ∀ y, ∃ p ∈ L', y ∈ p.1.set) (hG : View.canon L' = G) :
    iprop(∃ f, a.view.loc (c : Thread nD τ) ↦[a.view.set]{fullShare} a.view.writes (Elt Ideal) f L)
      ⊢ (iprop(owns (c : Thread nD τ) a fullShare G) : sProp 𝕄) := by
  subst hL hG
  unfold owns
  iintro ⟨%f, H⟩
  iexists (a.view.writes (Elt Ideal) f L)
  isplitr; · ipureintro; exact View.read_writes_eq_canon a.view f L hcov
  iexact H

set_option maxHeartbeats 1000000 in
/-- The body at the first point of a block of rows: the running sums start from zero. -/
theorem body_first (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1 .i32) (x1 x2 : Vec Ideal S1x1024x512 .f32) (x3 x4 : Vec Ideal S1024x128 .f32) (xi10 : Vec Ideal S1024x128 .f32) (E : Set ℕ) (K : PUnit → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (sumB x1 x2 x3 x4 (fun _ => 0))) -∗ K ⟨⟩))
      ⊢ wp frame (wpE (defs₀ (F := Ideal)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨H0, H1, H2, H3, H4, ⟨%d5, H5⟩, ⟨%d6, H6⟩, ⟨%d7, H7⟩, ⟨%d8, H8⟩, ⟨%d9, H9⟩, H10, ⟨%d11, H11⟩, ⟨%d12, H12⟩, H13, H14, H15, H16, H17⟩, Hk⟩
  have h17 := hold_writes c arg19 _ _ _ (first_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 d5 d6 d7 d8 d9) (sFirst_cover _ _) (sFirst_canon arg3 harg3 arg4 harg4 arg5 harg5 arg6 harg6 x1 x2 x3 x4 arg19)
  iapply ((runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 d5 d6 d7 d8 d9).2.2.2.2.2.2.2.2 xi10 d11 d12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexact H10
  isplitl [H11]
  · iexists _; iexact H11
  isplitl [H12]
  · iexists _; iexact H12
  isplitl [H13]
  · iapply forget_writes; iexact H13
  isplitl [H14]
  · iapply forget_writes; iexact H14
  isplitl [H15]
  · iapply forget_writes; iexact H15
  isplitl [H16]
  · iapply forget_writes; iexact H16
  iapply h17; iexact H17

set_option maxHeartbeats 1000000 in
/-- The body at a point that is neither the first nor the last of a block of rows. -/
theorem body_mid (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1 .i32) (x1 x2 : Vec Ideal S1x1024x512 .f32) (x3 x4 : Vec Ideal S1024x128 .f32) (xs4 : Vec Ideal S1024x128 .f32) (xi10 : Vec Ideal S1024x128 .f32) (E : Set ℕ) (K : PUnit → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs4) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (sumB x1 x2 x3 x4 xs4)) -∗ K ⟨⟩))
      ⊢ wp frame (wpE (defs₀ (F := Ideal)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨H0, H1, H2, H3, H4, ⟨%d5, H5⟩, ⟨%d6, H6⟩, ⟨%d7, H7⟩, ⟨%d8, H8⟩, ⟨%d9, H9⟩, H10, ⟨%d11, H11⟩, ⟨%d12, H12⟩, H13, ⟨%d14, H14⟩, ⟨%d15, H15⟩, ⟨%d16, H16⟩, H17⟩, Hk⟩
  have h17 := hold_writes c arg19 _ _ _ (mid_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 d5 d6 d7 d8 d9 d14 d15 d16 xs4) (rList_cover _) (sStep_canon arg3 harg3 arg4 harg4 arg5 harg5 arg6 harg6 x1 x2 x3 x4 arg19 harg19 xs4)
  iapply ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 d5 d6 d7 d8 d9 d14 d15 d16 xs4).2.2.2.2.2.2.2.2 xi10 d11 d12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexact H10
  isplitl [H11]
  · iexists _; iexact H11
  isplitl [H12]
  · iexists _; iexact H12
  isplitl [H13]
  · iapply forget_writes; iexact H13
  isplitl [H14]
  · iapply forget_writes; iexact H14
  isplitl [H15]
  · iapply forget_writes; iexact H15
  isplitl [H16]
  · iapply forget_writes; iexact H16
  iapply h17; iexact H17

set_option maxHeartbeats 1000000 in
/-- The body at the last point of a block of rows: the loss is stored. -/
theorem body_last (c : Dev nD) (i : grid0.Coords) (arg2 : Memref sig .tc .smem S1 .i32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S512x1536 .fp8e4m3) (harg7 : arg7.IsWhole) (arg8 : Memref sig .tc .vmem S1x1x512 .f32) (harg8 : arg8.IsWhole) (arg9 : Memref sig .tc .vmem S1024x1536 .bf16) (harg9 : arg9.IsWhole) (arg10 : Memref sig .tc .vmem S1024x128 .f32) (harg10 : arg10.IsWhole) (arg11 : Memref sig .tc .vmem S1x1536 .f32) (harg11 : arg11.IsWhole) (arg12 : Memref sig .tc .vmem S1024x128 .f32) (harg12 : arg12.IsWhole) (arg13 : Memref sig .tc .vmem S1024x1536 .bf16) (harg13 : arg13.IsWhole) (arg14 : Memref sig .tc .vmem S1024x1536 .f32) (harg14 : arg14.IsWhole) (arg15 : Memref sig .tc .vmem S512x1536 .bf16) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1 .i32) (x1 x2 : Vec Ideal S1x1024x512 .f32) (x3 x4 : Vec Ideal S1024x128 .f32) (xs4 : Vec Ideal S1024x128 .f32) (E : Set ℕ) (K : PUnit → sProp 𝕄) :
    iprop(iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs4) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (lossB (k0_pay2 (F := Ideal) (x0 (ix1 (0 : Fin 1)))) (sumB x1 x2 x3 x4 xs4)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) E (cc0_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨⟨H0, H1, H2, H3, H4, ⟨%d5, H5⟩, ⟨%d6, H6⟩, ⟨%d7, H7⟩, ⟨%d8, H8⟩, ⟨%d9, H9⟩, H10, H11, H12, H13, ⟨%d14, H14⟩, ⟨%d15, H15⟩, ⟨%d16, H16⟩, H17⟩, Hk⟩
  have hw : View.readAt (Elt Ideal) arg2.view (Rect.unit (s := S1) ![0] S1.size inb_S1_S1_0).toLoadRect (harg2.unread x0) (ix1 (0 : Fin 1)) = x0 (ix1 (0 : Fin 1)) := by
    rw [harg2.readAt_unread]
    refine congrArg x0 (funext fun a => ?_)
    match a with
    | ⟨0, _⟩ => rfl
  have h10 := hold_writes c arg12 _ _ _ (last_loss c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 d5 d6 d7 d8 d9 d14 d15 d16 xs4) (lossList_cover _ _) (loss_canon _ _ _ _ (sStep_canon arg3 harg3 arg4 harg4 arg5 harg5 arg6 harg6 x1 x2 x3 x4 arg19 harg19 xs4))
  rw [hw] at h10
  iapply ((runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 d5 d6 d7 d8 d9 d14 d15 d16 xs4).2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iapply h10; iexact H10
  isplitl [H11]
  · iapply forget_writes; iexact H11
  isplitl [H12]
  · iapply forget_writes; iexact H12
  isplitl [H13]
  · iapply forget_writes; iexact H13
  isplitl [H14]
  · iapply forget_writes; iexact H14
  isplitl [H15]
  · iapply forget_writes; iexact H15
  isplitl [H16]
  · iapply forget_writes; iexact H16
  iapply forget_writes; iexact H17

end Cert.GradIdeal.Gen

end
-- ==== Proof.GradIdealData.lean ====
/-
  The gradient call over the extended reals, as far as the loss needs it: the entropy terms of every row and column as functions of the
  arrays the call reads, and the running sums of every row and lane after a number of tiles.
-/
module

public import proofs.«01_k».proof.Proof.GradIdealBody
public import proofs.«01_k».proof.Proof.GradIdealFrame

@[expose] public section

set_option maxRecDepth 16384

noncomputable section

namespace Cert.GradIdeal.Gen

open Idealize.ShloMosaic Idealize.ShloMosaic.TcCoe Idealize.ShloMosaic.Tactic Idealize.ShloMosaic.ValueIdx
open scoped BigOperators

/-! ## The values -/

/-- The scaled logit of row `r` and column `v`, from the array of tiles. -/
def zG (Z : Vec Ideal S297x3072x512 .f32) (r v : ℕ) : EReal :=
  Z (ix3 (⟨v / 512 % 297, Nat.mod_lt _ (by decide)⟩ : Fin 297) (⟨r % 3072, Nat.mod_lt _ (by decide)⟩ : Fin 3072) (⟨v % 512, Nat.mod_lt _ (by decide)⟩ : Fin 512))

/-- The log-sum-exp of row `r`, read in the lane of column `v`. -/
def lG (L : Vec Ideal S3072x128 .f32) (r v : ℕ) : EReal :=
  L (ix2 (⟨r % 3072, Nat.mod_lt _ (by decide)⟩ : Fin 3072) (⟨v % 128, Nat.mod_lt _ (by decide)⟩ : Fin 128))

/-- The entropy terms of row `r` and column `v`, in units of log 2. -/
def termG (Zt Zs : Vec Ideal S297x3072x512 .f32) (Lt Ls : Vec Ideal S3072x128 .f32) (r v : ℕ) : EReal :=
  Cert.Loss.termK tiny (zG Zt r v - (lG Lt r v - quarterE)) (zG Zs r v - (lG Ls r v - threeE))

/-- The running sums of the rows of block `b`, lane by lane, after the first `n` tiles. -/
def accG (f : ℕ → ℕ → EReal) (b n : ℕ) : S1024x128.Idx → EReal := fun i =>
  Cert.Loss.runAcc (fun t k => f (b * 1024 + (i 0).val) (t * 512 + k * 128 + (i 1).val)) n

theorem accG_zero (f : ℕ → ℕ → EReal) (b : ℕ) : accG f b 0 = fun _ => 0 := rfl

/-- One tile more, from blocks that agree with the arrays. -/
theorem sumB_accG (Zt Zs : Vec Ideal S297x3072x512 .f32) (Lt Ls : Vec Ideal S3072x128 .f32) (b j : ℕ)
    (x1 x2 : S1x1024x512.Idx → EReal) (x3 x4 : S1024x128.Idx → EReal)
    (h1 : ∀ (p : Fin 1024) (q : Fin 512), x1 (ix3 (0 : Fin 1) p q) = zG Zt (b * 1024 + p.val) (j * 512 + q.val))
    (h2 : ∀ (p : Fin 1024) (q : Fin 512), x2 (ix3 (0 : Fin 1) p q) = zG Zs (b * 1024 + p.val) (j * 512 + q.val))
    (h3 : ∀ (i : S1024x128.Idx) (v : ℕ), v % 128 = (i 1).val → x3 i = lG Lt (b * 1024 + (i 0).val) v)
    (h4 : ∀ (i : S1024x128.Idx) (v : ℕ), v % 128 = (i 1).val → x4 i = lG Ls (b * 1024 + (i 0).val) v) :
    sumB x1 x2 x3 x4 (accG (termG Zt Zs Lt Ls) b j) = accG (termG Zt Zs Lt Ls) b (j + 1) := by
  funext i
  have hl : (i 1).val < 128 := (i 1).isLt
  have hw : ∀ k : Fin 4, wordB x1 x2 x3 x4 i k = termG Zt Zs Lt Ls (b * 1024 + (i 0).val) (j * 512 + k.val * 128 + (i 1).val) := by
    intro k
    have e : j * 512 + k.val * 128 + (i 1).val = j * 512 + (128 * k.val + (i 1).val) := by omega
    have hq : 128 * k.val + (i 1).val < 512 := by omega
    exact congrArg₂ (Cert.Loss.termK tiny)
      (congrArg₂ (· - ·) ((h1 (i 0) ⟨128 * k.val + (i 1).val, hq⟩).trans (congrArg (zG Zt (b * 1024 + (i 0).val)) e.symm))
        (congrArg (· - quarterE) (h3 i (j * 512 + k.val * 128 + (i 1).val) (by omega))))
      (congrArg₂ (· - ·) ((h2 (i 0) ⟨128 * k.val + (i 1).val, hq⟩).trans (congrArg (zG Zs (b * 1024 + (i 0).val)) e.symm))
        (congrArg (· - threeE) (h4 i (j * 512 + k.val * 128 + (i 1).val) (by omega))))
  unfold sumB
  rw [hw 0, hw 1, hw 2, hw 3]
  rfl

/-! ## The blocks read -/

theorem index1 : ∀ t : Fin grid0.N, cc0_transform_1 (grid0.coords t) 0 = t.val % 297 ∧ cc0_transform_1 (grid0.coords t) 1 = t.val / 297 ∧ cc0_transform_1 (grid0.coords t) 2 = 0 := by decide +kernel
theorem index3 : ∀ t : Fin grid0.N, cc0_transform_3 (grid0.coords t) 0 = t.val / 297 ∧ cc0_transform_3 (grid0.coords t) 1 = 0 := by decide +kernel

variable (m : (ℓ : Loc nD τ sig) → Buf (Elt Ideal) ℓ)

theorem iblk1 (c : Dev nD) (t : Fin cfg0.N) (p : Fin 1024) (q : Fin 512) :
    iblk m c 1 t (ix3 (0 : Fin 1) p q) = zG (V m c main_arg1) (t.val / 297 * 1024 + p.val) (t.val % 297 * 512 + q.val) := by
  have ht : t.val < 891 := Nat.lt_of_lt_of_eq t.isLt N_0
  have hp := p.isLt
  have hq := q.isLt
  obtain ⟨e0, e1, e2⟩ := index1 t
  refine congrArg (V m c main_arg1) (funext fun a => Fin.ext ?_)
  match a with
  | ⟨0, _⟩ => show cc0_transform_1 (grid0.coords t) 0 * 1 + 1 * 0 = (t.val % 297 * 512 + q.val) / 512 % 297; rw [e0]; omega
  | ⟨1, _⟩ => show cc0_transform_1 (grid0.coords t) 1 * 1024 + 1 * p.val = (t.val / 297 * 1024 + p.val) % 3072; rw [e1]; omega
  | ⟨2, _⟩ => show cc0_transform_1 (grid0.coords t) 2 * 512 + 1 * q.val = (t.val % 297 * 512 + q.val) % 512; rw [e2]; omega

theorem iblk2 (c : Dev nD) (t : Fin cfg0.N) (p : Fin 1024) (q : Fin 512) :
    iblk m c 2 t (ix3 (0 : Fin 1) p q) = zG (V m c main_arg2) (t.val / 297 * 1024 + p.val) (t.val % 297 * 512 + q.val) := by
  have ht : t.val < 891 := Nat.lt_of_lt_of_eq t.isLt N_0
  have hp := p.isLt
  have hq := q.isLt
  obtain ⟨e0, e1, e2⟩ := index1 t
  refine congrArg (V m c main_arg2) (funext fun a => Fin.ext ?_)
  match a with
  | ⟨0, _⟩ => show cc0_transform_1 (grid0.coords t) 0 * 1 + 1 * 0 = (t.val % 297 * 512 + q.val) / 512 % 297; rw [e0]; omega
  | ⟨1, _⟩ => show cc0_transform_1 (grid0.coords t) 1 * 1024 + 1 * p.val = (t.val / 297 * 1024 + p.val) % 3072; rw [e1]; omega
  | ⟨2, _⟩ => show cc0_transform_1 (grid0.coords t) 2 * 512 + 1 * q.val = (t.val % 297 * 512 + q.val) % 512; rw [e2]; omega

theorem iblk3 (c : Dev nD) (t : Fin cfg0.N) (i : S1024x128.Idx) (v : ℕ) (hv : v % 128 = (i 1).val) :
    iblk m c 3 t i = lG (V m c main_v1) (t.val / 297 * 1024 + (i 0).val) v := by
  have ht : t.val < 891 := Nat.lt_of_lt_of_eq t.isLt N_0
  have hp : (i 0).val < 1024 := (i 0).isLt
  obtain ⟨e0, e1⟩ := index3 t
  refine congrArg (V m c main_v1) (funext fun a => Fin.ext ?_)
  match a with
  | ⟨0, _⟩ => show cc0_transform_3 (grid0.coords t) 0 * 1024 + 1 * (i 0).val = (t.val / 297 * 1024 + (i 0).val) % 3072; rw [e0]; omega
  | ⟨1, _⟩ => show cc0_transform_3 (grid0.coords t) 1 * 128 + 1 * (i 1).val = v % 128; rw [e1, hv]; omega

theorem iblk4 (c : Dev nD) (t : Fin cfg0.N) (i : S1024x128.Idx) (v : ℕ) (hv : v % 128 = (i 1).val) :
    iblk m c 4 t i = lG (V m c main_v3) (t.val / 297 * 1024 + (i 0).val) v := by
  have ht : t.val < 891 := Nat.lt_of_lt_of_eq t.isLt N_0
  have hp : (i 0).val < 1024 := (i 0).isLt
  obtain ⟨e0, e1⟩ := index3 t
  refine congrArg (V m c main_v3) (funext fun a => Fin.ext ?_)
  match a with
  | ⟨0, _⟩ => show cc0_transform_3 (grid0.coords t) 0 * 1024 + 1 * (i 0).val = (t.val / 297 * 1024 + (i 0).val) % 3072; rw [e0]; omega
  | ⟨1, _⟩ => show cc0_transform_3 (grid0.coords t) 1 * 128 + 1 * (i 1).val = v % 128; rw [e1, hv]; omega

theorem iblk0 (c : Dev nD) (t : Fin cfg0.N) : iblk m c 0 t (ix1 (0 : Fin 1)) = V m c main_arg0 (ix1 (0 : Fin 1)) := by
  refine congrArg (V m c main_arg0) (funext fun a => Fin.ext ?_)
  match a with
  | ⟨0, _⟩ => rfl

/-- The entropy terms of the arrays the call finds. -/
abbrev termV (c : Dev nD) : ℕ → ℕ → EReal := termG (V m c main_arg1) (V m c main_arg2) (V m c main_v1) (V m c main_v3)

/-- What a point makes of the running sums of the tiles before it. -/
theorem sum_tile (c : Dev nD) (t : Fin cfg0.N) :
    sumB (iblk m c 1 t) (iblk m c 2 t) (iblk m c 3 t) (iblk m c 4 t) (accG (termV m c) (t.val / 297) (t.val % 297))
      = accG (termV m c) (t.val / 297) (t.val % 297 + 1) :=
  sumB_accG _ _ _ _ _ _ _ _ _ _ (iblk1 m c t) (iblk2 m c t) (iblk3 m c t) (iblk4 m c t)

/-- The loss of the rows of block `b`. -/
abbrev lossV (c : Dev nD) (b : ℕ) : S1024x128.Idx → EReal :=
  lossB (k0_pay2 (F := Ideal) (V m c main_arg0 (ix1 (0 : Fin 1)))) (accG (termV m c) b 297)

end Cert.GradIdeal.Gen

end
-- ==== Proof.GradIdealSound.lean ====
/-
  The gradient call at the ideal instance, run for the loss: at every point of the grid the body takes the running sums from one state to
  the next, and at the last point of each block of rows it stores the loss of those rows. The blocks that do not enter the loss are
  handed over and taken back at any contents.
-/
module

public import proofs.«01_k».proof.Proof.GradIdealData

@[expose] public section

set_option maxRecDepth 16384

noncomputable section

namespace Cert.GradIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch buffers with the running sums at `s`, the others at any contents. -/
def scratchAt (c : Dev nD) (s : S1024x128.Idx → EReal) : sProp 𝕄 :=
  iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ owns (c : Thread nD τ) (Memref.whole cc0_scratch4) fullShare s) ∗ (∃ r, prngReg c r))

/-- The scratch buffers before point `n`: at any contents where a block of rows begins, then the running sums of the tiles done. -/
def PhiS (c : Dev nD) (n : ℕ) : sProp 𝕄 :=
  if n % 297 = 0 then Pipeline.ΦA spec0 c else scratchAt c (accG (termV m c) (n / 297) (n % 297))

/-- The windows whose blocks do not enter the loss. -/
def fgt (w : Fin 13) : Bool := match w with
  | ⟨0, _⟩ => false | ⟨1, _⟩ => false | ⟨2, _⟩ => false | ⟨3, _⟩ => false | ⟨4, _⟩ => false | ⟨10, _⟩ => false
  | ⟨_, _⟩ => true

/-- What the call's buffers hold after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed 5 t
    | ⟨6, _⟩ => Dat.unnamed 6 t
    | ⟨7, _⟩ => Dat.unnamed 7 t
    | ⟨8, _⟩ => Dat.unnamed 8 t
    | ⟨9, _⟩ => Dat.unnamed 9 t
    | ⟨10, _⟩ => lossV m c (t.val / 297)
    | ⟨11, _⟩ => Dat.unnamed 11 t
    | ⟨12, _⟩ => Dat.unnamed 12 t
  Φ t := PhiS m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => by dsimp only [dats]) t d
theorem before0_1 (c : Dev nD) (t : Fin cfg0.N) (d) : (dats m 0 c).before 1 t d = iblk m c 1 t :=
  before0_1_of m (dats m 0 c) (A_eq m c 1) (fun _ => by dsimp only [dats]) t d
theorem before0_2 (c : Dev nD) (t : Fin cfg0.N) (d) : (dats m 0 c).before 2 t d = iblk m c 2 t :=
  before0_2_of m (dats m 0 c) (A_eq m c 2) (fun _ => by dsimp only [dats]) t d
theorem before0_3 (c : Dev nD) (t : Fin cfg0.N) (d) : (dats m 0 c).before 3 t d = iblk m c 3 t :=
  before0_3_of m (dats m 0 c) (A_eq m c 3) (fun _ => by dsimp only [dats]) t d
theorem before0_4 (c : Dev nD) (t : Fin cfg0.N) (d) : (dats m 0 c).before 4 t d = iblk m c 4 t :=
  before0_4_of m (dats m 0 c) (A_eq m c 4) (fun _ => by dsimp only [dats]) t d

theorem leaves0_0 (c : Dev nD) (t : Fin cfg0.N) :
    (dats m 0 c).leaves 0 t = owns (c : Thread nD τ) ((cfg0.win 0).stage (cfg0.slots t 0)) fullShare (iblk m c 0 t) := rfl
theorem leaves0_1 (c : Dev nD) (t : Fin cfg0.N) :
    (dats m 0 c).leaves 1 t = owns (c : Thread nD τ) ((cfg0.win 1).stage (cfg0.slots t 1)) fullShare (iblk m c 1 t) := rfl
theorem leaves0_2 (c : Dev nD) (t : Fin cfg0.N) :
    (dats m 0 c).leaves 2 t = owns (c : Thread nD τ) ((cfg0.win 2).stage (cfg0.slots t 2)) fullShare (iblk m c 2 t) := rfl
theorem leaves0_3 (c : Dev nD) (t : Fin cfg0.N) :
    (dats m 0 c).leaves 3 t = owns (c : Thread nD τ) ((cfg0.win 3).stage (cfg0.slots t 3)) fullShare (iblk m c 3 t) := rfl
theorem leaves0_4 (c : Dev nD) (t : Fin cfg0.N) :
    (dats m 0 c).leaves 4 t = owns (c : Thread nD τ) ((cfg0.win 4).stage (cfg0.slots t 4)) fullShare (iblk m c 4 t) := rfl
theorem leaves0_10_idle (c : Dev nD) (t : Fin cfg0.N) (h : ¬ t.val % 297 = 296) :
    (dats m 0 c).leaves 10 t = iprop(∃ d, owns (c : Thread nD τ) ((cfg0.win 10).stage (cfg0.slots t 10)) fullShare ((dats m 0 c).before 10 t d)) :=
  Dat.leaves_idle (dats m 0 c) 10 t
    (by show (!(k0_cond2 (grid0.coords t) == 1#1)) = true
        rw [Bool.not_eq_true', beq_eq_false_iff_ne]
        exact fun e => h ((hcond0_1 t).mp e))
    (Bool.eq_false_iff.mpr fun e => h ((flush0_10 t).mp e))
theorem leaves0_10_last (c : Dev nD) (t : Fin cfg0.N) (h : t.val % 297 = 296) :
    (dats m 0 c).leaves 10 t = owns (c : Thread nD τ) ((cfg0.win 10).stage (cfg0.slots t 10)) fullShare (lossV m c (t.val / 297)) := by
  have hi : cfg0.idle 10 (cfg0.grid.coords t) = false := by
    show (!(k0_cond2 (grid0.coords t) == 1#1)) = false
    rw [Bool.not_eq_false', beq_iff_eq]
    exact (hcond0_1 t).mpr h
  unfold Dat.leaves
  rw [hi]; rfl

/-! ## The body's obligation -/

/-- The staging buffers as a point finds them. -/
def bufsBefore (c : Dev nD) (t : Fin cfg0.N) : sProp 𝕄 :=
  iprop((∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ X, owns (c : Thread nD τ) ((cfg0.win 5).stage (cfg0.slots t 5)) fullShare X) ∗ (∃ X, owns (c : Thread nD τ) ((cfg0.win 6).stage (cfg0.slots t 6)) fullShare X) ∗ (∃ X, owns (c : Thread nD τ) ((cfg0.win 7).stage (cfg0.slots t 7)) fullShare X) ∗ (∃ X, owns (c : Thread nD τ) ((cfg0.win 8).stage (cfg0.slots t 8)) fullShare X) ∗ (∃ X, owns (c : Thread nD τ) ((cfg0.win 9).stage (cfg0.slots t 9)) fullShare X) ∗ (∃ d, owns (c : Thread nD τ) ((cfg0.win 10).stage (cfg0.slots t 10)) fullShare ((dats m 0 c).before 10 t d)) ∗ (∃ X, owns (c : Thread nD τ) ((cfg0.win 11).stage (cfg0.slots t 11)) fullShare X) ∗ (∃ X, owns (c : Thread nD τ) ((cfg0.win 12).stage (cfg0.slots t 12)) fullShare X))
/-- The staging buffers as a point leaves them. -/
def bufsAfter (c : Dev nD) (t : Fin cfg0.N) : sProp 𝕄 :=
  iprop((dats m 0 c).leaves 0 t ∗ (dats m 0 c).leaves 1 t ∗ (dats m 0 c).leaves 2 t ∗ (dats m 0 c).leaves 3 t ∗ (dats m 0 c).leaves 4 t ∗ (∃ X, owns (c : Thread nD τ) ((cfg0.win 5).stage (cfg0.slots t 5)) fullShare X) ∗ (∃ X, owns (c : Thread nD τ) ((cfg0.win 6).stage (cfg0.slots t 6)) fullShare X) ∗ (∃ X, owns (c : Thread nD τ) ((cfg0.win 7).stage (cfg0.slots t 7)) fullShare X) ∗ (∃ X, owns (c : Thread nD τ) ((cfg0.win 8).stage (cfg0.slots t 8)) fullShare X) ∗ (∃ X, owns (c : Thread nD τ) ((cfg0.win 9).stage (cfg0.slots t 9)) fullShare X) ∗ (dats m 0 c).leaves 10 t ∗ (∃ X, owns (c : Thread nD τ) ((cfg0.win 11).stage (cfg0.slots t 11)) fullShare X) ∗ (∃ X, owns (c : Thread nD τ) ((cfg0.win 12).stage (cfg0.slots t 12)) fullShare X))

set_option maxHeartbeats 1000000 in
/-- The obligation at the first point of a block of rows. -/
theorem obligation_first (c : Dev nD) (t : Fin cfg0.N) (h0 : t.val % 297 = 0) :
    iprop((dats m 0 c).Φ t.castSucc ∗ (dats m 0 c).owesAt () t.castSucc ∗ bufsBefore m c t)
      ⊢ wp frame (wpE (defs₀ (F := Ideal)) Variants.none c none) Set.univ (bodyAt0 (F := Ideal) t) fun _ =>
          iprop((dats m 0 c).Φ t.succ ∗ (dats m 0 c).owesAt () t.succ ∗ bufsAfter m c t) := by
  have hs := sum_tile m c t
  rw [h0, accG_zero] at hs
  rw [show (dats m 0 c).Φ t.castSucc = Pipeline.ΦA spec0 c from if_pos h0, anyScratch_eq]
  have e1 : (t.val + 1) / 297 = t.val / 297 := by omega
  have e2 : (t.val + 1) % 297 = t.val % 297 + 1 := by omega
  rw [show (dats m 0 c).Φ t.succ = scratchAt c (accG (termV m c) ((t.val + 1) / 297) ((t.val + 1) % 297)) from if_neg (show ¬ (t.val + 1) % 297 = 0 by omega), e1, e2]
  rw [h0]
  unfold bufsBefore bufsAfter
  rw [leaves0_0, leaves0_1, leaves0_2, leaves0_3, leaves0_4, leaves0_10_idle m c t (by omega)]
  unfold scratchAt bodyAt0
  dsimp only
  iintro ⟨⟨⟨H13, H14, H15, H16, H17⟩, Hg⟩, Ho, ⟨%d0, H0⟩, ⟨%d1, H1⟩, ⟨%d2, H2⟩, ⟨%d3, H3⟩, ⟨%d4, H4⟩, H5, H6, H7, H8, H9, ⟨%d10, H10⟩, H11, H12⟩
  rw [before0_0 m c t d0, before0_1 m c t d1, before0_2 m c t d2, before0_3 m c t d3, before0_4 m c t d4]
  iapply (body_first c (grid0.coords t) _ _ _ _ _ _ _ _ _ _ _ _ _ _ _ _ _ _ _ _ _ _ _ _ _ _ _ _ _ _ _ _ _ _ _ _ ((hcond0_0 t).mpr h0) (fun e => by have := (hcond0_1 t).mp e; omega) (iblk m c 0 t) (iblk m c 1 t) (iblk m c 2 t) (iblk m c 3 t) (iblk m c 4 t) _ Set.univ _)
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro ⟨H0, H1, H2, H3, H4, H5, H6, H7, H8, H9, H10, H11, H12, H13, H14, H15, H16, H17⟩
  rw [hs]
  isplitl [H13 H14 H15 H16 H17 Hg]
  · isplitl [H13 H14 H15 H16 H17]
    · isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iexact H12

set_option maxHeartbeats 1000000 in
/-- The obligation at the points between the first and the last of a block of rows. -/
theorem obligation_mid (c : Dev nD) (t : Fin cfg0.N) (h0 : ¬ t.val % 297 = 0) (h1 : ¬ t.val % 297 = 296) :
    iprop((dats m 0 c).Φ t.castSucc ∗ (dats m 0 c).owesAt () t.castSucc ∗ bufsBefore m c t)
      ⊢ wp frame (wpE (defs₀ (F := Ideal)) Variants.none c none) Set.univ (bodyAt0 (F := Ideal) t) fun _ =>
          iprop((dats m 0 c).Φ t.succ ∗ (dats m 0 c).owesAt () t.succ ∗ bufsAfter m c t) := by
  have hs := sum_tile m c t
  rw [show (dats m 0 c).Φ t.castSucc = scratchAt c (accG (termV m c) (t.val / 297) (t.val % 297)) from if_neg h0]
  have e1 : (t.val + 1) / 297 = t.val / 297 := by omega
  have e2 : (t.val + 1) % 297 = t.val % 297 + 1 := by omega
  rw [show (dats m 0 c).Φ t.succ = scratchAt c (accG (termV m c) ((t.val + 1) / 297) ((t.val + 1) % 297)) from if_neg (show ¬ (t.val + 1) % 297 = 0 by omega), e1, e2]
  unfold bufsBefore bufsAfter
  rw [leaves0_0, leaves0_1, leaves0_2, leaves0_3, leaves0_4, leaves0_10_idle m c t (by omega)]
  unfold scratchAt bodyAt0
  dsimp only
  iintro ⟨⟨⟨H13, H14, H15, H16, H17⟩, Hg⟩, Ho, ⟨%d0, H0⟩, ⟨%d1, H1⟩, ⟨%d2, H2⟩, ⟨%d3, H3⟩, ⟨%d4, H4⟩, H5, H6, H7, H8, H9, ⟨%d10, H10⟩, H11, H12⟩
  rw [before0_0 m c t d0, before0_1 m c t d1, before0_2 m c t d2, before0_3 m c t d3, before0_4 m c t d4]
  iapply (body_mid c (grid0.coords t) _ _ _ _ _ _ _ _ _ _ _ _ _ _ _ _ _ _ _ _ _ _ _ _ _ _ _ _ _ _ _ _ _ _ _ _ (fun e => by have := (hcond0_0 t).mp e; omega) (fun e => by have := (hcond0_1 t).mp e; omega) (iblk m c 0 t) (iblk m c 1 t) (iblk m c 2 t) (iblk m c 3 t) (iblk m c 4 t) (accG (termV m c) (t.val / 297) (t.val % 297)) _ Set.univ _)
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro ⟨H0, H1, H2, H3, H4, H5, H6, H7, H8, H9, H10, H11, H12, H13, H14, H15, H16, H17⟩
  rw [hs]
  isplitl [H13 H14 H15 H16 H17 Hg]
  · isplitl [H13 H14 H15 H16 H17]
    · isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iexact H12

set_option maxHeartbeats 1000000 in
/-- The obligation at the last point of a block of rows. -/
theorem obligation_last (c : Dev nD) (t : Fin cfg0.N) (h1 : t.val % 297 = 296) :
    iprop((dats m 0 c).Φ t.castSucc ∗ (dats m 0 c).owesAt () t.castSucc ∗ bufsBefore m c t)
      ⊢ wp frame (wpE (defs₀ (F := Ideal)) Variants.none c none) Set.univ (bodyAt0 (F := Ideal) t) fun _ =>
          iprop((dats m 0 c).Φ t.succ ∗ (dats m 0 c).owesAt () t.succ ∗ bufsAfter m c t) := by
  have hs := sum_tile m c t
  rw [show (dats m 0 c).Φ t.castSucc = scratchAt c (accG (termV m c) (t.val / 297) (t.val % 297)) from if_neg (show ¬ t.val % 297 = 0 by omega)]
  rw [h1] at hs
  rw [show (dats m 0 c).Φ t.succ = Pipeline.ΦA spec0 c from if_pos (show (t.val + 1) % 297 = 0 by omega), anyScratch_eq]
  unfold bufsBefore bufsAfter
  rw [leaves0_0, leaves0_1, leaves0_2, leaves0_3, leaves0_4, leaves0_10_last m c t h1]
  unfold scratchAt bodyAt0
  dsimp only
  iintro ⟨⟨⟨H13, H14, H15, H16, H17⟩, Hg⟩, Ho, ⟨%d0, H0⟩, ⟨%d1, H1⟩, ⟨%d2, H2⟩, ⟨%d3, H3⟩, ⟨%d4, H4⟩, H5, H6, H7, H8, H9, ⟨%d10, H10⟩, H11, H12⟩
  rw [before0_0 m c t d0, before0_1 m c t d1, before0_2 m c t d2, before0_3 m c t d3, before0_4 m c t d4]
  iapply (body_last c (grid0.coords t) _ _ _ _ _ _ _ _ _ _ _ _ _ _ _ _ _ _ _ _ _ _ _ _ _ _ _ _ _ _ _ _ _ _ _ _ (fun e => by have := (hcond0_0 t).mp e; omega) ((hcond0_1 t).mpr h1) (iblk m c 0 t) (iblk m c 1 t) (iblk m c 2 t) (iblk m c 3 t) (iblk m c 4 t) (accG (termV m c) (t.val / 297) (t.val % 297)) Set.univ _)
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    iexact H17
  iintro ⟨H0, H1, H2, H3, H4, H5, H6, H7, H8, H9, H10, H11, H12, H13, H14, H15, H16, H17⟩
  rw [h1, hs, iblk0]
  isplitl [H13 H14 H15 H16 H17 Hg]
  · isplitl [H13 H14 H15 H16 H17]
    · isplitl [H13]; · iexact H13
      isplitl [H14]; · iexact H14
      isplitl [H15]; · iexact H15
      isplitl [H16]; · iexact H16
      iexact H17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem obligation (c : Dev nD) :
    BodyObligationLoose (dats m 0 c) (defs₀ (F := Ideal)) Variants.none () Set.univ fgt := fun t => by
  rw [bigSep_W0, bigSep_W0, bodyRow]
  by_cases h0 : t.val % 297 = 0
  · exact obligation_first m c t h0
  · by_cases h1 : t.val % 297 = 296
    · exact obligation_last m c t h1
    · exact obligation_mid m c t h0 h1

theorem PhiS_zero (c : Dev nD) (n : ℕ) (h : n % 297 = 0) : PhiS m c n = Pipeline.ΦA spec0 c := by
  unfold PhiS; exact if_pos h

theorem hin (c : Dev nD) : Pipeline.ΦA spec0 c ⊢ (dats m 0 c).Φ 0 := by
  rw [show (dats m 0 c).Φ 0 = Pipeline.ΦA spec0 c from PhiS_zero m c 0 (Nat.zero_mod _)]
theorem hout (c : Dev nD) : (dats m 0 c).Φ (Fin.last cfg0.N) ⊢ Pipeline.ΦA spec0 c := by
  rw [show (dats m 0 c).Φ (Fin.last cfg0.N) = Pipeline.ΦA spec0 c from PhiS_zero m c cfg0.N (by rw [show cfg0.N = 891 from N_0])]

set_option backward.isDefEq.respectTransparency.types false in
/-- The launch: every array of the call that is not forgotten ends at what the proof data say of it. -/
theorem run_main : θ_run defs (onTc (τ := τ) (main (F := Ideal))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := fun c => obligation m c) (hshare := fun c => (dats m 0 c).share_full fun _ => rfl)
    (howed := fun _ _ => rfl) (V := V m) (hmain := hmain m Variants.none) (hA := A_eq m) (hin := hin m) (hout := hout m)

end Cert.GradIdeal.Gen

end
-- ==== Proof.GradIdealFinal.lean ====
/-
  What the gradient call leaves in its array of losses: the loss of every row, in every lane, and the arguments as they were launched.
-/
module

public import proofs.«01_k».proof.Proof.GradIdealSound
public import Idealize.ShloMosaic.Lib.Pipeline.Value
public import Idealize.ShloMosaic.Lib.KernelVsHost
public import Idealize.ShloMosaic.Lib.IdealHost

@[expose] public section

set_option maxRecDepth 16384

noncomputable section

namespace Cert.GradIdeal.Gen

open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The loss of every row, in every lane. -/
def lossAll (c : Dev nD) : S3072x128.Idx → EReal := fun i =>
  lossV m c ((i 0).val / 1024) (ix2 (⟨(i 0).val % 1024, Nat.mod_lt _ (by decide)⟩ : Fin 1024) (⟨(i 1).val, (i 1).isLt⟩ : Fin 128))

theorem index_10 : ∀ t : Fin cfg0.N, win0_10.index t (0 : Fin 2) = t.val / 297 ∧ win0_10.index t (1 : Fin 2) = 0 :=
  (by decide +kernel : ∀ t : Fin grid0.N, _)

theorem lossAll_block (c : Dev nD) (b : ℕ) (y : S1024x128.Idx) (i : S3072x128.Idx) (h0 : (i 0).val = b * 1024 + (y 0).val) (h1 : (i 1).val = (y 1).val) :
    lossV m c b y = lossAll m c i := by
  have hy : (y 0).val < 1024 := (y 0).isLt
  have hb : (i 0).val / 1024 = b := by omega
  unfold lossAll
  rw [hb]
  refine congrArg (lossV m c b) (funext fun a => Fin.ext ?_)
  match a with
  | ⟨0, _⟩ => show (y 0).val = (i 0).val % 1024; omega
  | ⟨1, _⟩ => exact h1.symm

theorem flushed10 (c : Dev nD) (t : Fin cfg0.N) :
    (dats m 0 c).flushed 10 t = ((cfg0.win 10).blk t).view.read (Elt Ideal) (lossAll m c) := by
  show (cfg0.win 10).cut (grid0.coords t) ((dats m 0 c).after 10 t) = _
  rw [show (dats m 0 c).after 10 t = lossV m c (t.val / 297) from by dsimp only [dats]]
  obtain ⟨e0, e1⟩ := index_10 t
  funext y
  have hb0 : (((cfg0.win 10).blk t).view.emb y 0).val = win0_10.index t (0 : Fin 2) * 1024 + 1 * (y 0).val := rfl
  have hb1 : (((cfg0.win 10).blk t).view.emb y 1).val = win0_10.index t (1 : Fin 2) * 128 + 1 * (y 1).val := rfl
  show lossV m c (t.val / 297) ((cfg0.win 10).xinj (grid0.coords t) y) = lossAll m c (((cfg0.win 10).blk t).view.emb y)
  refine lossAll_block m c (t.val / 297) _ _ ?_ ?_
  · rw [hb0, e0]; show _ = t.val / 297 * 1024 + (y 0).val; omega
  · rw [hb1, e1]; show _ = (y 1).val; omega

theorem mem_blk10 (t : Fin cfg0.N) (i : S3072x128.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v7_0).slice (win0_10.rect t)).set ↔ _
  rw [View.set_slice_whole, Rect.mem_set_unit]
  exact Iff.rfl

theorem final10 (c : Dev nD) : (dats m 0 c).arrAt 10 cfg0.N = lossAll m c :=
  (dats m 0 c).arrAt_eq_of_cover 10 _ (fun t _ => flushed10 m c t) (fun i => by
    have hi0 : (i 0).val < 3072 := (i 0).isLt
    have hi1 : (i 1).val < 128 := (i 1).isLt
    have hN : (i 0).val / 1024 * 297 + 296 < 891 := by omega
    refine ⟨⟨(i 0).val / 1024 * 297 + 296, lt_of_lt_of_eq hN N_0.symm⟩, (flush0_10 _).mpr (by dsimp only; omega), ?_⟩
    rw [mem_blk10]
    obtain ⟨e0, e1⟩ := index_10 ⟨(i 0).val / 1024 * 297 + 296, lt_of_lt_of_eq hN N_0.symm⟩
    intro a
    match a with
    | ⟨0, _⟩ => show win0_10.index _ (0 : Fin 2) * 1024 ≤ (i 0).val ∧ (i 0).val < win0_10.index _ (0 : Fin 2) * 1024 + 1024; rw [e0]; dsimp only; omega
    | ⟨1, _⟩ => show win0_10.index _ (1 : Fin 2) * 128 ≤ (i 1).val ∧ (i 1).val < win0_10.index _ (1 : Fin 2) * 128 + 128; rw [e1]; omega)

/-- The run: the array of losses, and the arguments as launched. -/
theorem run_results : θ_run defs (onTc (τ := τ) (main (F := Ideal))) (s₀ m ρ) (fun r => ∀ c : Dev nD,
    r.2.mem ((c.tc : Thread nD τ).loc main_v7_0) = lossAll m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) :=
  (θ_run defs _ _).mono (fun r h c => ⟨((Dat.toRForget_arrAt_iff (dat := dats m 0 c) (fgt := fgt) (w := (10 : Fin 13)) rfl cfg0.N _).mp ((h.1 c).1 (10 : Fin 13))).trans (final10 m c),
      (Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 5 rfl).trans (V_main_arg5 m c),
      ((h.1 c).2 main_arg6 (Pipeline.mem_restRefs_of main_arg6 (by decide) (by decide))).trans (V_main_arg6 m c),
      (Pipeline.RDat.FramePost.arr_in h.1 c 7 rfl).trans (V_main_arg7 m c),
      (Pipeline.RDat.FramePost.arr_in h.1 c 8 rfl).trans (V_main_arg8 m c),
      ((h.1 c).2 main_arg9 (Pipeline.mem_restRefs_of main_arg9 (by decide) (by decide))).trans (V_main_arg9 m c)⟩) (run_main m ρ)

/-! ## What the host prepares -/

theorem V_main_v1 (c : Dev nD) : V m c main_v1
    = broadcastInDim S3072x128 ![0, 1] bcast_S3072x1_S3072x128_0_1 (broadcastInDim S3072x1 ![0] bcast_S3072_S3072x1_0 (m ((c : Thread nD τ).loc main_arg3))) := by
  show StableHlo.after (List.flatten [hostOps0, hostOps0_1, hostOps0_2]) _ (Proc.devRef .tc main_v1) = _
  simp only [List.flatten_cons, List.flatten_nil, List.append_nil, hostOps0, hostOps0_1, hostOps0_2, List.cons_append, List.nil_append]
  after_results

theorem V_main_v3 (c : Dev nD) : V m c main_v3
    = broadcastInDim S3072x128 ![0, 1] bcast_S3072x1_S3072x128_0_1 (broadcastInDim S3072x1 ![0] bcast_S3072_S3072x1_0 (m ((c : Thread nD τ).loc main_arg4))) := by
  show StableHlo.after (List.flatten [hostOps0, hostOps0_1, hostOps0_2]) _ (Proc.devRef .tc main_v3) = _
  simp only [List.flatten_cons, List.flatten_nil, List.append_nil, hostOps0, hostOps0_1, hostOps0_2, List.cons_append, List.nil_append]
  after_results

/-- A value of every row that the host repeats in every lane. -/
theorem repeated_apply (y : FVec Ideal S3072 .f32) (r : Fin 3072) (l : Fin 128) :
    broadcastInDim S3072x128 ![0, 1] bcast_S3072x1_S3072x128_0_1 (broadcastInDim S3072x1 ![0] bcast_S3072_S3072x1_0 y) (ix2 r l) = y (ix1 r) := by
  rw [broadcastInDim_apply _ bcast_S3072x1_S3072x128_0_1 _ (ix2 r l) (ix2 r (0 : Fin 1)) (fun a => match a with
    | ⟨0, _⟩ => by show r.val = if (3072 : Nat) = 1 then 0 else r.val; rw [if_neg (by decide)]
    | ⟨1, _⟩ => by show 0 = if (1 : Nat) = 1 then 0 else l.val; rw [if_pos rfl])]
  exact broadcastInDim_apply _ bcast_S3072_S3072x1_0 y _ (ix1 r) (fun a => match a with
    | ⟨0, _⟩ => by show r.val = if (3072 : Nat) = 1 then 0 else r.val; rw [if_neg (by decide)])

end Cert.GradIdeal.Gen

end
-- ==== Proof.LossRef.lean ====
/-
  The reference's loss, entry by entry: the share of a token times the sum of the entropy terms over the columns, with the entropy
  of the two weights' shares added.
-/
module

public import proofs.«01_k».proof.Proof.Gen.ReferenceLossIdeal.Run
public import proofs.«01_k».proof.Proof.LossMath
public import Idealize.ShloMosaic.Lib.Pipeline.Value
public import Idealize.ShloMosaic.Lib.ValueIdx
public import Idealize.ShloMosaic.Lib.KernelVsHost
public import Idealize.ShloMosaic.Lib.IdealHost
public import Idealize.ShloMosaic.PureOps.Ideal.Laws

@[expose] public section

set_option maxRecDepth 16384

noncomputable section

namespace Cert.ReferenceLossIdeal.Agree

open Cert.ReferenceLossIdeal Cert.ReferenceLossIdeal.Gen Idealize.ShloMosaic Idealize.ShloMosaic.TcCoe Idealize.ShloMosaic.ValueIdx
open Cert.Loss (ln2 termR)
open scoped BigOperators

theorem two_eq : Ideal.ofBits .f32 0x40000000#32 = ((2 : ℝ) : EReal) := by
  simp [Ideal.ofBits, Ideal.ieee, -EReal.coe_mul]; try norm_num

theorem hostLn2_apply (i : S_.Idx) : Host.log (constant (F := Ideal) S_ .f32 0x40000000#32) i = ln2 := by
  show Ideal.log (Ideal.ofBits .f32 0x40000000#32) = _
  rw [two_eq]
  show (if (2 : ℝ) ≤ 0 then (⊥ : EReal) else ((Real.log 2 : ℝ) : EReal)) = _
  rw [if_neg (by norm_num)]

/-- A distribution's weights: its share `w` times the exponentials of the logits less the log-sum-exps. -/
abbrev probR (w : BitVec 32) (z : FVec Ideal S297x3072x512 .f32) (l : FVec Ideal S3072 .f32) : FVec Ideal S3072x152064 .f32 :=
  mulf (broadcastInDim S3072x152064 ![] bcast_S_S3072x152064 (constant S_ .f32 w)) (Host.exp (mulf (subf (shapeCast _ (transpose S3072x297x512 [1, 0, 2] z transposes_S297x3072x512_S3072x297x512_1_0_2) shapeCasts_S3072x297x512_S3072x152064) (broadcastInDim S3072x152064 ![0, 1] bcast_S3072x1_S3072x152064_0_1 (broadcastInDim S3072x1 ![0] bcast_S3072_S3072x1_0 l))) (broadcastInDim S3072x152064 ![] bcast_S_S3072x152064 (Host.log (constant S_ .f32 0x40000000#32)))))

/-- One weight. -/
def probAt (w : BitVec 32) (z : FVec Ideal S297x3072x512 .f32) (l : FVec Ideal S3072 .f32) (r : Fin 3072) (v : Fin 152064) : EReal :=
  Ideal.ofBits .f32 w * Ideal.exp ((z (ix3 (⟨v.val / 512, by omega⟩ : Fin 297) r (⟨v.val % 512, by omega⟩ : Fin 512)) - l (ix1 r)) * ln2)

theorem column_apply (y : FVec Ideal S3072 .f32) (r : Fin 3072) :
    broadcastInDim S3072x1 ![0] bcast_S3072_S3072x1_0 y (ix2 r (0 : Fin 1)) = y (ix1 r) :=
  broadcastInDim_apply _ bcast_S3072_S3072x1_0 y _ (ix1 r) (fun a => match a with
    | ⟨0, _⟩ => by show r.val = if (3072 : Nat) = 1 then 0 else r.val; rw [if_neg (by decide)])

theorem wide_apply (y : FVec Ideal S3072x1 .f32) (r : Fin 3072) (v : Fin 152064) :
    broadcastInDim S3072x152064 ![0, 1] bcast_S3072x1_S3072x152064_0_1 y (ix2 r v) = y (ix2 r (0 : Fin 1)) :=
  broadcastInDim_apply _ bcast_S3072x1_S3072x152064_0_1 _ (ix2 r v) (ix2 r (0 : Fin 1)) (fun a => match a with
    | ⟨0, _⟩ => by show r.val = if (3072 : Nat) = 1 then 0 else r.val; rw [if_neg (by decide)]
    | ⟨1, _⟩ => by show 0 = if (1 : Nat) = 1 then 0 else v.val; rw [if_pos rfl])

theorem flat_apply (z : FVec Ideal S297x3072x512 .f32) (r : Fin 3072) (v : Fin 152064) :
    shapeCast S3072x152064 (transpose S3072x297x512 [1, 0, 2] z transposes_S297x3072x512_S3072x297x512_1_0_2) shapeCasts_S3072x297x512_S3072x152064 (ix2 r v)
      = z (ix3 (⟨v.val / 512, by omega⟩ : Fin 297) r (⟨v.val % 512, by omega⟩ : Fin 512)) := by
  rw [shapeCast_apply _ shapeCasts_S3072x297x512_S3072x152064 (ix2 r v) (ix3 r (⟨v.val / 512, by omega⟩ : Fin 297) (⟨v.val % 512, by omega⟩ : Fin 512)) (by
      rw [Shape.rowMajor_val_three, Shape.rowMajor_val_two]
      show (r.val * 297 + v.val / 512) * 512 + v.val % 512 = r.val * 152064 + v.val
      omega)]
  exact transpose_apply [1, 0, 2] _ _ _ _ (fun b => match b with | ⟨0, _⟩ => rfl | ⟨1, _⟩ => rfl | ⟨2, _⟩ => rfl)

theorem expForm_apply (a d k e : FVec Ideal S3072x152064 .f32) (i : S3072x152064.Idx) :
    mulf a (Host.exp (mulf (subf d k) e)) i = a i * Ideal.exp ((d i - k i) * e i) := rfl

theorem probR_apply (w : BitVec 32) (z : FVec Ideal S297x3072x512 .f32) (l : FVec Ideal S3072 .f32) (r : Fin 3072) (v : Fin 152064) :
    probR w z l (ix2 r v) = probAt w z l r v := by
  rw [probR, expForm_apply, flat_apply, wide_apply, column_apply, broadcastInDim_scalar_apply, broadcastInDim_scalar_apply, hostLn2_apply]
  rfl

/-- The entropy terms of all columns. -/
abbrev termsR (p q : FVec Ideal S3072x152064 .f32) : FVec Ideal S3072x152064 .f32 :=
  addf (mulf p (Host.log (Host.divf p (maximumf (addf p q) (broadcastInDim S3072x152064 ![] bcast_S_S3072x152064 (constant S_ .f32 0x00800000#32))))))
    (mulf q (Host.log (Host.divf q (maximumf (addf p q) (broadcastInDim S3072x152064 ![] bcast_S_S3072x152064 (constant S_ .f32 0x00800000#32))))))

theorem termsForm_apply (p q m : FVec Ideal S3072x152064 .f32) (i : S3072x152064.Idx) :
    addf (mulf p (Host.log (Host.divf p (maximumf (addf p q) m)))) (mulf q (Host.log (Host.divf q (maximumf (addf p q) m)))) i
      = termR (m i) (p i) (q i) := rfl

theorem termsR_apply (p q : FVec Ideal S3072x152064 .f32) (i : S3072x152064.Idx) :
    termsR p q i = termR (Ideal.ofBits .f32 0x00800000#32) (p i) (q i) := by
  rw [termsR, termsForm_apply, broadcastInDim_scalar_apply]
  rfl

theorem rowSum_apply (y : FVec Ideal S3072x152064 .f32) (r : Fin 3072) :
    Host.reduceAdd y (constant S_ .f32 0x00000000#32) reducesTo_S3072x152064_S3072_d1 h_S_ (ix1 r) = ∑ v : Fin 152064, y (ix2 r v) := by
  refine Eq.trans (b := (0 : EReal) + ∑ v : Fin 152064, y (ix2 r v)) ?_ (zero_add _)
  simp only [Host.reduceAdd, Ideal.hostReduceAdd_def]
  rw [Ideal.hostReduceAdd_single reducesTo_S3072x152064_S3072_d1 (by decide)]
  refine congrArg₂ (· + ·) Ideal.ofBits_zero_f32 (Finset.sum_congr rfl fun k _ => ?_)
  exact congrArg y (funext fun a => Fin.ext (by match a with | ⟨0, _⟩ => rfl | ⟨1, _⟩ => rfl))

theorem lanes_apply (y : FVec Ideal S3072x1 .f32) (r : Fin 3072) (l : Fin 128) :
    broadcastInDim S3072x128 ![0, 1] bcast_S3072x1_S3072x128_0_1 y (ix2 r l) = y (ix2 r (0 : Fin 1)) :=
  broadcastInDim_apply _ bcast_S3072x1_S3072x128_0_1 _ (ix2 r l) (ix2 r (0 : Fin 1)) (fun a => match a with
    | ⟨0, _⟩ => by show r.val = if (3072 : Nat) = 1 then 0 else r.val; rw [if_neg (by decide)]
    | ⟨1, _⟩ => by show 0 = if (1 : Nat) = 1 then 0 else l.val; rw [if_pos rfl])

/-- The share of one token. -/
def shareOf (n : BitVec 32) : EReal := Ideal.div (Ideal.ofBits .f32 0x3F800000#32) (FloatOps.sitofp (F := Ideal) .f32 n)

theorem share_apply (n : IVec S1 32) :
    Host.divf (constant (F := Ideal) S_ .f32 0x3F800000#32) (shapeCast S_ (sitofp (F := Ideal) .f32 n) shapeCasts_S1_S_) ix0 = shareOf (n (ix1 (0 : Fin 1))) := by
  rw [hostDivf_apply, shapeCast_apply _ shapeCasts_S1_S_ ix0 (ix1 (0 : Fin 1)) (by rfl)]
  rfl

/-- The loss of every row, in every lane, from the arrays of weights. -/
abbrev lossR (n : IVec S1 32) (p q : FVec Ideal S3072x152064 .f32) : FVec Ideal S3072x128 .f32 :=
  broadcastInDim S3072x128 ![0, 1] bcast_S3072x1_S3072x128_0_1 (broadcastInDim S3072x1 ![0] bcast_S3072_S3072x1_0 (mulf (broadcastInDim S3072 ![] bcast_S_S3072 (Host.divf (constant S_ .f32 0x3F800000#32) (shapeCast _ (sitofp .f32 n) shapeCasts_S1_S_))) (addf (Host.reduceAdd (termsR p q) (constant S_ .f32 0x00000000#32) reducesTo_S3072x152064_S3072_d1 h_S_) (broadcastInDim S3072 ![] bcast_S_S3072 (constant S_ .f32 0x3F0FF532#32)))))

theorem scaleForm_apply (a b d : FVec Ideal S3072 .f32) (i : S3072.Idx) : mulf a (addf b d) i = a i * (b i + d i) := rfl

theorem lossR_apply (n : IVec S1 32) (p q : FVec Ideal S3072x152064 .f32) (r : Fin 3072) (l : Fin 128) :
    lossR n p q (ix2 r l) = shareOf (n (ix1 (0 : Fin 1)))
      * ((∑ v : Fin 152064, termR (Ideal.ofBits .f32 0x00800000#32) (p (ix2 r v)) (q (ix2 r v))) + Ideal.ofBits .f32 0x3F0FF532#32) := by
  rw [lossR, lanes_apply, column_apply, scaleForm_apply, broadcastInDim_scalar_apply, broadcastInDim_scalar_apply, share_apply, rowSum_apply]
  refine congrArg (fun s => shareOf (n (ix1 (0 : Fin 1))) * (s + Ideal.ofBits .f32 0x3F0FF532#32)) (Finset.sum_congr rfl fun v _ => termsR_apply p q _)

/-- The reference's result, entry by entry. -/
theorem result_apply (m : (ℓ : Loc nD τ sig) → Buf (Elt Ideal) ℓ) (c : Dev nD) (r : Fin 3072) (l : Fin 128) :
    Cert.ReferenceLossIdeal.Value.res_out0 m c (ix2 r l) = shareOf (m ((c.tc : Thread nD τ).loc main_arg0) (ix1 (0 : Fin 1)))
      * ((∑ v : Fin 152064, termR (Ideal.ofBits .f32 0x00800000#32)
            (probAt 0x3E800000#32 (m ((c.tc : Thread nD τ).loc main_arg1)) (m ((c.tc : Thread nD τ).loc main_arg3)) r v)
            (probAt 0x3F400000#32 (m ((c.tc : Thread nD τ).loc main_arg2)) (m ((c.tc : Thread nD τ).loc main_arg4)) r v))
          + Ideal.ofBits .f32 0x3F0FF532#32) := by
  refine Eq.trans (b := lossR (m ((c.tc : Thread nD τ).loc main_arg0))
    (probR 0x3E800000#32 (m ((c.tc : Thread nD τ).loc main_arg1)) (m ((c.tc : Thread nD τ).loc main_arg3)))
    (probR 0x3F400000#32 (m ((c.tc : Thread nD τ).loc main_arg2)) (m ((c.tc : Thread nD τ).loc main_arg4))) (ix2 r l)) (by unfold Cert.ReferenceLossIdeal.Value.res_out0 Cert.ReferenceLossIdeal.Value.res_main_v40; rfl) ?_
  rw [lossR_apply]
  refine congrArg (fun s => shareOf (m ((c.tc : Thread nD τ).loc main_arg0) (ix1 (0 : Fin 1))) * (s + Ideal.ofBits .f32 0x3F0FF532#32))
    (Finset.sum_congr rfl fun v _ => ?_)
  rw [probR_apply, probR_apply]

end Cert.ReferenceLossIdeal.Agree

end
-- ==== Proof.LossAgree.lean ====
/-
  The gradient call and the reference agree on the loss: both are the same function of the arguments, row by row. The call's weights are
  powers of two with the distributions' shares inside the exponents; the reference's are the shares times exponentials.
-/
module

public import proofs.«01_k».proof.Defs
public import proofs.«01_k».proof.Proof.GradIdealFinal
public import proofs.«01_k».proof.Proof.LossRef
public import proofs.«01_k».proof.Proof.Gen.GradIdeal
public import proofs.«01_k».proof.Proof.Gen.ReferenceLossIdeal

@[expose] public section

set_option maxRecDepth 16384

noncomputable section

namespace Cert.LossAgree

open Idealize.ShloMosaic Idealize.ShloMosaic.TcCoe Idealize.ShloMosaic.ValueIdx
open Idealize.SL.Sem
open Cert.GradIdeal Cert.GradIdeal.Gen
open Cert.Loss (ln2 termR)
open Cert.ReferenceLossIdeal.Agree (probAt shareOf)
open scoped BigOperators

/-! ## The constants -/

theorem quarterE_eq : quarterE = ((-2 : ℝ) : EReal) := by
  unfold quarterE; simp [Ideal.ofBits, Ideal.ieee, -EReal.coe_mul]; try norm_num
theorem quarter_eq : Ideal.ofBits .f32 0x3E800000#32 = ((1 / 4 : ℝ) : EReal) := by
  simp [Ideal.ofBits, Ideal.ieee, -EReal.coe_mul]; try norm_num
theorem three_eq : Ideal.ofBits .f32 0x3F400000#32 = ((3 / 4 : ℝ) : EReal) := by
  simp [Ideal.ofBits, Ideal.ieee, -EReal.coe_mul]; try norm_num
theorem tiny_pos : 0 < tiny := by
  unfold tiny
  simp [Ideal.ofBits, Ideal.ieee, -EReal.coe_mul]

theorem pow_quarter : (2 : ℝ) ^ (-2 : ℝ) = 1 / 4 := by
  rw [Real.rpow_neg (by norm_num), Real.rpow_ofNat]; norm_num
theorem pow_three : (2 : ℝ) ^ (Real.log (3 / 4) / Real.log 2 : ℝ) = 3 / 4 := by
  rw [Real.rpow_def_of_pos (by norm_num), mul_div_cancel₀ _ (ne_of_gt Cert.Loss.log2_pos), Real.exp_log (by norm_num)]

/-- The weight of the teacher's distribution at a column. -/
theorem teacher_weight (z l : EReal) : Ideal.exp2 (z - (l - quarterE)) = Ideal.ofBits .f32 0x3E800000#32 * Ideal.exp ((z - l) * ln2) := by
  rw [quarterE_eq, quarter_eq, Cert.Loss.exp2_shift, pow_quarter]
/-- The weight of the student's distribution at a column. -/
theorem student_weight (z l : EReal) : Ideal.exp2 (z - (l - threeE)) = Ideal.ofBits .f32 0x3F400000#32 * Ideal.exp ((z - l) * ln2) := by
  unfold threeE
  rw [three_eq, Cert.Loss.exp2_shift, pow_three]

/-! ## The rows -/

/-- A weight at a column given by its number. -/
def probN (w : BitVec 32) (Z : Vec Ideal S297x3072x512 .f32) (y : FVec Ideal S3072 .f32) (r : Fin 3072) (v : ℕ) : EReal :=
  Ideal.ofBits .f32 w * Ideal.exp ((zG Z r.val v - y (ix1 r)) * ln2)

theorem probN_eq (w : BitVec 32) (Z : Vec Ideal S297x3072x512 .f32) (y : FVec Ideal S3072 .f32) (r : Fin 3072) (v : Fin 152064) :
    probN w Z y r v.val = probAt w Z y r v := by
  have hv := v.isLt
  have hr := r.isLt
  unfold probN probAt zG
  refine congrArg (fun z => Ideal.ofBits .f32 w * Ideal.exp ((z - y (ix1 r)) * ln2)) (congrArg Z (funext fun a => Fin.ext ?_))
  match a with
  | ⟨0, _⟩ => show v.val / 512 % 297 = v.val / 512; omega
  | ⟨1, _⟩ => show r.val % 3072 = r.val; omega
  | ⟨2, _⟩ => rfl

theorem lG_repeated (L : Vec Ideal S3072x128 .f32) (y : FVec Ideal S3072 .f32)
    (hL : L = broadcastInDim S3072x128 ![0, 1] bcast_S3072x1_S3072x128_0_1 (broadcastInDim S3072x1 ![0] bcast_S3072_S3072x1_0 y)) (r : Fin 3072) (v : ℕ) :
    lG L r.val v = y (ix1 r) := by
  have e : (⟨r.val % 3072, Nat.mod_lt _ (by decide)⟩ : Fin 3072) = r := Fin.ext (Nat.mod_eq_of_lt r.isLt)
  unfold lG
  rw [hL, repeated_apply, e]

/-- The lanes' sums of a row, joined, are the reference's sum over the columns. -/
theorem row_sum (Zt Zs : Vec Ideal S297x3072x512 .f32) (Lt Ls : Vec Ideal S3072x128 .f32) (yt ys : FVec Ideal S3072 .f32)
    (ht : Lt = broadcastInDim S3072x128 ![0, 1] bcast_S3072x1_S3072x128_0_1 (broadcastInDim S3072x1 ![0] bcast_S3072_S3072x1_0 yt))
    (hs : Ls = broadcastInDim S3072x128 ![0, 1] bcast_S3072x1_S3072x128_0_1 (broadcastInDim S3072x1 ![0] bcast_S3072_S3072x1_0 ys)) (r : Fin 3072) :
    (∑ l : Fin 128, Cert.Loss.runAcc (fun t k => termG Zt Zs Lt Ls r.val (t * 512 + k * 128 + l.val)) 297) * ln2
      = ∑ v : Fin 152064, termR (Ideal.ofBits .f32 0x00800000#32) (probAt 0x3E800000#32 Zt yt r v) (probAt 0x3F400000#32 Zs ys r v) := by
  refine (Cert.Loss.row_eq tiny tiny_pos (fun v => zG Zt r.val v - (lG Lt r.val v - quarterE)) (fun v => zG Zs r.val v - (lG Ls r.val v - threeE))
    (probN 0x3E800000#32 Zt yt r) (probN 0x3F400000#32 Zs ys r) 297
    (fun v => by rw [teacher_weight, lG_repeated Lt yt ht]; rfl) (fun v => by rw [student_weight, lG_repeated Ls ys hs]; rfl)).trans ?_
  show ∑ v : Fin 152064, _ = _
  exact Finset.sum_congr rfl fun v _ => congrArg₂ (termR tiny) (probN_eq _ Zt yt r v) (probN_eq _ Zs ys r v)

/-- The call's loss, entry by entry. -/
theorem lossAll_apply (m : (ℓ : Loc nD τ sig) → Buf (Elt Ideal) ℓ) (c : Dev nD) (r : Fin 3072) (l : Fin 128) :
    lossAll m c (ix2 r l) = shareOf (m ((c.tc : Thread nD τ).loc main_arg0) (ix1 (0 : Fin 1)))
      * ((∑ v : Fin 152064, termR (Ideal.ofBits .f32 0x00800000#32)
            (probAt 0x3E800000#32 (m ((c.tc : Thread nD τ).loc main_arg1)) (m ((c.tc : Thread nD τ).loc main_arg3)) r v)
            (probAt 0x3F400000#32 (m ((c.tc : Thread nD τ).loc main_arg2)) (m ((c.tc : Thread nD τ).loc main_arg4)) r v))
          + Ideal.ofBits .f32 0x3F0FF532#32) := by
  have e : r.val / 1024 * 1024 + r.val % 1024 = r.val := by omega
  have h := row_sum (V m c main_arg1) (V m c main_arg2) (V m c main_v1) (V m c main_v3) _ _ (V_main_v1 m c) (V_main_v3 m c) r
  rw [V_main_arg1, V_main_arg2] at h
  refine Eq.trans (b := k0_pay2 (F := Ideal) (V m c main_arg0 (ix1 (0 : Fin 1)))
    * ((∑ l : Fin 128, Cert.Loss.runAcc (fun t k => termV m c (r.val / 1024 * 1024 + r.val % 1024) (t * 512 + k * 128 + l.val)) 297) * ln2
      + Ideal.ofBits .f32 0x3F0FF532#32)) rfl ?_
  unfold termV
  rw [e, V_main_arg0, V_main_arg1, V_main_arg2, h]
  rfl

theorem algebraic : Cert.algebraic_GradIdeal_ReferenceLossIdeal (hGradIdeal := Cert.GradIdeal.Gen.facts) (hReferenceLossIdeal := Cert.ReferenceLossIdeal.Gen.facts) := by
  intro m g m' g' _ hm
  refine ⟨fun c => lossAll m c, run_results m g, ?_⟩
  refine (θ_run _ _ _).mono (fun r h c => ?_) (Cert.ReferenceLossIdeal.Value.run m' g')
  obtain ⟨e0, hk⟩ := h c
  obtain ⟨a0, a1, a2, a3, a4, -⟩ := hm c
  refine ⟨e0.trans ?_, hk⟩
  funext i
  obtain ⟨r, l, rfl⟩ : ∃ (r : Fin 3072) (l : Fin 128), i = ix2 r l := ⟨i 0, i 1, eq_ix2 i⟩
  refine (Cert.ReferenceLossIdeal.Agree.result_apply m' c r l).trans ?_
  rw [a0, a1, a2, a3, a4]
  exact (lossAll_apply m c r l).symm

end Cert.LossAgree

end
-- ==== Proof.lean ====
module

public import proofs.«01_k».proof.Defs
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.Grad.Loops
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradIdeal.Loops
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.ReferenceLossIdeal
public import proofs.«01_k».proof.Proof.Gen.ReferenceLossIdeal.Run
public import proofs.«01_k».proof.Proof.LogitsFrame
public import proofs.«01_k».proof.Proof.LogitsIdealFrame
public import proofs.«01_k».proof.Proof.GradFrame
public import proofs.«01_k».proof.Proof.GradIdealFrame
public import proofs.«01_k».proof.Proof.Agree
public import proofs.«01_k».proof.Proof.LossAgree
public import Idealize.ShloMosaic.Adequacy
public import Idealize.ShloMosaic.Init
public import Idealize.ShloMosaic.Lib.Quiescent

@[expose] public section

noncomputable section

namespace Cert.Proof

open Idealize.ShloMosaic Idealize.SL.Sem Cert.Logits

/-- The frames are those of the calls whatever their buffers hold; each named constant rounds to the word the program has; the
    results of the ideal call and of the reference are equal. -/
theorem claim : Cert.Claim :=
  ⟨Cert.Logits.Gen.facts, Cert.LogitsIdeal.Gen.facts, Cert.ReferenceIdeal.Gen.facts, Cert.Grad.Gen.facts, Cert.GradIdeal.Gen.facts, Cert.ReferenceLossIdeal.Gen.facts,
    fun m ρ _ => Cert.Logits.Gen.frame_any m ρ,
    fun m ρ _ => Cert.LogitsIdeal.Gen.frame_any m ρ,
    fun m ρ _ => Cert.ReferenceIdeal.Gen.frame m ρ,
    fun m ρ _ => Cert.Grad.Gen.frame_any m ρ,
    fun m ρ _ => Cert.GradIdeal.Gen.frame_any m ρ,
    fun m ρ _ => (θ_run Cert.ReferenceLossIdeal.defs _ _).mono
      (fun r h => ⟨fun c => (h c).2, sem_eq_zero_of_no_sems (by decide) r.2⟩) (Cert.ReferenceLossIdeal.Value.run (F := Ideal) m ρ),
    ⟨IdealRules.named_const.statement Cert.LogitsIdeal.κ "minus_inf" .f32 0xF149F2CA#32 ⊥ rfl,
    IdealRules.named_const.statement Cert.LogitsIdeal.κ "half_log2e" .f32 0x3F38AA3B#32 ((((Real.log 2) * 2)⁻¹ : ℝ) : EReal) rfl,
    IdealRules.named_const.statement Cert.LogitsIdeal.κ "log2e" .f32 0x3FB8AA3B#32 (((Real.log 2)⁻¹ : ℝ) : EReal) rfl⟩,
    Cert.Agree.algebraic,
    ⟨IdealRules.named_const.statement Cert.GradIdeal.κ "log2_three_quarters" .f32 0xBED47FCC#32 (((Real.log (3 / 4)) * (Real.log 2)⁻¹ : ℝ) : EReal) rfl,
    IdealRules.named_const.statement Cert.GradIdeal.κ "log2e" .f32 0x3FB8AA3B#32 (((Real.log 2)⁻¹ : ℝ) : EReal) rfl,
    IdealRules.named_const.statement Cert.GradIdeal.κ "ln2" .f32 0x3F317218#32 ((Real.log 2 : ℝ) : EReal) rfl⟩,
    Cert.LossAgree.algebraic⟩

end Cert.Proof

end
